-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v15)) (v5 : (c : Dev Cert.KernelIdeal.nD) → Buf (Elt Ideal) ((c.tc : Thread Cert.KernelIdeal.nD Cert.KernelIdeal.τ).loc Cert.KernelIdeal.main_v16)) (v6 : (c : Dev Cert.KernelIdeal.nD) → Buf (Elt Ideal) ((c.tc : Thread Cert.KernelIdeal.nD Cert.KernelIdeal.τ).loc Cert.KernelIdeal.main_v17)) (v7 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v15) = v4 c
          ∧ r.2.mem ((c.tc : Thread Cert.KernelIdeal.nD Cert.KernelIdeal.τ).loc Cert.KernelIdeal.main_v16) = v5 c
          ∧ r.2.mem ((c.tc : Thread Cert.KernelIdeal.nD Cert.KernelIdeal.τ).loc Cert.KernelIdeal.main_v17) = v6 c
          ∧ r.2.mem ((c.tc : Thread Cert.KernelIdeal.nD Cert.KernelIdeal.τ).loc Cert.KernelIdeal.main_v18) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x8192 : Shape := ⟨3, ![8, 2048, 8192]⟩
abbrev S8192 : Shape := ⟨1, ![8192]⟩
abbrev S8192x1152 : Shape := ⟨2, ![8192, 1152]⟩
abbrev S1152 : Shape := ⟨1, ![1152]⟩
abbrev S16384x8192 : Shape := ⟨2, ![16384, 8192]⟩
abbrev S1x8192 : Shape := ⟨2, ![1, 8192]⟩
abbrev S1152x8192 : Shape := ⟨2, ![1152, 8192]⟩
abbrev S1152x1 : Shape := ⟨2, ![1152, 1]⟩
abbrev S16384x1 : Shape := ⟨2, ![16384, 1]⟩
abbrev S1152x16384 : Shape := ⟨2, ![1152, 16384]⟩
abbrev S18x128 : Shape := ⟨2, ![18, 128]⟩
abbrev S256x8192 : Shape := ⟨2, ![256, 8192]⟩
abbrev S256x1 : Shape := ⟨2, ![256, 1]⟩
abbrev S1152x256 : Shape := ⟨2, ![1152, 256]⟩
abbrev S32x8192 : Shape := ⟨2, ![32, 8192]⟩
abbrev S32x128 : Shape := ⟨2, ![32, 128]⟩
abbrev S1x128 : Shape := ⟨2, ![1, 128]⟩
abbrev S32 : Shape := ⟨1, ![32]⟩
abbrev S32x1 : Shape := ⟨2, ![32, 1]⟩
abbrev S1x256 : Shape := ⟨2, ![1, 256]⟩
abbrev S18x64x256 : Shape := ⟨3, ![18, 64, 256]⟩
abbrev S18x256 : Shape := ⟨2, ![18, 256]⟩
abbrev S18 : Shape := ⟨1, ![18]⟩
abbrev S18x1 : Shape := ⟨2, ![18, 1]⟩
abbrev S8x1152x2048 : Shape := ⟨3, ![8, 1152, 2048]⟩
abbrev S18x1x128 : Shape := ⟨3, ![18, 1, 128]⟩
abbrev S64x2048 : Shape := ⟨2, ![64, 2048]⟩
abbrev S1x64x2048 : Shape := ⟨3, ![1, 64, 2048]⟩
abbrev S1x1x128 : Shape := ⟨3, ![1, 1, 128]⟩
abbrev S1x1 : Shape := ⟨2, ![1, 1]⟩
abbrev S1x1x1 : Shape := ⟨3, ![1, 1, 1]⟩
abbrev S18x1x1 : Shape := ⟨3, ![18, 1, 1]⟩
abbrev S8x18x64x2048 : Shape := ⟨4, ![8, 18, 64, 2048]⟩
abbrev S8x2048x18x64 : Shape := ⟨4, ![8, 2048, 18, 64]⟩
abbrev S8x2048x16x64 : Shape := ⟨4, ![8, 2048, 16, 64]⟩
abbrev S16 : Shape := ⟨1, ![16]⟩
abbrev S8x2048x1x64 : Shape := ⟨4, ![8, 2048, 1, 64]⟩
abbrev S1 : Shape := ⟨1, ![1]⟩
abbrev S8x2048 : Shape := ⟨2, ![8, 2048]⟩

abbrev nBuf : Space → Nat
  | .hbm => 27
  | .vmem => 20
  | .smem => 0
  | _ => 0

abbrev bufTy : (tb : Table) → Fin (tcTables nBuf tb) → BufTy
  | .hbm, ⟨0, _⟩ => ⟨S8x2048x8192, .bf16⟩
  | .hbm, ⟨1, _⟩ => ⟨S8192, .bf16⟩
  | .hbm, ⟨2, _⟩ => ⟨S8192x1152, .fp8e4m3⟩
  | .hbm, ⟨3, _⟩ => ⟨S1152, .f32⟩
  | .hbm, ⟨4, _⟩ => ⟨S16384x8192, .bf16⟩
  | .hbm, ⟨5, _⟩ => ⟨S8192, .f32⟩
  | .hbm, ⟨6, _⟩ => ⟨S1x8192, .f32⟩
  | .hbm, ⟨7, _⟩ => ⟨S1152x8192, .fp8e4m3⟩
  | .hbm, ⟨8, _⟩ => ⟨S1152x1, .f32⟩
  | .hbm, ⟨9, _⟩ => ⟨S16384x8192, .fp8e4m3⟩
  | .hbm, ⟨10, _⟩ => ⟨S16384x1, .f32⟩
  | .hbm, ⟨11, _⟩ => ⟨S1152x16384, .f32⟩
  | .hbm, ⟨12, _⟩ => ⟨S18x128, .f32⟩
  | .hbm, ⟨13, _⟩ => ⟨S8x1152x2048, .fp8e4m3⟩
  | .hbm, ⟨14, _⟩ => ⟨S18x1x128, .f32⟩
  | .hbm, ⟨15, _⟩ => ⟨S18x1x1, .f32⟩
  | .hbm, ⟨16, _⟩ => ⟨S18, .f32⟩
  | .hbm, ⟨17, _⟩ => ⟨S8x18x64x2048, .fp8e4m3⟩
  | .hbm, ⟨18, _⟩ => ⟨S8x2048x18x64, .fp8e4m3⟩
  | .hbm, ⟨19, _⟩ => ⟨S8x2048x16x64, .fp8e4m3⟩
  | .hbm, ⟨20, _⟩ => ⟨S16, .f32⟩
  | .hbm, ⟨21, _⟩ => ⟨S8x2048x1x64, .fp8e4m3⟩
  | .hbm, ⟨22, _⟩ => ⟨S1, .f32⟩
  | .hbm, ⟨23, _⟩ => ⟨S8x2048x1x64, .fp8e4m3⟩
  | .hbm, ⟨24, _⟩ => ⟨S1, .f32⟩
  | .hbm, ⟨25, _⟩ => ⟨S8x2048x8192, .fp8e4m3⟩
  | .hbm, ⟨26, _⟩ => ⟨S8x2048, .f32⟩
  | .local _ .vmem, ⟨0, _⟩ => ⟨S256x8192, .bf16⟩
  | .local _ .vmem, ⟨1, _⟩ => ⟨S256x8192, .bf16⟩
  | .local _ .vmem, ⟨2, _⟩ => ⟨S1x8192, .f32⟩
  | .local _ .vmem, ⟨3, _⟩ => ⟨S1152x8192, .fp8e4m3⟩
  | .local _ .vmem, ⟨4, _⟩ => ⟨S1152x1, .f32⟩
  | .local _ .vmem, ⟨5, _⟩ => ⟨S256x8192, .fp8e4m3⟩
  | .local _ .vmem, ⟨6, _⟩ => ⟨S256x8192, .fp8e4m3⟩
  | .local _ .vmem, ⟨7, _⟩ => ⟨S256x1, .f32⟩
  | .local _ .vmem, ⟨8, _⟩ => ⟨S256x1, .f32⟩
  | .local _ .vmem, ⟨9, _⟩ => ⟨S1152x256, .f32⟩
  | .local _ .vmem, ⟨10, _⟩ => ⟨S1152x256, .f32⟩
  | .local _ .vmem, ⟨11, _⟩ => ⟨S18x128, .f32⟩
  | .local _ .vmem, ⟨12, _⟩ => ⟨S32x8192, .f32⟩
  | .local _ .vmem, ⟨13, _⟩ => ⟨S64x2048, .f32⟩
  | .local _ .vmem, ⟨14, _⟩ => ⟨S64x2048, .f32⟩
  | .local _ .vmem, ⟨15, _⟩ => ⟨S18x128, .f32⟩
  | .local _ .vmem, ⟨16, _⟩ => ⟨S1x64x2048, .fp8e4m3⟩
  | .local _ .vmem, ⟨17, _⟩ => ⟨S1x64x2048, .fp8e4m3⟩
  | .local _ .vmem, ⟨18, _⟩ => ⟨S1x1x128, .f32⟩
  | .local _ .vmem, ⟨19, _⟩ => ⟨S1x1x128, .f32⟩
  | _, _ => ⟨S8x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  v30
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v34 : Index := Scalar.indexCast v31
  let c0_20 : Index := 0#32
  ![v34.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v49 : Index := Scalar.indexCast v31
  let c128 : Index := 128#32
  ![v49.toNat, 128]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v64 : Index := Scalar.indexCast v31
  let c256 : Index := 256#32
  ![v64.toNat, 256]
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v79 : Index := Scalar.indexCast v31
  let c384 : Index := 384#32
  ![v79.toNat, 384]
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v94 : Index := Scalar.indexCast v31
  let c512 : Index := 512#32
  ![v94.toNat, 512]
def k0_off6 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v109 : Index := Scalar.indexCast v31
  let c640 : Index := 640#32
  ![v109.toNat, 640]
def k0_off7 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v124 : Index := Scalar.indexCast v31
  let c768 : Index := 768#32
  ![v124.toNat, 768]
def k0_off8 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v139 : Index := Scalar.indexCast v31
  let c896 : Index := 896#32
  ![v139.toNat, 896]
def k0_off9 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v154 : Index := Scalar.indexCast v31
  let c1024 : Index := 1024#32
  ![v154.toNat, 1024]
def k0_off10 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v169 : Index := Scalar.indexCast v31
  let c1152 : Index := 1152#32
  ![v169.toNat, 1152]
def k0_off11 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v184 : Index := Scalar.indexCast v31
  let c1280 : Index := 1280#32
  ![v184.toNat, 1280]
def k0_off12 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v199 : Index := Scalar.indexCast v31
  let c1408 : Index := 1408#32
  ![v199.toNat, 1408]
def k0_off13 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v214 : Index := Scalar.indexCast v31
  let c1536 : Index := 1536#32
  ![v214.toNat, 1536]
def k0_off14 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v229 : Index := Scalar.indexCast v31
  let c1664 : Index := 1664#32
  ![v229.toNat, 1664]
def k0_off15 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v244 : Index := Scalar.indexCast v31
  let c1792 : Index := 1792#32
  ![v244.toNat, 1792]
def k0_off16 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v259 : Index := Scalar.indexCast v31
  let c1920 : Index := 1920#32
  ![v259.toNat, 1920]
def k0_off17 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v274 : Index := Scalar.indexCast v31
  let c2048 : Index := 2048#32
  ![v274.toNat, 2048]
def k0_off18 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v289 : Index := Scalar.indexCast v31
  let c2176 : Index := 2176#32
  ![v289.toNat, 2176]
def k0_off19 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v304 : Index := Scalar.indexCast v31
  let c2304 : Index := 2304#32
  ![v304.toNat, 2304]
def k0_off20 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v319 : Index := Scalar.indexCast v31
  let c2432 : Index := 2432#32
  ![v319.toNat, 2432]
def k0_off21 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v334 : Index := Scalar.indexCast v31
  let c2560 : Index := 2560#32
  ![v334.toNat, 2560]
def k0_off22 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v349 : Index := Scalar.indexCast v31
  let c2688 : Index := 2688#32
  ![v349.toNat, 2688]
def k0_off23 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v364 : Index := Scalar.indexCast v31
  let c2816 : Index := 2816#32
  ![v364.toNat, 2816]
def k0_off24 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v379 : Index := Scalar.indexCast v31
  let c2944 : Index := 2944#32
  ![v379.toNat, 2944]
def k0_off25 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v394 : Index := Scalar.indexCast v31
  let c3072 : Index := 3072#32
  ![v394.toNat, 3072]
def k0_off26 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v409 : Index := Scalar.indexCast v31
  let c3200 : Index := 3200#32
  ![v409.toNat, 3200]
def k0_off27 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v424 : Index := Scalar.indexCast v31
  let c3328 : Index := 3328#32
  ![v424.toNat, 3328]
def k0_off28 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v439 : Index := Scalar.indexCast v31
  let c3456 : Index := 3456#32
  ![v439.toNat, 3456]
def k0_off29 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v454 : Index := Scalar.indexCast v31
  let c3584 : Index := 3584#32
  ![v454.toNat, 3584]
def k0_off30 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v469 : Index := Scalar.indexCast v31
  let c3712 : Index := 3712#32
  ![v469.toNat, 3712]
def k0_off31 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v484 : Index := Scalar.indexCast v31
  let c3840 : Index := 3840#32
  ![v484.toNat, 3840]
def k0_off32 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v499 : Index := Scalar.indexCast v31
  let c3968 : Index := 3968#32
  ![v499.toNat, 3968]
def k0_off33 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v514 : Index := Scalar.indexCast v31
  let c4096 : Index := 4096#32
  ![v514.toNat, 4096]
def k0_off34 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v529 : Index := Scalar.indexCast v31
  let c4224 : Index := 4224#32
  ![v529.toNat, 4224]
def k0_off35 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v544 : Index := Scalar.indexCast v31
  let c4352 : Index := 4352#32
  ![v544.toNat, 4352]
def k0_off36 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v559 : Index := Scalar.indexCast v31
  let c4480 : Index := 4480#32
  ![v559.toNat, 4480]
def k0_off37 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v574 : Index := Scalar.indexCast v31
  let c4608 : Index := 4608#32
  ![v574.toNat, 4608]
def k0_off38 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v589 : Index := Scalar.indexCast v31
  let c4736 : Index := 4736#32
  ![v589.toNat, 4736]
def k0_off39 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v604 : Index := Scalar.indexCast v31
  let c4864 : Index := 4864#32
  ![v604.toNat, 4864]
def k0_off40 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v619 : Index := Scalar.indexCast v31
  let c4992 : Index := 4992#32
  ![v619.toNat, 4992]
def k0_off41 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v634 : Index := Scalar.indexCast v31
  let c5120 : Index := 5120#32
  ![v634.toNat, 5120]
def k0_off42 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v649 : Index := Scalar.indexCast v31
  let c5248 : Index := 5248#32
  ![v649.toNat, 5248]
def k0_off43 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v664 : Index := Scalar.indexCast v31
  let c5376 : Index := 5376#32
  ![v664.toNat, 5376]
def k0_off44 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v679 : Index := Scalar.indexCast v31
  let c5504 : Index := 5504#32
  ![v679.toNat, 5504]
def k0_off45 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v694 : Index := Scalar.indexCast v31
  let c5632 : Index := 5632#32
  ![v694.toNat, 5632]
def k0_off46 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v709 : Index := Scalar.indexCast v31
  let c5760 : Index := 5760#32
  ![v709.toNat, 5760]
def k0_off47 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v724 : Index := Scalar.indexCast v31
  let c5888 : Index := 5888#32
  ![v724.toNat, 5888]
def k0_off48 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v739 : Index := Scalar.indexCast v31
  let c6016 : Index := 6016#32
  ![v739.toNat, 6016]
def k0_off49 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v754 : Index := Scalar.indexCast v31
  let c6144 : Index := 6144#32
  ![v754.toNat, 6144]
def k0_off50 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v769 : Index := Scalar.indexCast v31
  let c6272 : Index := 6272#32
  ![v769.toNat, 6272]
def k0_off51 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v784 : Index := Scalar.indexCast v31
  let c6400 : Index := 6400#32
  ![v784.toNat, 6400]
def k0_off52 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v799 : Index := Scalar.indexCast v31
  let c6528 : Index := 6528#32
  ![v799.toNat, 6528]
def k0_off53 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v814 : Index := Scalar.indexCast v31
  let c6656 : Index := 6656#32
  ![v814.toNat, 6656]
def k0_off54 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v829 : Index := Scalar.indexCast v31
  let c6784 : Index := 6784#32
  ![v829.toNat, 6784]
def k0_off55 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v844 : Index := Scalar.indexCast v31
  let c6912 : Index := 6912#32
  ![v844.toNat, 6912]
def k0_off56 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v859 : Index := Scalar.indexCast v31
  let c7040 : Index := 7040#32
  ![v859.toNat, 7040]
def k0_off57 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v874 : Index := Scalar.indexCast v31
  let c7168 : Index := 7168#32
  ![v874.toNat, 7168]
def k0_off58 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v889 : Index := Scalar.indexCast v31
  let c7296 : Index := 7296#32
  ![v889.toNat, 7296]
def k0_off59 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v904 : Index := Scalar.indexCast v31
  let c7424 : Index := 7424#32
  ![v904.toNat, 7424]
def k0_off60 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v919 : Index := Scalar.indexCast v31
  let c7552 : Index := 7552#32
  ![v919.toNat, 7552]
def k0_off61 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v934 : Index := Scalar.indexCast v31
  let c7680 : Index := 7680#32
  ![v934.toNat, 7680]
def k0_off62 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v949 : Index := Scalar.indexCast v31
  let c7808 : Index := 7808#32
  ![v949.toNat, 7808]
def k0_off63 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v964 : Index := Scalar.indexCast v31
  let c7936 : Index := 7936#32
  ![v964.toNat, 7936]
def k0_off64 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v979 : Index := Scalar.indexCast v31
  let c8064 : Index := 8064#32
  ![v979.toNat, 8064]
def k0_off65 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v30 : BitVec 32 := Scalar.muli arg10 c32_i32
  let v31 : BitVec 32 := v30
  let v1643 : Index := Scalar.indexCast v31
  let c0_607 : Index := 0#32
  ![v1643.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1152x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1152x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1152x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S18x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![18, 8], ![false, false]⟩

def k1_off1 (i : grid1.Coords) : Fin 2 → Nat :=
  let arg0 : BitVec 32 := BitVec.ofNat 32 (i 0).val
  let v0 : Index := Scalar.indexCast arg0
  let c0 : Index := 0#32
  ![v0.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S18x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x64x2048 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]
-- ==== ReferenceIdeal.lean ====
abbrev S8x2048x8192 : Shape := ⟨3, ![8, 2048, 8192]⟩
abbrev S8192 : Shape := ⟨1, ![8192]⟩
abbrev S8192x1152 : Shape := ⟨2, ![8192, 1152]⟩
abbrev S1152 : Shape := ⟨1, ![1152]⟩
abbrev S8x2048x16x64 : Shape := ⟨4, ![8, 2048, 16, 64]⟩
abbrev S16 : Shape := ⟨1, ![16]⟩
abbrev S8x2048x1x64 : Shape := ⟨4, ![8, 2048, 1, 64]⟩
abbrev S1 : Shape := ⟨1, ![1]⟩
abbrev S8x2048 : Shape := ⟨2, ![8, 2048]⟩
abbrev S8x2048x1 : Shape := ⟨3, ![8, 2048, 1]⟩
abbrev S1x1x8192 : Shape := ⟨3, ![1, 1, 8192]⟩
abbrev S8x2048x1x254 : Shape := ⟨4, ![8, 2048, 1, 254]⟩
abbrev S8x2048x1x1 : Shape := ⟨4, ![8, 2048, 1, 1]⟩
abbrev S16384x8192 : Shape := ⟨2, ![16384, 8192]⟩
abbrev S16384x1152 : Shape := ⟨2, ![16384, 1152]⟩
abbrev S8x2048x1152 : Shape := ⟨3, ![8, 2048, 1152]⟩
abbrev S1x1x1152 : Shape := ⟨3, ![1, 1, 1152]⟩
abbrev S8x2048x1024 : Shape := ⟨3, ![8, 2048, 1024]⟩
abbrev S8x2048x64 : Shape := ⟨3, ![8, 2048, 64]⟩
abbrev S1x1x16x1 : Shape := ⟨4, ![1, 1, 16, 1]⟩
abbrev S1x1x16x1x254 : Shape := ⟨5, ![1, 1, 16, 1, 254]⟩
abbrev S1x1x16x1x1 : Shape := ⟨5, ![1, 1, 16, 1, 1]⟩
abbrev S1x1x1x1 : Shape := ⟨4, ![1, 1, 1, 1]⟩
abbrev S1x1x1x1x254 : Shape := ⟨5, ![1, 1, 1, 1, 254]⟩
abbrev S1x1x1x1x1 : Shape := ⟨5, ![1, 1, 1, 1, 1]⟩

abbrev nBuf : Space → Nat
  | .hbm => 12
  | .vmem => 12
  | .smem => 0
  | _ => 0

abbrev bufTy : (tb : Table) → Fin (tcTables nBuf tb) → BufTy
  | .hbm, ⟨0, _⟩ => ⟨S8x2048x8192, .bf16⟩
  | .hbm, ⟨1, _⟩ => ⟨S8192, .bf16⟩
  | .hbm, ⟨2, _⟩ => ⟨S8192x1152, .fp8e4m3⟩
  | .hbm, ⟨3, _⟩ => ⟨S1152, .f32⟩
  | .hbm, ⟨4, _⟩ => ⟨S8x2048x16x64, .fp8e4m3⟩
  | .hbm, ⟨5, _⟩ => ⟨S16, .f32⟩
  | .hbm, ⟨6, _⟩ => ⟨S8x2048x1x64, .fp8e4m3⟩
  | .hbm, ⟨7, _⟩ => ⟨S1, .f32⟩
  | .hbm, ⟨8, _⟩ => ⟨S8x2048x1x64, .fp8e4m3⟩
  | .hbm, ⟨9, _⟩ => ⟨S1, .f32⟩
  | .hbm, ⟨10, _⟩ => ⟨S8x2048x8192, .fp8e4m3⟩
  | .hbm, ⟨11, _⟩ => ⟨S8x2048, .f32⟩
  | .local _ .vmem, ⟨0, _⟩ => ⟨S8x2048x8192, .bf16⟩
  | .local _ .vmem, ⟨1, _⟩ => ⟨S8192, .bf16⟩
  | .local _ .vmem, ⟨2, _⟩ => ⟨S8192x1152, .fp8e4m3⟩
  | .local _ .vmem, ⟨3, _⟩ => ⟨S1152, .f32⟩
  | .local _ .vmem, ⟨4, _⟩ => ⟨S8x2048x16x64, .fp8e4m3⟩
  | .local _ .vmem, ⟨5, _⟩ => ⟨S16, .f32⟩
  | .local _ .vmem, ⟨6, _⟩ => ⟨S8x2048x1x64, .fp8e4m3⟩
  | .local _ .vmem, ⟨7, _⟩ => ⟨S1, .f32⟩
  | .local _ .vmem, ⟨8, _⟩ => ⟨S8x2048x1x64, .fp8e4m3⟩
  | .local _ .vmem, ⟨9, _⟩ => ⟨S1, .f32⟩
  | .local _ .vmem, ⟨10, _⟩ => ⟨S8x2048x8192, .fp8e4m3⟩
  | .local _ .vmem, ⟨11, _⟩ => ⟨S8x2048, .f32⟩
  | _, _ => ⟨S8x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8x2048x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x16x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x1x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x2048x1x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x2048x8192 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KB.Loops.lean ====
/- The counted loop of the first call of `Kernel`: one trip run symbolically, and the invariant that the pieces of the
   trips before `k` have been written. A trip reads back the scratch slab only after it has stored it, so that the pieces do
   not depend on what the written buffers held before. -/
module

public import proofs.«01_k».proof.Proof.Gen.Kernel.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_proj` -/

/-- The class of invariants of `cc0_proj`'s counted loop `k0_t1_loop` (`scf.for %arg10 = %c0_i32 to
   %0 step %c1_i32 : i32 {`), trip `k0_t1`, carrying `Unit`, region `k0_t1_body`. Kind:
   AFFINE — every store at a `Rect.unit` whose offsets are a stated closed form of the trips,
   nothing carried, no transfer or conditional inside: the invariant is the pieces of the trips
   before `k`. The region loads back what it stores into `arg9`,
   each load's value unused (a slab read before a store into it): the pieces do not depend on what
   the memref held. One trip calls the parts `k0_part1`, `k0_part2`, `k0_part3`, `k0_part4`,
   `k0_part5`, `k0_part6`, `k0_part7`, `k0_part8`, `k0_part9`, `k0_part10`, `k0_part11`,
   `k0_part12`, `k0_part13`, `k0_part14`, `k0_part15`, `k0_part16`, `k0_part17`, `k0_part18`,
   `k0_part19`, `k0_part20`, `k0_part21`, `k0_part22`, `k0_part23`, `k0_part24`, `k0_part25`,
   `k0_part26`, `k0_part27`, `k0_part28`, `k0_part29`, `k0_part30`, `k0_part31`, `k0_part32`,
   `k0_part33`, `k0_part34`, `k0_part35`, `k0_part36`, `k0_part37`, `k0_part38`, `k0_part39`,
   `k0_part40`. Per trip it STORES through arg9 at ![0, 0]; arg9 at ![0, 128]; arg9 at ![0, 256];
   arg9 at ![0, 384]; arg9 at ![0, 512]; arg9 at ![0, 640]; arg9 at ![0, 768]; arg9 at ![0, 896];
   arg9 at ![0, 1024]; arg9 at ![0, 1152]; arg9 at ![0, 1280]; arg9 at ![0, 1408]; and 117 more. It
   LOADS through arg1 at (k0_off1 k0_t1); arg2 at ![0, 0]; arg9 at ![0, 0]; arg1 at (k0_off2 k0_t1);
   arg2 at ![0, 128]; arg9 at ![0, 128]; arg1 at (k0_off3 k0_t1); arg2 at ![0, 256]; arg9 at ![0,
   256]; arg1 at (k0_off4 k0_t1); arg2 at ![0, 384]; arg9 at ![0, 384]; and more. Below:
   `loopInv_k0_t1` (`@[sl_loop]`), at the frame kit's algebra — a run at that algebra (the
   generated frame's, or a hand proof's over `MT nD τ sig Unit (Elt F) ℕ (UR sig nD τ) ℕ`) goes
   through the loop with nothing more to state; a proof at another algebra instances the class
   itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9)

/-! ### `k0_t1_loop`: its invariant -/

/-- One trip's resources: what the region reads (arg1, arg2) at its contents, what it writes (arg5,
   arg6, arg9) at any. -/
abbrev Trip_k0_t1 (c : Dev nD) (arg1 : Memref sig .tc .vmem S256x8192 .bf16) (arg2 : Memref sig .tc .vmem S1x8192 .f32) (arg5 : Memref sig .tc .vmem S256x8192 .fp8e4m3) (arg6 : Memref sig .tc .vmem S256x1 .f32) (arg9 : Memref sig .tc .vmem S32x8192 .f32) (X_arg1 : BufTy.Contents (Elt F) arg1.view.ty) (X_arg2 : BufTy.Contents (Elt F) arg2.view.ty) (f_arg5 : BufTy.Contents (Elt F) arg5.view.ty) (f_arg6 : BufTy.Contents (Elt F) arg6.view.ty) (f_arg9 : BufTy.Contents (Elt F) arg9.view.ty) : sProp 𝕄G :=
  iprop((arg1.view.loc (c : Thread nD τ) ↦[arg1.view.set]{fullShare} X_arg1) ∗ (arg2.view.loc (c : Thread nD τ) ↦[arg2.view.set]{fullShare} X_arg2) ∗ (arg5.view.loc (c : Thread nD τ) ↦[arg5.view.set]{fullShare} f_arg5) ∗ (arg6.view.loc (c : Thread nD τ) ↦[arg6.view.set]{fullShare} f_arg6) ∗ (arg9.view.loc (c : Thread nD τ) ↦[arg9.view.set]{fullShare} f_arg9))

/-- ONE TRIP of `k0_t1_loop` at a symbolic `k`, run by `sl_exec` (its rectangles' offsets closed
   forms of `k`, their geometry linear arithmetic): the pieces it writes into arg5, arg6, arg9 are
   the run's own finds — the witnesses `sl_close` assigns handing the buffers to the continuation.
   `@[irreducible]`: cited, never unfolded. -/
@[irreducible] def trip_k0_t1 (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (k : Fin k0_t1_loop.trips) :
    Σ' (L_arg5 : List (View.Piece (Elt F) S256x8192 .fp8e4m3)) (L_arg6 : List (View.Piece (Elt F) S256x1 .f32)) , { L_arg9 : List (View.Piece (Elt F) S32x8192 .f32) // ∀ (E : Set ℕ) (f_arg5 : BufTy.Contents (Elt F) arg5.view.ty) (f_arg6 : BufTy.Contents (Elt F) arg6.view.ty) (f_arg9 : BufTy.Contents (Elt F) arg9.view.ty),
      Trip_k0_t1 (F := F) c arg1 arg2 arg5 arg6 arg9 X_arg1 X_arg2 f_arg5 f_arg6 f_arg9
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 k PUnit.unit)
          (fun _ => Trip_k0_t1 (F := F) c arg1 arg2 arg5 arg6 arg9 X_arg1 X_arg2 (arg5.view.writes (Elt F) f_arg5 L_arg5) (arg6.view.writes (Elt F) f_arg6 L_arg6) (arg9.view.writes (Elt F) f_arg9 L_arg9)) } := by
  have hk : k.val < 8 := Nat.lt_of_lt_of_le k.isLt k0_t1_abs.2.1
  refine ⟨?_, ?_, ?_, fun E f_arg5 f_arg6 f_arg9 => ?run⟩
  case run =>
    unfold k0_t1_body
    iintro ⟨HR_arg1, HR_arg2, HW_arg5, HW_arg6, HW_arg9⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (k : Fin k0_t1_loop.trips) : List (View.Piece (Elt F) S256x8192 .fp8e4m3) × List (View.Piece (Elt F) S256x1 .f32) × List (View.Piece (Elt F) S32x8192 .f32) :=
  ((trip_k0_t1 (F := F) 𝒱 c bd i arg1 harg1 arg2 harg2 arg3 harg3 arg4 harg4 arg5 harg5 arg6 harg6 arg7 harg7 arg8 harg8 arg9 harg9 X_arg1 X_arg2 k).1, (trip_k0_t1 (F := F) 𝒱 c bd i arg1 harg1 arg2 harg2 arg3 harg3 arg4 harg4 arg5 harg5 arg6 harg6 arg7 harg7 arg8 harg8 arg9 harg9 X_arg1 X_arg2 k).2.1, (trip_k0_t1 (F := F) 𝒱 c bd i arg1 harg1 arg2 harg2 arg3 harg3 arg4 harg4 arg5 harg5 arg6 harg6 arg7 harg7 arg8 harg8 arg9 harg9 X_arg1 X_arg2 k).2.2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (k : ℕ) (prev : List (View.Piece (Elt F) S256x8192 .fp8e4m3) × List (View.Piece (Elt F) S256x1 .f32) × List (View.Piece (Elt F) S32x8192 .f32)) : List (View.Piece (Elt F) S256x8192 .fp8e4m3) × List (View.Piece (Elt F) S256x1 .f32) × List (View.Piece (Elt F) S32x8192 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 X_arg1 X_arg2 ⟨k, h⟩).1 ++ prev.1, (tripL_k0_t1 (F := F) 𝒱 c bd i arg1 harg1 arg2 harg2 arg3 harg3 arg4 harg4 arg5 harg5 arg6 harg6 arg7 harg7 arg8 harg8 arg9 harg9 X_arg1 X_arg2 ⟨k, h⟩).2.1 ++ prev.2.1, (tripL_k0_t1 (F := F) 𝒱 c bd i arg1 harg1 arg2 harg2 arg3 harg3 arg4 harg4 arg5 harg5 arg6 harg6 arg7 harg7 arg8 harg8 arg9 harg9 X_arg1 X_arg2 ⟨k, h⟩).2.2 ++ prev.2.2)
  else prev

/-- The pieces of the trips before `k` (last first), per written memref. -/
def pb_k0_t1 (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) : ℕ → List (View.Piece (Elt F) S256x8192 .fp8e4m3) × List (View.Piece (Elt F) S256x1 .f32) × List (View.Piece (Elt F) S32x8192 .f32)
  | 0 => ([], [], [])
  | k + 1 => pb_k0_t1Step 𝒱 c bd i arg1 harg1 arg2 harg2 arg3 harg3 arg4 harg4 arg5 harg5 arg6 harg6 arg7 harg7 arg8 harg8 arg9 harg9 X_arg1 X_arg2 k (pb_k0_t1 𝒱 c bd i arg1 harg1 arg2 harg2 arg3 harg3 arg4 harg4 arg5 harg5 arg6 harg6 arg7 harg7 arg8 harg8 arg9 harg9 X_arg1 X_arg2 k)

/-- What the row loop has written after one more trip: that trip's pieces before those of the earlier trips. -/
theorem pb_k0_t1_succ (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (k : Fin k0_t1_loop.trips) :
    pb_k0_t1 (F := F) 𝒱 c bd i arg1 harg1 arg2 harg2 arg3 harg3 arg4 harg4 arg5 harg5 arg6 harg6 arg7 harg7 arg8 harg8 arg9 harg9 X_arg1 X_arg2 (k.val + 1)
      = ((tripL_k0_t1 (F := F) 𝒱 c bd i arg1 harg1 arg2 harg2 arg3 harg3 arg4 harg4 arg5 harg5 arg6 harg6 arg7 harg7 arg8 harg8 arg9 harg9 X_arg1 X_arg2 k).1 ++ (pb_k0_t1 (F := F) 𝒱 c bd i arg1 harg1 arg2 harg2 arg3 harg3 arg4 harg4 arg5 harg5 arg6 harg6 arg7 harg7 arg8 harg8 arg9 harg9 X_arg1 X_arg2 k.val).1, (tripL_k0_t1 (F := F) 𝒱 c bd i arg1 harg1 arg2 harg2 arg3 harg3 arg4 harg4 arg5 harg5 arg6 harg6 arg7 harg7 arg8 harg8 arg9 harg9 X_arg1 X_arg2 k).2.1 ++ (pb_k0_t1 (F := F) 𝒱 c bd i arg1 harg1 arg2 harg2 arg3 harg3 arg4 harg4 arg5 harg5 arg6 harg6 arg7 harg7 arg8 harg8 arg9 harg9 X_arg1 X_arg2 k.val).2.1, (tripL_k0_t1 (F := F) 𝒱 c bd i arg1 harg1 arg2 harg2 arg3 harg3 arg4 harg4 arg5 harg5 arg6 harg6 arg7 harg7 arg8 harg8 arg9 harg9 X_arg1 X_arg2 k).2.2 ++ (pb_k0_t1 (F := F) 𝒱 c bd i arg1 harg1 arg2 harg2 arg3 harg3 arg4 harg4 arg5 harg5 arg6 harg6 arg7 harg7 arg8 harg8 arg9 harg9 X_arg1 X_arg2 k.val).2.2) := by
  rw [pb_k0_t1.eq_2]; unfold pb_k0_t1Step; exact dif_pos k.isLt

/-- THE INVARIANT before trip `k`: arg1, arg2 read at `X_·`; arg5, arg6, arg9 holding the pieces of
   the trips before `k` written over the contents at loop entry `G_·` (stated `∃ f, … ∗ ⌜f = …⌝`, so
   that a hypothesis of any contents matches and the equation is what is proved). -/
abbrev inv_k0_t1 (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (G_arg5 : BufTy.Contents (Elt F) arg5.view.ty) (G_arg6 : BufTy.Contents (Elt F) arg6.view.ty) (G_arg9 : BufTy.Contents (Elt F) arg9.view.ty) (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (∃ f, (arg5.view.loc (c : Thread nD τ) ↦[arg5.view.set]{fullShare} f) ∗ ⌜f = arg5.view.writes (Elt F) G_arg5 (pb_k0_t1 (F := F) 𝒱 c bd i arg1 harg1 arg2 harg2 arg3 harg3 arg4 harg4 arg5 harg5 arg6 harg6 arg7 harg7 arg8 harg8 arg9 harg9 X_arg1 X_arg2 k).1⌝) ∗ (∃ f, (arg6.view.loc (c : Thread nD τ) ↦[arg6.view.set]{fullShare} f) ∗ ⌜f = arg6.view.writes (Elt F) G_arg6 (pb_k0_t1 (F := F) 𝒱 c bd i arg1 harg1 arg2 harg2 arg3 harg3 arg4 harg4 arg5 harg5 arg6 harg6 arg7 harg7 arg8 harg8 arg9 harg9 X_arg1 X_arg2 k).2.1⌝) ∗ (∃ f, (arg9.view.loc (c : Thread nD τ) ↦[arg9.view.set]{fullShare} f) ∗ ⌜f = arg9.view.writes (Elt F) G_arg9 (pb_k0_t1 (F := F) 𝒱 c bd i arg1 harg1 arg2 harg2 arg3 harg3 arg4 harg4 arg5 harg5 arg6 harg6 arg7 harg7 arg8 harg8 arg9 harg9 X_arg1 X_arg2 k).2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (G_arg5 : BufTy.Contents (Elt F) arg5.view.ty) (G_arg6 : BufTy.Contents (Elt F) arg6.view.ty) (G_arg9 : BufTy.Contents (Elt F) arg9.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 where
  inv := inv_k0_t1 (F := F) 𝒱 c bd i arg1 harg1 arg2 harg2 arg3 harg3 arg4 harg4 arg5 harg5 arg6 harg6 arg7 harg7 arg8 harg8 arg9 harg9 X_arg1 X_arg2 G_arg5 G_arg6 G_arg9
  step k acc := by
    iintro ⟨HR_arg1, HR_arg2, ⟨%f_arg5, HW_arg5, %h_arg5⟩, ⟨%f_arg6, HW_arg6, %h_arg6⟩, ⟨%f_arg9, HW_arg9, %h_arg9⟩⟩
    iapply (wp_wand_r Idealize.ShloMosaic.frame (wpE (defs₀ (F := F)) 𝒱 (c : Thread nD τ) bd) E)
    isplitl [HR_arg1 HR_arg2 HW_arg5 HW_arg6 HW_arg9]
    · iapply ((trip_k0_t1 (F := F) 𝒱 c bd i arg1 harg1 arg2 harg2 arg3 harg3 arg4 harg4 arg5 harg5 arg6 harg6 arg7 harg7 arg8 harg8 arg9 harg9 X_arg1 X_arg2 k).2.2.2 E f_arg5 f_arg6 f_arg9)
      isplitl [HR_arg1]; · iexact HR_arg1
      isplitl [HR_arg2]; · iexact HR_arg2
      isplitl [HW_arg5]; · iexact HW_arg5
      isplitl [HW_arg6]; · iexact HW_arg6
      iexact HW_arg9
    · iintro %_ ⟨HR_arg1, HR_arg2, HW_arg5, HW_arg6, HW_arg9⟩
      isplitl [HR_arg1]; · iexact HR_arg1
      isplitl [HR_arg2]; · iexact HR_arg2
      rw [pb_k0_t1_succ]
      isplitl [HW_arg5]
      · iexists _; isplitl [HW_arg5]; · iexact HW_arg5
        ipureintro; rw [h_arg5, ← View.writes_append]
      isplitl [HW_arg6]
      · iexists _; isplitl [HW_arg6]; · iexact HW_arg6
        ipureintro; rw [h_arg6, ← View.writes_append]
      iexists _; isplitl [HW_arg9]; · iexact HW_arg9
      ipureintro; rw [h_arg9, ← View.writes_append]

end Cert.Kernel.Own

end
-- ==== Proof.KB.Frame.lean ====
/- The frame of `Kernel`: what each of the two calls leaves in its output buffers at each grid point, the obligations of the
   bodies, and the run of the whole program through its host operations and its two calls. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.KB.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_proj` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-! ## The kernel body on any staging memrefs: a subtype the run finds -/

/-- One staging buffer of output window 4, through which its contents are stated (`View.read_writes_of_cover`: the
    choice does not matter). -/
abbrev VO0_4 : View sig .tc .vmem S256x8192 .fp8e4m3 := (Memref.whole cc0_stg4_0 : Memref sig .tc .vmem S256x8192 .fp8e4m3).view
/-- One staging buffer of output window 5, through which its contents are stated (`View.read_writes_of_cover`: the
    choice does not matter). -/
abbrev VO0_5 : View sig .tc .vmem S256x1 .f32 := (Memref.whole cc0_stg5_0 : Memref sig .tc .vmem S256x1 .f32).view
/-- One staging buffer of output window 6, through which its contents are stated (`View.read_writes_of_cover`: the
    choice does not matter). -/
abbrev VO0_6 : View sig .tc .vmem S1152x256 .f32 := (Memref.whole cc0_stg6_0 : Memref sig .tc .vmem S1152x256 .f32).view
/-- One staging buffer of output window 7, through which its contents are stated (`View.read_writes_of_cover`: the
    choice does not matter). -/
abbrev VO0_7 : View sig .tc .vmem S18x128 .f32 := (Memref.whole cc0_stg7_0 : Memref sig .tc .vmem S18x128 .f32).view
/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1152x8192 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1152x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1152x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S18x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S32x8192 .f32 := Memref.whole cc0_scratch0

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0), WITH the
    proof that on whole staging memrefs — the inputs' at their contents, the other outputs' at
    anything, the scratch buffers at anything, the body runs to the continuation holding the inputs' as they were,
    the scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) :
    Σ' (L4 : List (View.Piece (Elt F) S256x8192 .fp8e4m3)), Σ' (L5 : List (View.Piece (Elt F) S256x1 .f32)), Σ' (L6 : List (View.Piece (Elt F) S1152x256 .f32)), { L7 : List (View.Piece (Elt F) S18x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3
    have hrd0 : ∀ (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (hrdF : BufTy.Contents (Elt F) arg5.view.ty) (hrdB : LoadRect S256x8192), arg5.view.readAt (Elt F) hrdB (arg5.view.writes (Elt F) hrdF (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).1) = arg5.view.readCov (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).1 S32x128.size (by sl_kernel_rfl) (hrdB.idx hrdJ))
    have hrd1 : ∀ (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (hrdF : BufTy.Contents (Elt F) arg6.view.ty) (hrdB : LoadRect S256x1), arg6.view.readAt (Elt F) hrdB (arg6.view.writes (Elt F) hrdF (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.1) = arg6.view.readCov (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.1 hrdB := fun 𝒱 c bd i arg1 harg1 arg2 harg2 arg3 harg3 arg4 harg4 arg5 harg5 arg6 harg6 arg7 harg7 arg8 harg8 arg9 harg9 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.1 S32x1.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _, _; isplitr; swap; · iexact HS0
    ipureintro; rfl

/-- Case A's pieces for output 4 tile its block (512 stores of `S32x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) (y : S256x8192.Idx) :
    ∃ pc ∈ (kernelRun0_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).1 S32x128.size (by sl_kernel_rfl) y

/-- What case A leaves in output 4's staging buffer: its pieces read back over junk. -/
def out0_A_4 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) : Vec F S256x8192 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 x0 x1 x2 x3).1)

/-- Case A's pieces for output 5 tile its block (8 stores of `S32x1`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) (y : S256x1.Idx) :
    ∃ pc ∈ (kernelRun0_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.1 S32x1.size (by sl_kernel_rfl) y

/-- What case A leaves in output 5's staging buffer: its pieces read back over junk. -/
def out0_A_5 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) : Vec F S256x1 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1 x2 x3).2.1)

/-- Case A's pieces for output 6 tile its block (1 store of `S1152x256`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) (y : S1152x256.Idx) :
    ∃ pc ∈ (kernelRun0_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.1 S1152x256.size (by sl_kernel_rfl) y

/-- What case A leaves in output 6's staging buffer: its pieces read back over junk. -/
def out0_A_6 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) : Vec F S1152x256 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3).2.2.1)

/-- Case A's pieces for output 7 tile its block (2 stores of `S18x128`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) (y : S18x128.Idx) :
    ∃ pc ∈ (kernelRun0_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.2.1 S18x128.size (by sl_kernel_rfl) y

/-- What case A leaves in output 7's staging buffer: its pieces read back over junk. -/
def out0_A_7 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) : Vec F S18x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3).2.2.2.1)

-- (the run's proof term is large: the definition's epilogue — `abstractNestedProofs` — walks it past the default budget)
set_option backward.proofsInPublic true in
set_option maxHeartbeats 1000000 in
/-- What the body's stores leave in each output's staging memref, as pieces (last first) IN CASE B (`scf.if` 0 not taken: points 1, 2, … 63: 63 of 64), WITH the
    proof that on whole staging memrefs — the inputs' at their contents, the outputs it reads before covering (7) at their running contents `xo·`, the other outputs' at
    anything, the scratch buffers at anything, the body runs to the continuation holding the inputs' as they were,
    the scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) :
    Σ' (L4 : List (View.Piece (Elt F) S256x8192 .fp8e4m3)), Σ' (L5 : List (View.Piece (Elt F) S256x1 .f32)), Σ' (L6 : List (View.Piece (Elt F) S1152x256 .f32)), { L7 : List (View.Piece (Elt F) S18x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xo7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg8.eq_unread hf7
    have hrd0 : ∀ (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (hrdF : BufTy.Contents (Elt F) arg5.view.ty) (hrdB : LoadRect S256x8192), arg5.view.readAt (Elt F) hrdB (arg5.view.writes (Elt F) hrdF (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).1) = arg5.view.readCov (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).1 S32x128.size (by sl_kernel_rfl) (hrdB.idx hrdJ))
    have hrd1 : ∀ (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (hrdF : BufTy.Contents (Elt F) arg6.view.ty) (hrdB : LoadRect S256x1), arg6.view.readAt (Elt F) hrdB (arg6.view.writes (Elt F) hrdF (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.1) = arg6.view.readCov (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.1 hrdB := fun 𝒱 c bd i arg1 harg1 arg2 harg2 arg3 harg3 arg4 harg4 arg5 harg5 arg6 harg6 arg7 harg7 arg8 harg8 arg9 harg9 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.1 S32x1.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _, _; isplitr; swap; · iexact HS0
    ipureintro; rfl

/-- Case B's pieces for output 4 tile its block (512 stores of `S32x128`, checked by the kernel's evaluation: Lib/Ring.lean `Piece.tiledL`, linear in the pieces, through a loop's `@[irreducible]` trip theorem too), so they cover it. -/
theorem cover0_B_4 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) (y : S256x8192.Idx) :
    ∃ pc ∈ (kernelRun0_B c i arg1 harg1 arg2 harg2 arg3 harg3 arg4 harg4 arg5 harg5 arg6 harg6 arg7 harg7 arg8 harg8 arg9 harg9 hc0 x0 x1 x2 x3 xo7).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo7).1 S32x128.size (by sl_kernel_rfl) y

/-- What case B leaves in output 4's staging buffer: its pieces read back over junk. -/
def out0_B_4 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) : Vec F S256x8192 .fp8e4m3 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 x0 x1 x2 x3 xo7).1)

/-- Case B's pieces for output 5 tile its block (8 stores of `S32x1`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) (y : S256x1.Idx) :
    ∃ pc ∈ (kernelRun0_B c i arg1 harg1 arg2 harg2 arg3 harg3 arg4 harg4 arg5 harg5 arg6 harg6 arg7 harg7 arg8 harg8 arg9 harg9 hc0 x0 x1 x2 x3 xo7).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo7).2.1 S32x1.size (by sl_kernel_rfl) y

/-- What case B leaves in output 5's staging buffer: its pieces read back over junk. -/
def out0_B_5 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) : Vec F S256x1 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 x0 x1 x2 x3 xo7).2.1)

/-- Case B's pieces for output 6 tile its block (1 store of `S1152x256`, checked by the kernel's evaluation: Lib/Ring.lean `Piece.tiledL`, linear in the pieces, through a loop's `@[irreducible]` trip theorem too), so they cover it. -/
theorem cover0_B_6 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) (y : S1152x256.Idx) :
    ∃ pc ∈ (kernelRun0_B c i arg1 harg1 arg2 harg2 arg3 harg3 arg4 harg4 arg5 harg5 arg6 harg6 arg7 harg7 arg8 harg8 arg9 harg9 hc0 x0 x1 x2 x3 xo7).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo7).2.2.1 S1152x256.size (by sl_kernel_rfl) y

/-- What case B leaves in output 6's staging buffer: its pieces read back over junk. -/
def out0_B_6 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) : Vec F S1152x256 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 xo7).2.2.1)

/-- Case B's pieces for output 7 tile its block (1 store of `S18x128`, checked by the kernel's evaluation: Lib/Ring.lean `Piece.tiledL`, linear in the pieces, through a loop's `@[irreducible]` trip theorem too), so they cover it. -/
theorem cover0_B_7 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) (y : S18x128.Idx) :
    ∃ pc ∈ (kernelRun0_B c i arg1 harg1 arg2 harg2 arg3 harg3 arg4 harg4 arg5 harg5 arg6 harg6 arg7 harg7 arg8 harg8 arg9 harg9 hc0 x0 x1 x2 x3 xo7).2.2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo7).2.2.2.1 S18x128.size (by sl_kernel_rfl) y

/-- What case B leaves in output 7's staging buffer: its pieces read back over junk. -/
def out0_B_7 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) : Vec F S18x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 xo7).2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x8192 .fp8e4m3 × Vec F S256x1 .f32 × Vec F S1152x256 .f32 × Vec F S18x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 64 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2)

/-- `outsAt0` at a point of case A: that case's contents. -/
theorem outsAt0_A (c : Dev nD) (t : Fin cfg0.N) (h0 : t.val % 64 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
/-- After a step of the first call the window of gamma holds its block unchanged. -/
theorem after0_1 (c : Dev nD) (t : Fin cfg0.N) : (dat0 V c).after 1 t = iblk0 V c 1 t := by dsimp only [dat0]
/-- After a step of the first call the window of the weights holds its block unchanged. -/
theorem after0_2 (c : Dev nD) (t : Fin cfg0.N) : (dat0 V c).after 2 t = iblk0 V c 2 t := by dsimp only [dat0]
/-- After a step of the first call the window of the weight scales holds its block unchanged. -/
theorem after0_3 (c : Dev nD) (t : Fin cfg0.N) : (dat0 V c).after 3 t = iblk0 V c 3 t := by dsimp only [dat0]
/-- After a step of the first call the window of the token codes holds what the step computes. -/
theorem after0_4 (c : Dev nD) (t : Fin cfg0.N) : (dat0 V c).after 4 t = (outsAt0 V c t.val t.isLt).1 := by dsimp only [dat0]
/-- After a step of the first call the window of the token scales holds what the step computes. -/
theorem after0_5 (c : Dev nD) (t : Fin cfg0.N) : (dat0 V c).after 5 t = (outsAt0 V c t.val t.isLt).2.1 := by dsimp only [dat0]
/-- After a step of the first call the window of the projection holds what the step computes. -/
theorem after0_6 (c : Dev nD) (t : Fin cfg0.N) : (dat0 V c).after 6 t = (outsAt0 V c t.val t.isLt).2.2.1 := by dsimp only [dat0]
/-- After a step of the first call the window of the head maxima holds what the step computes. -/
theorem after0_7 (c : Dev nD) (t : Fin cfg0.N) : (dat0 V c).after 7 t = (outsAt0 V c t.val t.isLt).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- Before a step of the first call the window of gamma holds its block. -/
theorem before0_1 (c : Dev nD) (t : Fin cfg0.N) (d) : (dat0 V c).before 1 t d = iblk0 V c 1 t :=
  before0_1_of V (dat0 V c) (A_eq0 V c 1) (after0_1 V c) t d
/-- Before a step of the first call the window of the weights holds its block. -/
theorem before0_2 (c : Dev nD) (t : Fin cfg0.N) (d) : (dat0 V c).before 2 t d = iblk0 V c 2 t :=
  before0_2_of V (dat0 V c) (A_eq0 V c 2) (after0_2 V c) t d
/-- Before a step of the first call the window of the weight scales holds its block. -/
theorem before0_3 (c : Dev nD) (t : Fin cfg0.N) (d) : (dat0 V c).before 3 t d = iblk0 V c 3 t :=
  before0_3_of V (dat0 V c) (A_eq0 V c 3) (after0_3 V c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 64 = 0) (d) :
    (dat0 V c).before 7 t d = (outsAt0 V c (t.val - 1) (Nat.lt_of_le_of_lt (Nat.sub_le _ _) t.isLt)).2.2.2 := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = Pipeline.ΦA spec0 c from rfl, PhiA0_eq]
  have hN : t.val < 64 := lt_of_lt_of_eq t.isLt (show cfg0.N = 64 from N_0)
  by_cases h0 : t.val % 64 = 0
  · rw [outsAt0_A V c t h0]
    unfold out0_A_4 out0_A_5 out0_A_6 out0_A_7; (try dsimp only)
    iintro ⟨⟨⟨HS0, HR1, HR2, HR3, HR4, HR5, HR6, HR7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ ((hcond0_0 t).mpr h0) (iblk0 V c 0 t) (iblk0 V c 1 t) (iblk0 V c 2 t) (iblk0 V c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    iintro ⟨H0, H1, H2, H3, ⟨%e4, H4⟩, ⟨%e5, H5⟩, ⟨%e6, H6⟩, ⟨%e7, H7⟩, HS0⟩
    isplitl [HS0 HR1 HR2 HR3 HR4 HR5 HR6 HR7 Hg]
    · isplitl [HS0 HR1 HR2 HR3 HR4 HR5 HR6 HR7]
      · isplitl [HS0]
        · iexact HS0
        isplitl [HR1]
        · iexact HR1
        isplitl [HR2]
        · iexact HR2
        isplitl [HR3]
        · iexact HR3
        isplitl [HR4]
        · iexact HR4
        isplitl [HR5]
        · iexact HR5
        isplitl [HR6]
        · iexact HR6
        iexact HR7
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _ _)
  · rw [outsAt0_B V c t h0]
    simp only [before0_7_B V c t h0]
    unfold out0_B_4 out0_B_5 out0_B_6 out0_B_7; (try dsimp only)
    iintro ⟨⟨⟨HS0, HR1, HR2, HR3, HR4, HR5, HR6, HR7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk0 V c 0 t) (iblk0 V c 1 t) (iblk0 V c 2 t) (iblk0 V c 3 t) _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    isplitl [HS0]; · iexact HS0
    iintro ⟨H0, H1, H2, H3, ⟨%e4, H4⟩, ⟨%e5, H5⟩, ⟨%e6, H6⟩, ⟨%e7, H7⟩, HS0⟩
    isplitl [HS0 HR1 HR2 HR3 HR4 HR5 HR6 HR7 Hg]
    · isplitl [HS0 HR1 HR2 HR3 HR4 HR5 HR6 HR7]
      · isplitl [HS0]
        · iexact HS0
        isplitl [HR1]
        · iexact HR1
        isplitl [HR2]
        · iexact HR2
        isplitl [HR3]
        · iexact HR3
        isplitl [HR4]
        · iexact HR4
        isplitl [HR5]
        · iexact HR5
        isplitl [HR6]
        · iexact HR6
        iexact HR7
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _)
    unfold owns; iexists _; isplitr
    swap; · iexact H7
    ipureintro; exact View.read_writes_of_cover _ _ _ _ _ (cover0_B_7 c _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_quant` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 2, through which its contents are stated (`View.read_writes_of_cover`: the
    choice does not matter). -/
abbrev VO1_2 : View sig .tc .vmem S1x64x2048 .fp8e4m3 := (Memref.whole cc1_stg2_0 : Memref sig .tc .vmem S1x64x2048 .fp8e4m3).view
/-- One staging buffer of output window 3, through which its contents are stated (`View.read_writes_of_cover`: the
    choice does not matter). -/
abbrev VO1_3 : View sig .tc .vmem S1x1x128 .f32 := (Memref.whole cc1_stg3_0 : Memref sig .tc .vmem S1x1x128 .f32).view
/-- Each window's current staging memref at point `t`, spelled as the pipeline passes it (`bodyAt1`), and its wholeness. -/
abbrev ms1_0 (t : Fin cfg1.N) : Memref sig .tc .vmem S64x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S18x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64x2048 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S64x2048 .f32) (harg2 : arg2.IsWhole) (arg3 : Memref sig .tc .vmem S18x128 .f32) (harg3 : arg3.IsWhole) (arg4 : Memref sig .tc .vmem S1x64x2048 .fp8e4m3) (harg4 : arg4.IsWhole) (arg5 : Memref sig .tc .vmem S1x1x128 .f32) (harg5 : arg5.IsWhole)
    (x0 : Vec F S64x2048 .f32) (x1 : Vec F S18x128 .f32) :
    Σ' (L2 : List (View.Piece (Elt F) S1x64x2048 .fp8e4m3)), { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1_quant i arg2 harg2 arg3 harg3 arg4 harg4 arg5 harg5) K } := by
  refine ⟨?_, ?_, fun E K => ?run⟩
  case run =>
    simp only [cc1_quant_eq_skeleton]; unfold cc1_quant_skel
    simp only [k1_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

/-- The run's pieces for output 2 tile its block (1 store of `S1x64x2048`, checked by the kernel's evaluation: Lib/Ring.lean `Piece.tiledL`, linear in the pieces, through a loop's `@[irreducible]` trip theorem too), so they cover it. -/
theorem cover1_A_2 (c : Dev nD) (i : grid1.Coords) (arg2 : Memref sig .tc .vmem S64x2048 .f32) (harg2 : arg2.IsWhole) (arg3 : Memref sig .tc .vmem S18x128 .f32) (harg3 : arg3.IsWhole) (arg4 : Memref sig .tc .vmem S1x64x2048 .fp8e4m3) (harg4 : arg4.IsWhole) (arg5 : Memref sig .tc .vmem S1x1x128 .f32) (harg5 : arg5.IsWhole)
    (x0 : Vec F S64x2048 .f32) (x1 : Vec F S18x128 .f32) (y : S1x64x2048.Idx) :
    ∃ pc ∈ (kernelRun1_A c i arg2 harg2 arg3 harg3 arg4 harg4 arg5 harg5 x0 x1).1, y ∈ pc.1.set :=
  View.cover_of_tiledL (kernelRun1_A c i arg2 harg2 arg3 harg3 arg4 harg4 arg5 harg5 x0 x1).1 S1x64x2048.size (by sl_kernel_rfl) y

/-- What the run leaves in output 2's staging buffer: its pieces read back over junk. -/
def out1_A_2 (c : Dev nD) (i : grid1.Coords) (arg2 : Memref sig .tc .vmem S64x2048 .f32) (harg2 : arg2.IsWhole) (arg3 : Memref sig .tc .vmem S18x128 .f32) (harg3 : arg3.IsWhole) (arg4 : Memref sig .tc .vmem S1x64x2048 .fp8e4m3) (harg4 : arg4.IsWhole) (arg5 : Memref sig .tc .vmem S1x1x128 .f32) (harg5 : arg5.IsWhole)
    (x0 : Vec F S64x2048 .f32) (x1 : Vec F S18x128 .f32) : Vec F S1x64x2048 .fp8e4m3 :=
  VO1_2.read (Elt F) (VO1_2.writes (Elt F) VO1_2.junk (kernelRun1_A c i arg2 harg2 arg3 harg3 arg4 harg4 arg5 harg5 x0 x1).1)

/-- The run's pieces for output 3 tile its block (1 store of `S1x1x128`, checked by the kernel's evaluation: Lib/Ring.lean `Piece.tiledL`, linear in the pieces, through a loop's `@[irreducible]` trip theorem too), so they cover it. -/
theorem cover1_A_3 (c : Dev nD) (i : grid1.Coords) (arg2 : Memref sig .tc .vmem S64x2048 .f32) (harg2 : arg2.IsWhole) (arg3 : Memref sig .tc .vmem S18x128 .f32) (harg3 : arg3.IsWhole) (arg4 : Memref sig .tc .vmem S1x64x2048 .fp8e4m3) (harg4 : arg4.IsWhole) (arg5 : Memref sig .tc .vmem S1x1x128 .f32) (harg5 : arg5.IsWhole)
    (x0 : Vec F S64x2048 .f32) (x1 : Vec F S18x128 .f32) (y : S1x1x128.Idx) :
    ∃ pc ∈ (kernelRun1_A c i arg2 harg2 arg3 harg3 arg4 harg4 arg5 harg5 x0 x1).2.1, y ∈ pc.1.set :=
  View.cover_of_tiledL (kernelRun1_A c i arg2 harg2 arg3 harg3 arg4 harg4 arg5 harg5 x0 x1).2.1 S1x1x128.size (by sl_kernel_rfl) y

/-- What the run leaves in output 3's staging buffer: its pieces read back over junk. -/
def out1_A_3 (c : Dev nD) (i : grid1.Coords) (arg2 : Memref sig .tc .vmem S64x2048 .f32) (harg2 : arg2.IsWhole) (arg3 : Memref sig .tc .vmem S18x128 .f32) (harg3 : arg3.IsWhole) (arg4 : Memref sig .tc .vmem S1x64x2048 .fp8e4m3) (harg4 : arg4.IsWhole) (arg5 : Memref sig .tc .vmem S1x1x128 .f32) (harg5 : arg5.IsWhole)
    (x0 : Vec F S64x2048 .f32) (x1 : Vec F S18x128 .f32) : Vec F S1x1x128 .f32 :=
  VO1_3.read (Elt F) (VO1_3.writes (Elt F) VO1_3.junk (kernelRun1_A c i arg2 harg2 arg3 harg3 arg4 harg4 arg5 harg5 x0 x1).2.1)

/-! ## What the outputs hold after each point -/

/-- What the outputs' staging buffers hold after the body at point `t` (as a tuple, in window order): the run's contents at
    the point's memrefs and input blocks. -/
def outsAt1 (c : Dev nD) (t : Fin cfg1.N) : Vec F S1x64x2048 .fp8e4m3 × Vec F S1x1x128 .f32 :=
  (out1_A_2 c (grid1.coords t) (ms1_0 t) (hs1_0 t) (ms1_1 t) (hs1_1 t) (ms1_2 t) (hs1_2 t) (ms1_3 t) (hs1_3 t) (iblk1 V c 0 t) (iblk1 V c 1 t), out1_A_3 c (grid1.coords t) (ms1_0 t) (hs1_0 t) (ms1_1 t) (hs1_1 t) (ms1_2 t) (hs1_2 t) (ms1_3 t) (hs1_3 t) (iblk1 V c 0 t) (iblk1 V c 1 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- After a step of the second call the window of the head maxima holds its block unchanged. -/
theorem after1_1 (c : Dev nD) (t : Fin cfg1.N) : (dat1 V c).after 1 t = iblk1 V c 1 t := by dsimp only [dat1]
/-- After a step of the second call the window of the head codes holds what the step computes. -/
theorem after1_2 (c : Dev nD) (t : Fin cfg1.N) : (dat1 V c).after 2 t = (outsAt1 V c t).1 := by dsimp only [dat1]
/-- After a step of the second call the window of the head scales holds what the step computes. -/
theorem after1_3 (c : Dev nD) (t : Fin cfg1.N) : (dat1 V c).after 3 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- Before a step of the second call the window of the head maxima holds its block. -/
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  unfold outsAt1
  unfold out1_A_2 out1_A_3; (try dsimp only)
  iintro ⟨HΦ, Ho, ⟨%d0, H0⟩, ⟨%d1, H1⟩, ⟨%d2, H2⟩, ⟨%d3, H3⟩⟩
  iapply ((kernelRun1_A c (grid1.coords t) _ _ _ _ _ _ _ _ (iblk1 V c 0 t) (iblk1 V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover1_A_2 c _ _ _ _ _ _ _ _ _ _ _)
  unfold owns; iexists _; isplitr
  swap; · iexact H3
  ipureintro; exact View.read_writes_of_cover _ _ _ _ _ (cover1_A_3 c _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
/-- The host operations before the first call write only the arrays listed. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_v8, main_v9, main_v10, main_v11, main_v12, main_v13, main_v14, main_v15, main_v16, main_v17, main_v18]
/-- The host operations after the second call write only the arrays listed. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At the start the argument arrays hold what they held at first. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Before the first call the argument arrays hold what they held at first. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- After the first call the arrays of its windows hold what the pipeline leaves there. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The first call leaves an array that none of its windows is of as it was. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- After the first call the argument arrays hold what they held at first. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Outside the arrays of its windows the first call changes nothing. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
/-- After the second call the arrays of its windows hold what the pipeline leaves there. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- The second call leaves an array that none of its windows is of as it was. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- After the second call the argument arrays hold what they held at first. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- Outside the arrays of its windows the second call changes nothing. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- At the end the argument arrays hold what they held at first. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

/-- Argument 0 ends as it was. -/
theorem W4_main_arg0 (c : Dev nD) : W4 m ρ c (Proc.devRef .tc main_arg0) = m ((c : Thread nD τ).loc main_arg0) :=
  W4_args m ρ c main_arg0 (by decide)
/-- Argument 1 ends as it was. -/
theorem W4_main_arg1 (c : Dev nD) : W4 m ρ c (Proc.devRef .tc main_arg1) = m ((c : Thread nD τ).loc main_arg1) :=
  W4_args m ρ c main_arg1 (by decide)
/-- Argument 2 ends as it was. -/
theorem W4_main_arg2 (c : Dev nD) : W4 m ρ c (Proc.devRef .tc main_arg2) = m ((c : Thread nD τ).loc main_arg2) :=
  W4_args m ρ c main_arg2 (by decide)
/-- Argument 3 ends as it was. -/
theorem W4_main_arg3 (c : Dev nD) : W4 m ρ c (Proc.devRef .tc main_arg3) = m ((c : Thread nD τ).loc main_arg3) :=
  W4_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting, every
    unscoped buffer of a device ends at the contents `W4` folded through the segments, and every semaphore counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c => h c, funext fun g => hz g (.inr (no_unscoped g.2))⟩)

/-- THE FRAME: every execution terminates, the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c)⟩,
    h.2⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.Kernel.Own

end
-- ==== Proof.KI.Loops.lean ====
/- The counted loop of the first call of `KernelIdeal`: one trip run symbolically, and the invariant that the pieces of the
   trips before `k` have been written. A trip reads back the scratch slab only after it has stored it, so that the pieces do
   not depend on what the written buffers held before. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_proj` -/

/-- The class of invariants of `cc0_proj`'s counted loop `k0_t1_loop` (`scf.for %arg10 = %c0_i32 to
   %0 step %c1_i32 : i32 {`), trip `k0_t1`, carrying `Unit`, region `k0_t1_body`. Kind:
   AFFINE — every store at a `Rect.unit` whose offsets are a stated closed form of the trips,
   nothing carried, no transfer or conditional inside: the invariant is the pieces of the trips
   before `k`. The region loads back what it stores into `arg9`,
   each load's value unused (a slab read before a store into it): the pieces do not depend on what
   the memref held. One trip calls the parts `k0_part1`, `k0_part2`, `k0_part3`, `k0_part4`,
   `k0_part5`, `k0_part6`, `k0_part7`, `k0_part8`, `k0_part9`, `k0_part10`, `k0_part11`,
   `k0_part12`, `k0_part13`, `k0_part14`, `k0_part15`, `k0_part16`, `k0_part17`, `k0_part18`,
   `k0_part19`, `k0_part20`, `k0_part21`, `k0_part22`, `k0_part23`, `k0_part24`, `k0_part25`,
   `k0_part26`, `k0_part27`, `k0_part28`, `k0_part29`, `k0_part30`, `k0_part31`, `k0_part32`,
   `k0_part33`, `k0_part34`, `k0_part35`, `k0_part36`, `k0_part37`, `k0_part38`, `k0_part39`,
   `k0_part40`. Per trip it STORES through arg9 at ![0, 0]; arg9 at ![0, 128]; arg9 at ![0, 256];
   arg9 at ![0, 384]; arg9 at ![0, 512]; arg9 at ![0, 640]; arg9 at ![0, 768]; arg9 at ![0, 896];
   arg9 at ![0, 1024]; arg9 at ![0, 1152]; arg9 at ![0, 1280]; arg9 at ![0, 1408]; and 117 more. It
   LOADS through arg1 at (k0_off1 k0_t1); arg2 at ![0, 0]; arg9 at ![0, 0]; arg1 at (k0_off2 k0_t1);
   arg2 at ![0, 128]; arg9 at ![0, 128]; arg1 at (k0_off3 k0_t1); arg2 at ![0, 256]; arg9 at ![0,
   256]; arg1 at (k0_off4 k0_t1); arg2 at ![0, 384]; arg9 at ![0, 384]; and more. Below:
   `loopInv_k0_t1` (`@[sl_loop]`), at the frame kit's algebra — a run at that algebra (the
   generated frame's, or a hand proof's over `MT nD τ sig Unit (Elt F) ℕ (UR sig nD τ) ℕ`) goes
   through the loop with nothing more to state; a proof at another algebra instances the class
   itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9)

/-! ### `k0_t1_loop`: its invariant -/

/-- One trip's resources: what the region reads (arg1, arg2) at its contents, what it writes (arg5,
   arg6, arg9) at any. -/
abbrev Trip_k0_t1 (c : Dev nD) (arg1 : Memref sig .tc .vmem S256x8192 .bf16) (arg2 : Memref sig .tc .vmem S1x8192 .f32) (arg5 : Memref sig .tc .vmem S256x8192 .fp8e4m3) (arg6 : Memref sig .tc .vmem S256x1 .f32) (arg9 : Memref sig .tc .vmem S32x8192 .f32) (X_arg1 : BufTy.Contents (Elt F) arg1.view.ty) (X_arg2 : BufTy.Contents (Elt F) arg2.view.ty) (f_arg5 : BufTy.Contents (Elt F) arg5.view.ty) (f_arg6 : BufTy.Contents (Elt F) arg6.view.ty) (f_arg9 : BufTy.Contents (Elt F) arg9.view.ty) : sProp 𝕄G :=
  iprop((arg1.view.loc (c : Thread nD τ) ↦[arg1.view.set]{fullShare} X_arg1) ∗ (arg2.view.loc (c : Thread nD τ) ↦[arg2.view.set]{fullShare} X_arg2) ∗ (arg5.view.loc (c : Thread nD τ) ↦[arg5.view.set]{fullShare} f_arg5) ∗ (arg6.view.loc (c : Thread nD τ) ↦[arg6.view.set]{fullShare} f_arg6) ∗ (arg9.view.loc (c : Thread nD τ) ↦[arg9.view.set]{fullShare} f_arg9))

/-- ONE TRIP of `k0_t1_loop` at a symbolic `k`, run by `sl_exec` (its rectangles' offsets closed
   forms of `k`, their geometry linear arithmetic): the pieces it writes into arg5, arg6, arg9 are
   the run's own finds — the witnesses `sl_close` assigns handing the buffers to the continuation.
   `@[irreducible]`: cited, never unfolded. -/
@[irreducible] def trip_k0_t1 (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (k : Fin k0_t1_loop.trips) :
    Σ' (L_arg5 : List (View.Piece (Elt F) S256x8192 .fp8e4m3)) (L_arg6 : List (View.Piece (Elt F) S256x1 .f32)) , { L_arg9 : List (View.Piece (Elt F) S32x8192 .f32) // ∀ (E : Set ℕ) (f_arg5 : BufTy.Contents (Elt F) arg5.view.ty) (f_arg6 : BufTy.Contents (Elt F) arg6.view.ty) (f_arg9 : BufTy.Contents (Elt F) arg9.view.ty),
      Trip_k0_t1 (F := F) c arg1 arg2 arg5 arg6 arg9 X_arg1 X_arg2 f_arg5 f_arg6 f_arg9
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 k PUnit.unit)
          (fun _ => Trip_k0_t1 (F := F) c arg1 arg2 arg5 arg6 arg9 X_arg1 X_arg2 (arg5.view.writes (Elt F) f_arg5 L_arg5) (arg6.view.writes (Elt F) f_arg6 L_arg6) (arg9.view.writes (Elt F) f_arg9 L_arg9)) } := by
  have hk : k.val < 8 := Nat.lt_of_lt_of_le k.isLt k0_t1_abs.2.1
  refine ⟨?_, ?_, ?_, fun E f_arg5 f_arg6 f_arg9 => ?run⟩
  case run =>
    unfold k0_t1_body
    iintro ⟨HR_arg1, HR_arg2, HW_arg5, HW_arg6, HW_arg9⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (k : Fin k0_t1_loop.trips) : List (View.Piece (Elt F) S256x8192 .fp8e4m3) × List (View.Piece (Elt F) S256x1 .f32) × List (View.Piece (Elt F) S32x8192 .f32) :=
  ((trip_k0_t1 (F := F) 𝒱 c bd i arg1 harg1 arg2 harg2 arg3 harg3 arg4 harg4 arg5 harg5 arg6 harg6 arg7 harg7 arg8 harg8 arg9 harg9 X_arg1 X_arg2 k).1, (trip_k0_t1 (F := F) 𝒱 c bd i arg1 harg1 arg2 harg2 arg3 harg3 arg4 harg4 arg5 harg5 arg6 harg6 arg7 harg7 arg8 harg8 arg9 harg9 X_arg1 X_arg2 k).2.1, (trip_k0_t1 (F := F) 𝒱 c bd i arg1 harg1 arg2 harg2 arg3 harg3 arg4 harg4 arg5 harg5 arg6 harg6 arg7 harg7 arg8 harg8 arg9 harg9 X_arg1 X_arg2 k).2.2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (k : ℕ) (prev : List (View.Piece (Elt F) S256x8192 .fp8e4m3) × List (View.Piece (Elt F) S256x1 .f32) × List (View.Piece (Elt F) S32x8192 .f32)) : List (View.Piece (Elt F) S256x8192 .fp8e4m3) × List (View.Piece (Elt F) S256x1 .f32) × List (View.Piece (Elt F) S32x8192 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 X_arg1 X_arg2 ⟨k, h⟩).1 ++ prev.1, (tripL_k0_t1 (F := F) 𝒱 c bd i arg1 harg1 arg2 harg2 arg3 harg3 arg4 harg4 arg5 harg5 arg6 harg6 arg7 harg7 arg8 harg8 arg9 harg9 X_arg1 X_arg2 ⟨k, h⟩).2.1 ++ prev.2.1, (tripL_k0_t1 (F := F) 𝒱 c bd i arg1 harg1 arg2 harg2 arg3 harg3 arg4 harg4 arg5 harg5 arg6 harg6 arg7 harg7 arg8 harg8 arg9 harg9 X_arg1 X_arg2 ⟨k, h⟩).2.2 ++ prev.2.2)
  else prev

/-- The pieces of the trips before `k` (last first), per written memref. -/
def pb_k0_t1 (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) : ℕ → List (View.Piece (Elt F) S256x8192 .fp8e4m3) × List (View.Piece (Elt F) S256x1 .f32) × List (View.Piece (Elt F) S32x8192 .f32)
  | 0 => ([], [], [])
  | k + 1 => pb_k0_t1Step 𝒱 c bd i arg1 harg1 arg2 harg2 arg3 harg3 arg4 harg4 arg5 harg5 arg6 harg6 arg7 harg7 arg8 harg8 arg9 harg9 X_arg1 X_arg2 k (pb_k0_t1 𝒱 c bd i arg1 harg1 arg2 harg2 arg3 harg3 arg4 harg4 arg5 harg5 arg6 harg6 arg7 harg7 arg8 harg8 arg9 harg9 X_arg1 X_arg2 k)

/-- What the row loop has written after one more trip: that trip's pieces before those of the earlier trips. -/
theorem pb_k0_t1_succ (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (k : Fin k0_t1_loop.trips) :
    pb_k0_t1 (F := F) 𝒱 c bd i arg1 harg1 arg2 harg2 arg3 harg3 arg4 harg4 arg5 harg5 arg6 harg6 arg7 harg7 arg8 harg8 arg9 harg9 X_arg1 X_arg2 (k.val + 1)
      = ((tripL_k0_t1 (F := F) 𝒱 c bd i arg1 harg1 arg2 harg2 arg3 harg3 arg4 harg4 arg5 harg5 arg6 harg6 arg7 harg7 arg8 harg8 arg9 harg9 X_arg1 X_arg2 k).1 ++ (pb_k0_t1 (F := F) 𝒱 c bd i arg1 harg1 arg2 harg2 arg3 harg3 arg4 harg4 arg5 harg5 arg6 harg6 arg7 harg7 arg8 harg8 arg9 harg9 X_arg1 X_arg2 k.val).1, (tripL_k0_t1 (F := F) 𝒱 c bd i arg1 harg1 arg2 harg2 arg3 harg3 arg4 harg4 arg5 harg5 arg6 harg6 arg7 harg7 arg8 harg8 arg9 harg9 X_arg1 X_arg2 k).2.1 ++ (pb_k0_t1 (F := F) 𝒱 c bd i arg1 harg1 arg2 harg2 arg3 harg3 arg4 harg4 arg5 harg5 arg6 harg6 arg7 harg7 arg8 harg8 arg9 harg9 X_arg1 X_arg2 k.val).2.1, (tripL_k0_t1 (F := F) 𝒱 c bd i arg1 harg1 arg2 harg2 arg3 harg3 arg4 harg4 arg5 harg5 arg6 harg6 arg7 harg7 arg8 harg8 arg9 harg9 X_arg1 X_arg2 k).2.2 ++ (pb_k0_t1 (F := F) 𝒱 c bd i arg1 harg1 arg2 harg2 arg3 harg3 arg4 harg4 arg5 harg5 arg6 harg6 arg7 harg7 arg8 harg8 arg9 harg9 X_arg1 X_arg2 k.val).2.2) := by
  rw [pb_k0_t1.eq_2]; unfold pb_k0_t1Step; exact dif_pos k.isLt

/-- THE INVARIANT before trip `k`: arg1, arg2 read at `X_·`; arg5, arg6, arg9 holding the pieces of
   the trips before `k` written over the contents at loop entry `G_·` (stated `∃ f, … ∗ ⌜f = …⌝`, so
   that a hypothesis of any contents matches and the equation is what is proved). -/
abbrev inv_k0_t1 (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (G_arg5 : BufTy.Contents (Elt F) arg5.view.ty) (G_arg6 : BufTy.Contents (Elt F) arg6.view.ty) (G_arg9 : BufTy.Contents (Elt F) arg9.view.ty) (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (∃ f, (arg5.view.loc (c : Thread nD τ) ↦[arg5.view.set]{fullShare} f) ∗ ⌜f = arg5.view.writes (Elt F) G_arg5 (pb_k0_t1 (F := F) 𝒱 c bd i arg1 harg1 arg2 harg2 arg3 harg3 arg4 harg4 arg5 harg5 arg6 harg6 arg7 harg7 arg8 harg8 arg9 harg9 X_arg1 X_arg2 k).1⌝) ∗ (∃ f, (arg6.view.loc (c : Thread nD τ) ↦[arg6.view.set]{fullShare} f) ∗ ⌜f = arg6.view.writes (Elt F) G_arg6 (pb_k0_t1 (F := F) 𝒱 c bd i arg1 harg1 arg2 harg2 arg3 harg3 arg4 harg4 arg5 harg5 arg6 harg6 arg7 harg7 arg8 harg8 arg9 harg9 X_arg1 X_arg2 k).2.1⌝) ∗ (∃ f, (arg9.view.loc (c : Thread nD τ) ↦[arg9.view.set]{fullShare} f) ∗ ⌜f = arg9.view.writes (Elt F) G_arg9 (pb_k0_t1 (F := F) 𝒱 c bd i arg1 harg1 arg2 harg2 arg3 harg3 arg4 harg4 arg5 harg5 arg6 harg6 arg7 harg7 arg8 harg8 arg9 harg9 X_arg1 X_arg2 k).2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (G_arg5 : BufTy.Contents (Elt F) arg5.view.ty) (G_arg6 : BufTy.Contents (Elt F) arg6.view.ty) (G_arg9 : BufTy.Contents (Elt F) arg9.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 where
  inv := inv_k0_t1 (F := F) 𝒱 c bd i arg1 harg1 arg2 harg2 arg3 harg3 arg4 harg4 arg5 harg5 arg6 harg6 arg7 harg7 arg8 harg8 arg9 harg9 X_arg1 X_arg2 G_arg5 G_arg6 G_arg9
  step k acc := by
    iintro ⟨HR_arg1, HR_arg2, ⟨%f_arg5, HW_arg5, %h_arg5⟩, ⟨%f_arg6, HW_arg6, %h_arg6⟩, ⟨%f_arg9, HW_arg9, %h_arg9⟩⟩
    iapply (wp_wand_r Idealize.ShloMosaic.frame (wpE (defs₀ (F := F)) 𝒱 (c : Thread nD τ) bd) E)
    isplitl [HR_arg1 HR_arg2 HW_arg5 HW_arg6 HW_arg9]
    · iapply ((trip_k0_t1 (F := F) 𝒱 c bd i arg1 harg1 arg2 harg2 arg3 harg3 arg4 harg4 arg5 harg5 arg6 harg6 arg7 harg7 arg8 harg8 arg9 harg9 X_arg1 X_arg2 k).2.2.2 E f_arg5 f_arg6 f_arg9)
      isplitl [HR_arg1]; · iexact HR_arg1
      isplitl [HR_arg2]; · iexact HR_arg2
      isplitl [HW_arg5]; · iexact HW_arg5
      isplitl [HW_arg6]; · iexact HW_arg6
      iexact HW_arg9
    · iintro %_ ⟨HR_arg1, HR_arg2, HW_arg5, HW_arg6, HW_arg9⟩
      isplitl [HR_arg1]; · iexact HR_arg1
      isplitl [HR_arg2]; · iexact HR_arg2
      rw [pb_k0_t1_succ]
      isplitl [HW_arg5]
      · iexists _; isplitl [HW_arg5]; · iexact HW_arg5
        ipureintro; rw [h_arg5, ← View.writes_append]
      isplitl [HW_arg6]
      · iexists _; isplitl [HW_arg6]; · iexact HW_arg6
        ipureintro; rw [h_arg6, ← View.writes_append]
      iexists _; isplitl [HW_arg9]; · iexact HW_arg9
      ipureintro; rw [h_arg9, ← View.writes_append]

end Cert.KernelIdeal.Own

end
-- ==== Proof.KI.Frame.lean ====
/- The frame of `KernelIdeal`: what each of the two calls leaves in its output buffers at each grid point, the obligations of the
   bodies, and the run of the whole program through its host operations and its two calls. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.KI.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_proj` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-! ## The kernel body on any staging memrefs: a subtype the run finds -/

/-- One staging buffer of output window 4, through which its contents are stated (`View.read_writes_of_cover`: the
    choice does not matter). -/
abbrev VO0_4 : View sig .tc .vmem S256x8192 .fp8e4m3 := (Memref.whole cc0_stg4_0 : Memref sig .tc .vmem S256x8192 .fp8e4m3).view
/-- One staging buffer of output window 5, through which its contents are stated (`View.read_writes_of_cover`: the
    choice does not matter). -/
abbrev VO0_5 : View sig .tc .vmem S256x1 .f32 := (Memref.whole cc0_stg5_0 : Memref sig .tc .vmem S256x1 .f32).view
/-- One staging buffer of output window 6, through which its contents are stated (`View.read_writes_of_cover`: the
    choice does not matter). -/
abbrev VO0_6 : View sig .tc .vmem S1152x256 .f32 := (Memref.whole cc0_stg6_0 : Memref sig .tc .vmem S1152x256 .f32).view
/-- One staging buffer of output window 7, through which its contents are stated (`View.read_writes_of_cover`: the
    choice does not matter). -/
abbrev VO0_7 : View sig .tc .vmem S18x128 .f32 := (Memref.whole cc0_stg7_0 : Memref sig .tc .vmem S18x128 .f32).view
/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1152x8192 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1152x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1152x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S18x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S32x8192 .f32 := Memref.whole cc0_scratch0

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0), WITH the
    proof that on whole staging memrefs — the inputs' at their contents, the other outputs' at
    anything, the scratch buffers at anything, the body runs to the continuation holding the inputs' as they were,
    the scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) :
    Σ' (L4 : List (View.Piece (Elt F) S256x8192 .fp8e4m3)), Σ' (L5 : List (View.Piece (Elt F) S256x1 .f32)), Σ' (L6 : List (View.Piece (Elt F) S1152x256 .f32)), { L7 : List (View.Piece (Elt F) S18x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3
    have hrd0 : ∀ (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (hrdF : BufTy.Contents (Elt F) arg5.view.ty) (hrdB : LoadRect S256x8192), arg5.view.readAt (Elt F) hrdB (arg5.view.writes (Elt F) hrdF (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).1) = arg5.view.readCov (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).1 S32x128.size (by sl_kernel_rfl) (hrdB.idx hrdJ))
    have hrd1 : ∀ (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (hrdF : BufTy.Contents (Elt F) arg6.view.ty) (hrdB : LoadRect S256x1), arg6.view.readAt (Elt F) hrdB (arg6.view.writes (Elt F) hrdF (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.1) = arg6.view.readCov (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.1 hrdB := fun 𝒱 c bd i arg1 harg1 arg2 harg2 arg3 harg3 arg4 harg4 arg5 harg5 arg6 harg6 arg7 harg7 arg8 harg8 arg9 harg9 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.1 S32x1.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _, _; isplitr; swap; · iexact HS0
    ipureintro; rfl

/-- Case A's pieces for output 4 tile its block (512 stores of `S32x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) (y : S256x8192.Idx) :
    ∃ pc ∈ (kernelRun0_A c i arg1 harg1 arg2 harg2 arg3 harg3 arg4 harg4 arg5 harg5 arg6 harg6 arg7 harg7 arg8 harg8 arg9 harg9 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).1 S32x128.size (by sl_kernel_rfl) y

/-- What case A leaves in output 4's staging buffer: its pieces read back over junk. -/
def out0_A_4 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) : Vec F S256x8192 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 x0 x1 x2 x3).1)

/-- Case A's pieces for output 5 tile its block (8 stores of `S32x1`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) (y : S256x1.Idx) :
    ∃ pc ∈ (kernelRun0_A c i arg1 harg1 arg2 harg2 arg3 harg3 arg4 harg4 arg5 harg5 arg6 harg6 arg7 harg7 arg8 harg8 arg9 harg9 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.1 S32x1.size (by sl_kernel_rfl) y

/-- What case A leaves in output 5's staging buffer: its pieces read back over junk. -/
def out0_A_5 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) : Vec F S256x1 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 x0 x1 x2 x3).2.1)

/-- Case A's pieces for output 6 tile its block (1 store of `S1152x256`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) (y : S1152x256.Idx) :
    ∃ pc ∈ (kernelRun0_A c i arg1 harg1 arg2 harg2 arg3 harg3 arg4 harg4 arg5 harg5 arg6 harg6 arg7 harg7 arg8 harg8 arg9 harg9 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.1 S1152x256.size (by sl_kernel_rfl) y

/-- What case A leaves in output 6's staging buffer: its pieces read back over junk. -/
def out0_A_6 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) : Vec F S1152x256 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3).2.2.1)

/-- Case A's pieces for output 7 tile its block (2 stores of `S18x128`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) (y : S18x128.Idx) :
    ∃ pc ∈ (kernelRun0_A c i arg1 harg1 arg2 harg2 arg3 harg3 arg4 harg4 arg5 harg5 arg6 harg6 arg7 harg7 arg8 harg8 arg9 harg9 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3).2.2.2.1 S18x128.size (by sl_kernel_rfl) y

/-- What case A leaves in output 7's staging buffer: its pieces read back over junk. -/
def out0_A_7 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : cond0_0 i)
    (x0 : Vec F S256x8192 .bf16) (x1 : Vec F S1x8192 .f32) (x2 : Vec F S1152x8192 .fp8e4m3) (x3 : Vec F S1152x1 .f32) : Vec F S18x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3).2.2.2.1)

-- (the run's proof term is large: the definition's epilogue — `abstractNestedProofs` — walks it past the default budget)
set_option backward.proofsInPublic true in
set_option maxHeartbeats 1000000 in
/-- What the body's stores leave in each output's staging memref, as pieces (last first) IN CASE B (`scf.if` 0 not taken: points 1, 2, … 63: 63 of 64), WITH the
    proof that on whole staging memrefs — the inputs' at their contents, the outputs it reads before covering (7) at their running contents `xo·`, the other outputs' at
    anything, the scratch buffers at anything, the body runs to the continuation holding the inputs' as they were,
    the scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) :
    Σ' (L4 : List (View.Piece (Elt F) S256x8192 .fp8e4m3)), Σ' (L5 : List (View.Piece (Elt F) S256x1 .f32)), Σ' (L6 : List (View.Piece (Elt F) S1152x256 .f32)), { L7 : List (View.Piece (Elt F) S18x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xo7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ d, owns (c : Thread nD τ) arg9 fullShare d)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg8.eq_unread hf7
    have hrd0 : ∀ (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (hrdF : BufTy.Contents (Elt F) arg5.view.ty) (hrdB : LoadRect S256x8192), arg5.view.readAt (Elt F) hrdB (arg5.view.writes (Elt F) hrdF (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).1) = arg5.view.readCov (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).1 S32x128.size (by sl_kernel_rfl) (hrdB.idx hrdJ))
    have hrd1 : ∀ (𝒱 : Variants) (c : Dev nD) (bd : Option 𝒱.V) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (X_arg1 : BufTy.Contents (Elt F) arg1.view.ty) (X_arg2 : BufTy.Contents (Elt F) arg2.view.ty) (hrdF : BufTy.Contents (Elt F) arg6.view.ty) (hrdB : LoadRect S256x1), arg6.view.readAt (Elt F) hrdB (arg6.view.writes (Elt F) hrdF (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.1) = arg6.view.readCov (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.1 hrdB := fun 𝒱 c bd i arg1 harg1 arg2 harg2 arg3 harg3 arg4 harg4 arg5 harg5 arg6 harg6 arg7 harg7 arg8 harg8 arg9 harg9 X_arg1 X_arg2 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 X_arg1 X_arg2 (Scf.trips k0_t1_loop.lb k0_t1_loop.ub k0_t1_loop.st)).2.1 S32x1.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _, _; isplitr; swap; · iexact HS0
    ipureintro; rfl

/-- Case B's pieces for output 4 tile its block (512 stores of `S32x128`, checked by the kernel's evaluation: Lib/Ring.lean `Piece.tiledL`, linear in the pieces, through a loop's `@[irreducible]` trip theorem too), so they cover it. -/
theorem cover0_B_4 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) (y : S256x8192.Idx) :
    ∃ pc ∈ (kernelRun0_B c i arg1 harg1 arg2 harg2 arg3 harg3 arg4 harg4 arg5 harg5 arg6 harg6 arg7 harg7 arg8 harg8 arg9 harg9 hc0 x0 x1 x2 x3 xo7).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo7).1 S32x128.size (by sl_kernel_rfl) y

/-- What case B leaves in output 4's staging buffer: its pieces read back over junk. -/
def out0_B_4 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) : Vec F S256x8192 .fp8e4m3 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 x0 x1 x2 x3 xo7).1)

/-- Case B's pieces for output 5 tile its block (8 stores of `S32x1`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) (y : S256x1.Idx) :
    ∃ pc ∈ (kernelRun0_B c i arg1 harg1 arg2 harg2 arg3 harg3 arg4 harg4 arg5 harg5 arg6 harg6 arg7 harg7 arg8 harg8 arg9 harg9 hc0 x0 x1 x2 x3 xo7).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo7).2.1 S32x1.size (by sl_kernel_rfl) y

/-- What case B leaves in output 5's staging buffer: its pieces read back over junk. -/
def out0_B_5 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) : Vec F S256x1 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 x0 x1 x2 x3 xo7).2.1)

/-- Case B's pieces for output 6 tile its block (1 store of `S1152x256`, checked by the kernel's evaluation: Lib/Ring.lean `Piece.tiledL`, linear in the pieces, through a loop's `@[irreducible]` trip theorem too), so they cover it. -/
theorem cover0_B_6 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) (y : S1152x256.Idx) :
    ∃ pc ∈ (kernelRun0_B c i arg1 harg1 arg2 harg2 arg3 harg3 arg4 harg4 arg5 harg5 arg6 harg6 arg7 harg7 arg8 harg8 arg9 harg9 hc0 x0 x1 x2 x3 xo7).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo7).2.2.1 S1152x256.size (by sl_kernel_rfl) y

/-- What case B leaves in output 6's staging buffer: its pieces read back over junk. -/
def out0_B_6 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) : Vec F S1152x256 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 xo7).2.2.1)

/-- Case B's pieces for output 7 tile its block (1 store of `S18x128`, checked by the kernel's evaluation: Lib/Ring.lean `Piece.tiledL`, linear in the pieces, through a loop's `@[irreducible]` trip theorem too), so they cover it. -/
theorem cover0_B_7 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) (y : S18x128.Idx) :
    ∃ pc ∈ (kernelRun0_B c i arg1 harg1 arg2 harg2 arg3 harg3 arg4 harg4 arg5 harg5 arg6 harg6 arg7 harg7 arg8 harg8 arg9 harg9 hc0 x0 x1 x2 x3 xo7).2.2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 xo7).2.2.2.1 S18x128.size (by sl_kernel_rfl) y

/-- What case B leaves in output 7's staging buffer: its pieces read back over junk. -/
def out0_B_7 (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole) (hc0 : ¬cond0_0 i)
    (x0 : Vec F S256x8192 .bf16) (x1 : Vec F S1x8192 .f32) (x2 : Vec F S1152x8192 .fp8e4m3) (x3 : Vec F S1152x1 .f32) (xo7 : Vec F S18x128 .f32) : Vec F S18x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 xo7).2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x8192 .fp8e4m3 × Vec F S256x1 .f32 × Vec F S1152x256 .f32 × Vec F S18x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩))
  | n + 1, hn =>
    if h0 : (n + 1) % 64 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2)

/-- `outsAt0` at a point of case A: that case's contents. -/
theorem outsAt0_A (c : Dev nD) (t : Fin cfg0.N) (h0 : t.val % 64 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk0 V c 0 t) (iblk0 V c 1 t) (iblk0 V c 2 t) (iblk0 V c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
    | ⟨7, _⟩ => (outsAt0 V c t.val t.isLt).2.2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
/-- After a step of the first call the window of gamma holds its block unchanged. -/
theorem after0_1 (c : Dev nD) (t : Fin cfg0.N) : (dat0 V c).after 1 t = iblk0 V c 1 t := by dsimp only [dat0]
/-- After a step of the first call the window of the weights holds its block unchanged. -/
theorem after0_2 (c : Dev nD) (t : Fin cfg0.N) : (dat0 V c).after 2 t = iblk0 V c 2 t := by dsimp only [dat0]
/-- After a step of the first call the window of the weight scales holds its block unchanged. -/
theorem after0_3 (c : Dev nD) (t : Fin cfg0.N) : (dat0 V c).after 3 t = iblk0 V c 3 t := by dsimp only [dat0]
/-- After a step of the first call the window of the token codes holds what the step computes. -/
theorem after0_4 (c : Dev nD) (t : Fin cfg0.N) : (dat0 V c).after 4 t = (outsAt0 V c t.val t.isLt).1 := by dsimp only [dat0]
/-- After a step of the first call the window of the token scales holds what the step computes. -/
theorem after0_5 (c : Dev nD) (t : Fin cfg0.N) : (dat0 V c).after 5 t = (outsAt0 V c t.val t.isLt).2.1 := by dsimp only [dat0]
/-- After a step of the first call the window of the projection holds what the step computes. -/
theorem after0_6 (c : Dev nD) (t : Fin cfg0.N) : (dat0 V c).after 6 t = (outsAt0 V c t.val t.isLt).2.2.1 := by dsimp only [dat0]
/-- After a step of the first call the window of the head maxima holds what the step computes. -/
theorem after0_7 (c : Dev nD) (t : Fin cfg0.N) : (dat0 V c).after 7 t = (outsAt0 V c t.val t.isLt).2.2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
/-- Before a step of the first call the window of gamma holds its block. -/
theorem before0_1 (c : Dev nD) (t : Fin cfg0.N) (d) : (dat0 V c).before 1 t d = iblk0 V c 1 t :=
  before0_1_of V (dat0 V c) (A_eq0 V c 1) (after0_1 V c) t d
/-- Before a step of the first call the window of the weights holds its block. -/
theorem before0_2 (c : Dev nD) (t : Fin cfg0.N) (d) : (dat0 V c).before 2 t d = iblk0 V c 2 t :=
  before0_2_of V (dat0 V c) (A_eq0 V c 2) (after0_2 V c) t d
/-- Before a step of the first call the window of the weight scales holds its block. -/
theorem before0_3 (c : Dev nD) (t : Fin cfg0.N) (d) : (dat0 V c).before 3 t d = iblk0 V c 3 t :=
  before0_3_of V (dat0 V c) (A_eq0 V c 3) (after0_3 V c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 64 = 0) (d) :
    (dat0 V c).before 7 t d = (outsAt0 V c (t.val - 1) (Nat.lt_of_le_of_lt (Nat.sub_le _ _) t.isLt)).2.2.2 := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = Pipeline.ΦA spec0 c from rfl, PhiA0_eq]
  have hN : t.val < 64 := lt_of_lt_of_eq t.isLt (show cfg0.N = 64 from N_0)
  by_cases h0 : t.val % 64 = 0
  · rw [outsAt0_A V c t h0]
    unfold out0_A_4 out0_A_5 out0_A_6 out0_A_7; (try dsimp only)
    iintro ⟨⟨⟨HS0, HR1, HR2, HR3, HR4, HR5, HR6, HR7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ ((hcond0_0 t).mpr h0) (iblk0 V c 0 t) (iblk0 V c 1 t) (iblk0 V c 2 t) (iblk0 V c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    iintro ⟨H0, H1, H2, H3, ⟨%e4, H4⟩, ⟨%e5, H5⟩, ⟨%e6, H6⟩, ⟨%e7, H7⟩, HS0⟩
    isplitl [HS0 HR1 HR2 HR3 HR4 HR5 HR6 HR7 Hg]
    · isplitl [HS0 HR1 HR2 HR3 HR4 HR5 HR6 HR7]
      · isplitl [HS0]
        · iexact HS0
        isplitl [HR1]
        · iexact HR1
        isplitl [HR2]
        · iexact HR2
        isplitl [HR3]
        · iexact HR3
        isplitl [HR4]
        · iexact HR4
        isplitl [HR5]
        · iexact HR5
        isplitl [HR6]
        · iexact HR6
        iexact HR7
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _)
    unfold owns; iexists _; isplitr
    swap; · iexact H7
    ipureintro; exact View.read_writes_of_cover _ _ _ _ _ (cover0_A_7 c _ _ _ _ _ _ _ _ _ _ _ _ _ _ _ _ _ _ _ _ _ _ _ _)
  · rw [outsAt0_B V c t h0]
    simp only [before0_7_B V c t h0]
    unfold out0_B_4 out0_B_5 out0_B_6 out0_B_7; (try dsimp only)
    iintro ⟨⟨⟨HS0, HR1, HR2, HR3, HR4, HR5, HR6, HR7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk0 V c 0 t) (iblk0 V c 1 t) (iblk0 V c 2 t) (iblk0 V c 3 t) _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexact H7
    isplitl [HS0]; · iexact HS0
    iintro ⟨H0, H1, H2, H3, ⟨%e4, H4⟩, ⟨%e5, H5⟩, ⟨%e6, H6⟩, ⟨%e7, H7⟩, HS0⟩
    isplitl [HS0 HR1 HR2 HR3 HR4 HR5 HR6 HR7 Hg]
    · isplitl [HS0 HR1 HR2 HR3 HR4 HR5 HR6 HR7]
      · isplitl [HS0]
        · iexact HS0
        isplitl [HR1]
        · iexact HR1
        isplitl [HR2]
        · iexact HR2
        isplitl [HR3]
        · iexact HR3
        isplitl [HR4]
        · iexact HR4
        isplitl [HR5]
        · iexact HR5
        isplitl [HR6]
        · iexact HR6
        iexact HR7
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _)
    unfold owns; iexists _; isplitr
    swap; · iexact H7
    ipureintro; exact View.read_writes_of_cover _ _ _ _ _ (cover0_B_7 c _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_quant` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 2, through which its contents are stated (`View.read_writes_of_cover`: the
    choice does not matter). -/
abbrev VO1_2 : View sig .tc .vmem S1x64x2048 .fp8e4m3 := (Memref.whole cc1_stg2_0 : Memref sig .tc .vmem S1x64x2048 .fp8e4m3).view
/-- One staging buffer of output window 3, through which its contents are stated (`View.read_writes_of_cover`: the
    choice does not matter). -/
abbrev VO1_3 : View sig .tc .vmem S1x1x128 .f32 := (Memref.whole cc1_stg3_0 : Memref sig .tc .vmem S1x1x128 .f32).view
/-- Each window's current staging memref at point `t`, spelled as the pipeline passes it (`bodyAt1`), and its wholeness. -/
abbrev ms1_0 (t : Fin cfg1.N) : Memref sig .tc .vmem S64x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S18x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64x2048 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S64x2048 .f32) (harg2 : arg2.IsWhole) (arg3 : Memref sig .tc .vmem S18x128 .f32) (harg3 : arg3.IsWhole) (arg4 : Memref sig .tc .vmem S1x64x2048 .fp8e4m3) (harg4 : arg4.IsWhole) (arg5 : Memref sig .tc .vmem S1x1x128 .f32) (harg5 : arg5.IsWhole)
    (x0 : Vec F S64x2048 .f32) (x1 : Vec F S18x128 .f32) :
    Σ' (L2 : List (View.Piece (Elt F) S1x64x2048 .fp8e4m3)), { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)) -∗ K ⟨⟩))
          ⊢ wp frame (wpE (defs₀ (F := F)) Variants.none c none) E (cc1_quant i arg2 harg2 arg3 harg3 arg4 harg4 arg5 harg5) K } := by
  refine ⟨?_, ?_, fun E K => ?run⟩
  case run =>
    simp only [cc1_quant_eq_skeleton]; unfold cc1_quant_skel
    simp only [k1_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

/-- The run's pieces for output 2 tile its block (1 store of `S1x64x2048`, checked by the kernel's evaluation: Lib/Ring.lean `Piece.tiledL`, linear in the pieces, through a loop's `@[irreducible]` trip theorem too), so they cover it. -/
theorem cover1_A_2 (c : Dev nD) (i : grid1.Coords) (arg2 : Memref sig .tc .vmem S64x2048 .f32) (harg2 : arg2.IsWhole) (arg3 : Memref sig .tc .vmem S18x128 .f32) (harg3 : arg3.IsWhole) (arg4 : Memref sig .tc .vmem S1x64x2048 .fp8e4m3) (harg4 : arg4.IsWhole) (arg5 : Memref sig .tc .vmem S1x1x128 .f32) (harg5 : arg5.IsWhole)
    (x0 : Vec F S64x2048 .f32) (x1 : Vec F S18x128 .f32) (y : S1x64x2048.Idx) :
    ∃ pc ∈ (kernelRun1_A c i arg2 harg2 arg3 harg3 arg4 harg4 arg5 harg5 x0 x1).1, y ∈ pc.1.set :=
  View.cover_of_tiledL (kernelRun1_A c i arg2 harg2 arg3 harg3 arg4 harg4 arg5 harg5 x0 x1).1 S1x64x2048.size (by sl_kernel_rfl) y

/-- What the run leaves in output 2's staging buffer: its pieces read back over junk. -/
def out1_A_2 (c : Dev nD) (i : grid1.Coords) (arg2 : Memref sig .tc .vmem S64x2048 .f32) (harg2 : arg2.IsWhole) (arg3 : Memref sig .tc .vmem S18x128 .f32) (harg3 : arg3.IsWhole) (arg4 : Memref sig .tc .vmem S1x64x2048 .fp8e4m3) (harg4 : arg4.IsWhole) (arg5 : Memref sig .tc .vmem S1x1x128 .f32) (harg5 : arg5.IsWhole)
    (x0 : Vec F S64x2048 .f32) (x1 : Vec F S18x128 .f32) : Vec F S1x64x2048 .fp8e4m3 :=
  VO1_2.read (Elt F) (VO1_2.writes (Elt F) VO1_2.junk (kernelRun1_A c i arg2 harg2 arg3 harg3 arg4 harg4 arg5 harg5 x0 x1).1)

/-- The run's pieces for output 3 tile its block (1 store of `S1x1x128`, checked by the kernel's evaluation: Lib/Ring.lean `Piece.tiledL`, linear in the pieces, through a loop's `@[irreducible]` trip theorem too), so they cover it. -/
theorem cover1_A_3 (c : Dev nD) (i : grid1.Coords) (arg2 : Memref sig .tc .vmem S64x2048 .f32) (harg2 : arg2.IsWhole) (arg3 : Memref sig .tc .vmem S18x128 .f32) (harg3 : arg3.IsWhole) (arg4 : Memref sig .tc .vmem S1x64x2048 .fp8e4m3) (harg4 : arg4.IsWhole) (arg5 : Memref sig .tc .vmem S1x1x128 .f32) (harg5 : arg5.IsWhole)
    (x0 : Vec F S64x2048 .f32) (x1 : Vec F S18x128 .f32) (y : S1x1x128.Idx) :
    ∃ pc ∈ (kernelRun1_A c i arg2 harg2 arg3 harg3 arg4 harg4 arg5 harg5 x0 x1).2.1, y ∈ pc.1.set :=
  View.cover_of_tiledL (kernelRun1_A c i arg2 harg2 arg3 harg3 arg4 harg4 arg5 harg5 x0 x1).2.1 S1x1x128.size (by sl_kernel_rfl) y

/-- What the run leaves in output 3's staging buffer: its pieces read back over junk. -/
def out1_A_3 (c : Dev nD) (i : grid1.Coords) (arg2 : Memref sig .tc .vmem S64x2048 .f32) (harg2 : arg2.IsWhole) (arg3 : Memref sig .tc .vmem S18x128 .f32) (harg3 : arg3.IsWhole) (arg4 : Memref sig .tc .vmem S1x64x2048 .fp8e4m3) (harg4 : arg4.IsWhole) (arg5 : Memref sig .tc .vmem S1x1x128 .f32) (harg5 : arg5.IsWhole)
    (x0 : Vec F S64x2048 .f32) (x1 : Vec F S18x128 .f32) : Vec F S1x1x128 .f32 :=
  VO1_3.read (Elt F) (VO1_3.writes (Elt F) VO1_3.junk (kernelRun1_A c i arg2 harg2 arg3 harg3 arg4 harg4 arg5 harg5 x0 x1).2.1)

/-! ## What the outputs hold after each point -/

/-- What the outputs' staging buffers hold after the body at point `t` (as a tuple, in window order): the run's contents at
    the point's memrefs and input blocks. -/
def outsAt1 (c : Dev nD) (t : Fin cfg1.N) : Vec F S1x64x2048 .fp8e4m3 × Vec F S1x1x128 .f32 :=
  (out1_A_2 c (grid1.coords t) (ms1_0 t) (hs1_0 t) (ms1_1 t) (hs1_1 t) (ms1_2 t) (hs1_2 t) (ms1_3 t) (hs1_3 t) (iblk1 V c 0 t) (iblk1 V c 1 t), out1_A_3 c (grid1.coords t) (ms1_0 t) (hs1_0 t) (ms1_1 t) (hs1_1 t) (ms1_2 t) (hs1_2 t) (ms1_3 t) (hs1_3 t) (iblk1 V c 0 t) (iblk1 V c 1 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- After a step of the second call the window of the head maxima holds its block unchanged. -/
theorem after1_1 (c : Dev nD) (t : Fin cfg1.N) : (dat1 V c).after 1 t = iblk1 V c 1 t := by dsimp only [dat1]
/-- After a step of the second call the window of the head codes holds what the step computes. -/
theorem after1_2 (c : Dev nD) (t : Fin cfg1.N) : (dat1 V c).after 2 t = (outsAt1 V c t).1 := by dsimp only [dat1]
/-- After a step of the second call the window of the head scales holds what the step computes. -/
theorem after1_3 (c : Dev nD) (t : Fin cfg1.N) : (dat1 V c).after 3 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- Before a step of the second call the window of the head maxima holds its block. -/
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  unfold outsAt1
  unfold out1_A_2 out1_A_3; (try dsimp only)
  iintro ⟨HΦ, Ho, ⟨%d0, H0⟩, ⟨%d1, H1⟩, ⟨%d2, H2⟩, ⟨%d3, H3⟩⟩
  iapply ((kernelRun1_A c (grid1.coords t) _ _ _ _ _ _ _ _ (iblk1 V c 0 t) (iblk1 V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover1_A_2 c _ _ _ _ _ _ _ _ _ _ _)
  unfold owns; iexists _; isplitr
  swap; · iexact H3
  ipureintro; exact View.read_writes_of_cover _ _ _ _ _ (cover1_A_3 c _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
/-- The host operations before the first call write only the arrays listed. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_v8, main_v9, main_v10, main_v11, main_v12, main_v13, main_v14, main_v15, main_v16, main_v17, main_v18]
/-- The host operations after the second call write only the arrays listed. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At the start the argument arrays hold what they held at first. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Before the first call the argument arrays hold what they held at first. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- After the first call the arrays of its windows hold what the pipeline leaves there. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The first call leaves an array that none of its windows is of as it was. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- After the first call the argument arrays hold what they held at first. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Outside the arrays of its windows the first call changes nothing. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
/-- After the second call the arrays of its windows hold what the pipeline leaves there. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- The second call leaves an array that none of its windows is of as it was. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- After the second call the argument arrays hold what they held at first. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- Outside the arrays of its windows the second call changes nothing. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- At the end the argument arrays hold what they held at first. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

/-- Argument 0 ends as it was. -/
theorem W4_main_arg0 (c : Dev nD) : W4 m ρ c (Proc.devRef .tc main_arg0) = m ((c : Thread nD τ).loc main_arg0) :=
  W4_args m ρ c main_arg0 (by decide)
/-- Argument 1 ends as it was. -/
theorem W4_main_arg1 (c : Dev nD) : W4 m ρ c (Proc.devRef .tc main_arg1) = m ((c : Thread nD τ).loc main_arg1) :=
  W4_args m ρ c main_arg1 (by decide)
/-- Argument 2 ends as it was. -/
theorem W4_main_arg2 (c : Dev nD) : W4 m ρ c (Proc.devRef .tc main_arg2) = m ((c : Thread nD τ).loc main_arg2) :=
  W4_args m ρ c main_arg2 (by decide)
/-- Argument 3 ends as it was. -/
theorem W4_main_arg3 (c : Dev nD) : W4 m ρ c (Proc.devRef .tc main_arg3) = m ((c : Thread nD τ).loc main_arg3) :=
  W4_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting, every
    unscoped buffer of a device ends at the contents `W4` folded through the segments, and every semaphore counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c => h c, funext fun g => hz g (.inr (no_unscoped g.2))⟩)

/-- THE FRAME: every execution terminates, the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c)⟩,
    h.2⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.KernelIdeal.Own

end
-- ==== Proof.Scale.lean ====
module

public import Idealize.ShloMosaic.PureOps.Ideal

/-!
# The power-of-two scale, on one number

The kernel finds the exponent field of a nonnegative number by a search through the eight exponent bits and
assembles `2 ^ e` and `2 ^ (-e)` from integer words.  The reference takes the exponent as a maximum over the
candidates and raises two to it.  This module proves that both give the same scale and the same inverse.
-/

@[expose] public section

noncomputable section

namespace Cert.Scale

open Idealize.ShloMosaic

/-- The extended real an f32 pattern denotes. -/
abbrev ofB (b : BitVec 32) : EReal := FloatOps.ofBits (F := Ideal) .f32 b

abbrev cmpE (p : CmpFPredicate) (x y : EReal) : BitVec 1 := FloatOps.cmpf (F := Ideal) (φ := .f32) p x y

/-! ## The kernel's side -/

/-- One step of the search: the bit `m` is kept where the candidate pattern is at most `s`. -/
def step (s : EReal) (bits m : BitVec 32) : BitVec 32 :=
  Scalar.select (cmpE .ole (ofB (IntOp.ori bits m)) s) (IntOp.ori bits m) bits

/-- The kernel's search through the eight exponent bits. -/
def search (s : EReal) : BitVec 32 :=
  step s (step s (step s (step s (step s (step s (step s (step s 0#32 1073741824#32) 536870912#32) 268435456#32) 134217728#32)
    67108864#32) 33554432#32) 16777216#32) 8388608#32

/-- No exponent: the field is zero or all ones. -/
def noExp (s : EReal) : BitVec 1 := IntOp.ori (IntOp.cmpi .eq (search s) 0#32) (IntOp.cmpi .eq (search s) 2139095040#32)

/-- The kernel's scale of `s`. -/
def kScale (s : EReal) : EReal := ofB (Scalar.select (noExp s) 1065353216#32 (IntOp.addi (search s) 8388608#32))

/-- The kernel's inverse scale of `s`. -/
def kInv (s : EReal) : EReal :=
  ofB (Scalar.select (noExp s) 1065353216#32 (IntOp.maxsi (IntOp.subi 2122317824#32 (search s)) 0#32))

/-! ## The reference's side -/

/-- `2 ^ e` with the limits of f32. -/
def pow2 (e : EReal) : EReal :=
  Scalar.select (cmpE .ogt e (ofB 0x42FE0000#32)) (ofB 0x7F800000#32)
    (Scalar.select (cmpE .olt e (ofB 0xC2FC0000#32)) (ofB 0x00000000#32) (FloatOps.exp2 (F := Ideal) (φ := .f32) e))

/-- The lane `j` of the reference's candidates: `j - 126`. -/
def lane (j : Nat) : EReal :=
  FloatOps.subf (F := Ideal) (φ := .f32) (FloatOps.sitofp (F := Ideal) .f32 (BitVec.ofNat 32 j)) (ofB 0x42FC0000#32)

/-- The candidate exponent of lane `j`. -/
def cand (s : EReal) (j : Nat) : EReal :=
  Scalar.select (cmpE .ole (FloatOps.exp2 (F := Ideal) (φ := .f32) (lane j)) s)
    (FloatOps.addf (F := Ideal) (φ := .f32) (lane j) (ofB 0x3F800000#32)) (ofB 0xFF800000#32)

/-- The greatest candidate. -/
def candMax (s : EReal) : EReal := Finset.univ.fold max (ofB 0xFF800000#32) fun j : Fin 254 => cand s j.val

/-- The exponent the reference takes for the maximum `a` with `s` its 448th part. -/
def refExp (a s : EReal) : EReal :=
  Scalar.select (cmpE .oeq a (ofB 0x00000000#32)) (ofB 0x00000000#32)
    (Scalar.select (IntOp.ori (cmpE .olt s (ofB 0x00800000#32)) (cmpE .oeq s (ofB 0x7F800000#32))) (ofB 0x00000000#32) (candMax s))

/-! ## Patterns -/

/-- The pattern of exponent field `E` and fraction zero. -/
def pat (E : Nat) : BitVec 32 := BitVec.ofNat 32 (E * 2 ^ 23)

/-- Sign, exponent and fraction fields of the pattern with exponent field `E`. -/
theorem pat_fields : ∀ E < 256, ((pat E).extractLsb' 31 1 == 1#1) = false ∧ ((pat E).extractLsb' 23 8).toNat = E
    ∧ ((pat E).extractLsb' 0 23).toNat = 0 := by decide +kernel

/-- The pattern with exponent field 0 is zero. -/
theorem ofB_pat_zero : ofB (pat 0) = 0 := by
  obtain ⟨h1, h2, h3⟩ := pat_fields 0 (by omega)
  show Ideal.ieee 8 23 (pat 0) = 0
  unfold Ideal.ieee
  simp only [show 8 + 23 = 31 from rfl, h1, h2, h3]
  norm_num

/-- The pattern with exponent field 255 is infinity. -/
theorem ofB_pat_top : ofB (pat 255) = ⊤ := by
  obtain ⟨h1, h2, h3⟩ := pat_fields 255 (by omega)
  show Ideal.ieee 8 23 (pat 255) = ⊤
  unfold Ideal.ieee
  simp only [show 8 + 23 = 31 from rfl, h1, h2, h3]
  norm_num

/-- The pattern with exponent field `E` between is two to the power `E - 127`. -/
theorem ofB_pat (E : Nat) (h0 : 0 < E) (h : E < 255) : ofB (pat E) = (((2 : ℝ) ^ ((E : ℤ) - 127) : ℝ) : EReal) := by
  obtain ⟨h1, h2, h3⟩ := pat_fields E (by omega)
  show Ideal.ieee 8 23 (pat E) = _
  unfold Ideal.ieee
  simp only [show 8 + 23 = 31 from rfl, h1, h2, h3]
  rw [if_neg (by omega), if_neg (by omega)]
  congr 1
  have : ((E : ℤ) - 127) = 23 + ((E : ℤ) - (2 ^ (8 - 1) - 1) - 23) := by norm_num
  rw [this, zpow_add₀ (by norm_num)]
  norm_num

/-- Setting a clear bit of the exponent field adds that bit to the field. -/
theorem ori_pat : ∀ k < 8, ∀ E < 256, E % 2 ^ (k + 1) = 0 → IntOp.ori (pat E) (BitVec.ofNat 32 (2 ^ (k + 23))) = pat (E + 2 ^ k) := by
  decide +kernel

/-- A selection on true takes the first value. -/
theorem select_one {α : Type} (a b : α) : Scalar.select 1#1 a b = a := rfl
/-- A selection on false takes the second value. -/
theorem select_zero {α : Type} (a b : α) : Scalar.select 0#1 a b = b := rfl

/-- The comparison `<=` is true when it holds. -/
theorem cmp_le {x y : EReal} (h : x ≤ y) : cmpE .ole x y = 1#1 := by
  show Ideal.cmp .ole x y = 1#1
  simp [Ideal.cmp, h]
/-- The comparison `<=` is false when it does not hold. -/
theorem cmp_not_le {x y : EReal} (h : y < x) : cmpE .ole x y = 0#1 := by
  show Ideal.cmp .ole x y = 0#1
  simp [Ideal.cmp, not_le.2, not_lt.2, h]
/-- The comparison `<` is true when it holds. -/
theorem cmp_lt {x y : EReal} (h : x < y) : cmpE .olt x y = 1#1 := by
  show Ideal.cmp .olt x y = 1#1
  simp [Ideal.cmp, h]
/-- The comparison `<` is false when it does not hold. -/
theorem cmp_not_lt {x y : EReal} (h : y ≤ x) : cmpE .olt x y = 0#1 := by
  show Ideal.cmp .olt x y = 0#1
  simp [Ideal.cmp, not_le.2, not_lt.2, h]
/-- The comparison `>` is true when it holds. -/
theorem cmp_gt {x y : EReal} (h : y < x) : cmpE .ogt x y = 1#1 := by
  show Ideal.cmp .ogt x y = 1#1
  simp [Ideal.cmp, h]
/-- The comparison `>` is false when it does not hold. -/
theorem cmp_not_gt {x y : EReal} (h : x ≤ y) : cmpE .ogt x y = 0#1 := by
  show Ideal.cmp .ogt x y = 0#1
  simp [Ideal.cmp, not_le.2, not_lt.2, h]
/-- The comparison for equality is true of equals. -/
theorem cmp_eq {x y : EReal} (h : x = y) : cmpE .oeq x y = 1#1 := by
  show Ideal.cmp .oeq x y = 1#1
  simp [Ideal.cmp, h]
/-- The comparison for equality is false of different values. -/
theorem cmp_ne {x y : EReal} (h : x ≠ y) : cmpE .oeq x y = 0#1 := by
  show Ideal.cmp .oeq x y = 0#1
  simp [Ideal.cmp, h]

/-- What holds of the bits before the step at `2 ^ k`: a multiple of `2 ^ k` with `s` between it and the next. -/
def Inv (s : EReal) (k : Nat) (b : BitVec 32) : Prop :=
  ∃ E, b = pat E ∧ E + 2 ^ k ≤ 256 ∧ E % 2 ^ k = 0 ∧ ofB (pat E) ≤ s ∧ (E + 2 ^ k < 256 → s < ofB (pat (E + 2 ^ k)))

/-- One step of the binary search keeps its invariant. -/
theorem Inv.step {s : EReal} {k : Nat} (hk : k < 8) {b : BitVec 32} (h : Inv s (k + 1) b) :
    Inv s k (step s b (BitVec.ofNat 32 (2 ^ (k + 23)))) := by
  obtain ⟨E, rfl, hE, hm, hl, hu⟩ := h
  have hp : 0 < 2 ^ k := by positivity
  have h2 : 2 ^ (k + 1) = 2 * 2 ^ k := by ring
  have hd : 2 ^ k ∣ E := (Dvd.intro_left 2 h2.symm).trans (Nat.dvd_of_mod_eq_zero hm)
  have ho := ori_pat k hk E (by omega) hm
  unfold Scale.step
  rw [ho]
  by_cases hc : ofB (pat (E + 2 ^ k)) ≤ s
  · rw [cmp_le hc, select_one]
    refine ⟨_, rfl, by omega, Nat.mod_eq_zero_of_dvd (hd.add (dvd_refl _)), hc, fun hlt => ?_⟩
    have e : E + 2 ^ k + 2 ^ k = E + 2 ^ (k + 1) := by omega
    rw [e]; exact hu (by omega)
  · rw [cmp_not_le (not_le.1 hc), select_zero]
    exact ⟨_, rfl, by omega, Nat.mod_eq_zero_of_dvd hd, hl, fun _ => not_le.1 hc⟩

/-- The search finds the exponent field of the greatest power of two (or zero, or infinity) that is at most `s`. -/
theorem search_spec (s : EReal) (hs : 0 ≤ s) :
    ∃ E, search s = pat E ∧ E ≤ 255 ∧ ofB (pat E) ≤ s ∧ (E < 255 → s < ofB (pat (E + 1))) := by
  have h8 : Inv s 8 0#32 := ⟨0, rfl, by norm_num, rfl, by rw [ofB_pat_zero]; exact hs, fun h => absurd h (by norm_num)⟩
  obtain ⟨E, h, a, _, b, c⟩ := (((((((h8.step (k := 7) (by omega)).step (k := 6) (by omega)).step (k := 5) (by omega)).step
    (k := 4) (by omega)).step (k := 3) (by omega)).step (k := 2) (by omega)).step (k := 1) (by omega)).step (k := 0) (by omega)
  exact ⟨E, h, by norm_num at a; omega, b, fun h => c (by norm_num; omega)⟩

/-! ## Constants -/

/-- The constant 0. -/
theorem c_zero : ofB 0x00000000#32 = 0 := ofB_pat_zero
/-- The constant infinity. -/
theorem c_top : ofB 0x7F800000#32 = ⊤ := ofB_pat_top
/-- The constant 1. -/
theorem c_one : ofB 0x3F800000#32 = 1 := by
  rw [show (0x3F800000#32 : BitVec 32) = pat 127 from rfl, ofB_pat 127 (by omega) (by omega)]; norm_num
/-- The smallest normal number is the pattern with exponent field 1. -/
theorem c_tiny : ofB 0x00800000#32 = ofB (pat 1) := congrArg ofB (by decide)
/-- The constant minus infinity. -/
theorem c_bot : ofB 0xFF800000#32 = ⊥ := by
  show Ideal.ieee 8 23 (0xFF800000#32 : BitVec 32) = _
  unfold Ideal.ieee
  have h1 : ((0xFF800000#32 : BitVec 32).extractLsb' 31 1 == 1#1) = true := by decide
  have h2 : ((0xFF800000#32 : BitVec 32).extractLsb' 23 8).toNat = 255 := by decide
  have h3 : ((0xFF800000#32 : BitVec 32).extractLsb' 0 23).toNat = 0 := by decide
  simp only [show 8 + 23 = 31 from rfl, h1, h2, h3]
  norm_num
/-- The constant 127. -/
theorem c_127 : ofB 0x42FE0000#32 = ((127 : ℝ) : EReal) := by
  show Ideal.ieee 8 23 (0x42FE0000#32 : BitVec 32) = _
  unfold Ideal.ieee
  have h1 : ((0x42FE0000#32 : BitVec 32).extractLsb' 31 1 == 1#1) = false := by decide
  have h2 : ((0x42FE0000#32 : BitVec 32).extractLsb' 23 8).toNat = 133 := by decide
  have h3 : ((0x42FE0000#32 : BitVec 32).extractLsb' 0 23).toNat = 8257536 := by decide
  simp only [show 8 + 23 = 31 from rfl, h1, h2, h3]
  norm_num
/-- The constant 126. -/
theorem c_126 : ofB 0x42FC0000#32 = ((126 : ℝ) : EReal) := by
  show Ideal.ieee 8 23 (0x42FC0000#32 : BitVec 32) = _
  unfold Ideal.ieee
  have h1 : ((0x42FC0000#32 : BitVec 32).extractLsb' 31 1 == 1#1) = false := by decide
  have h2 : ((0x42FC0000#32 : BitVec 32).extractLsb' 23 8).toNat = 133 := by decide
  have h3 : ((0x42FC0000#32 : BitVec 32).extractLsb' 0 23).toNat = 8126464 := by decide
  simp only [show 8 + 23 = 31 from rfl, h1, h2, h3]
  norm_num
/-- The constant -126. -/
theorem c_n126 : ofB 0xC2FC0000#32 = ((-126 : ℝ) : EReal) := by
  show Ideal.ieee 8 23 (0xC2FC0000#32 : BitVec 32) = _
  unfold Ideal.ieee
  have h1 : ((0xC2FC0000#32 : BitVec 32).extractLsb' 31 1 == 1#1) = true := by decide
  have h2 : ((0xC2FC0000#32 : BitVec 32).extractLsb' 23 8).toNat = 133 := by decide
  have h3 : ((0xC2FC0000#32 : BitVec 32).extractLsb' 0 23).toNat = 8126464 := by decide
  simp only [show 8 + 23 = 31 from rfl, h1, h2, h3]
  norm_num

/-! ## The reference's exponent -/

/-- The candidate exponent of lane `j` is `j - 126`. -/
theorem lane_eq (j : Nat) (hj : j < 254) : lane j = (((j : ℝ) - 126 : ℝ) : EReal) := by
  unfold lane
  rw [c_126]
  have : (BitVec.ofNat 32 j).toInt = (j : ℤ) := by
    rw [BitVec.toInt_eq_toNat_of_lt] <;> simp <;> omega
  show (((((BitVec.ofNat 32 j).toInt : ℤ) : ℝ) : EReal)) - ((126 : ℝ) : EReal) = _
  rw [this]
  norm_cast

/-- `exp2` of an integer is that power of two. -/
theorem exp2_int (z : ℤ) : FloatOps.exp2 (F := Ideal) (φ := .f32) (((z : ℝ)) : EReal) = (((2 : ℝ) ^ z : ℝ) : EReal) := by
  show (((Real.rpow 2 (z : ℝ)) : ℝ) : EReal) = _
  congr 1
  exact Real.rpow_intCast 2 z

/-- `exp2` of lane `j`'s exponent is the pattern with exponent field `j + 1`. -/
theorem exp2_lane (j : Nat) (hj : j < 254) : FloatOps.exp2 (F := Ideal) (φ := .f32) (lane j) = ofB (pat (j + 1)) := by
  rw [lane_eq j hj, ofB_pat (j + 1) (by omega) (by omega)]
  have : ((j : ℝ) - 126 : ℝ) = (((j : ℤ) - 126 : ℤ) : ℝ) := by push_cast; ring
  rw [this, exp2_int]
  congr 2
  push_cast; ring

/-- A larger exponent field is a larger number. -/
theorem pat_mono {a b : Nat} (h0 : 0 < a) (h : a ≤ b) (hb : b < 255) : ofB (pat a) ≤ ofB (pat b) := by
  rw [ofB_pat a h0 (by omega), ofB_pat b (by omega) hb]
  exact EReal.coe_le_coe_iff.2 (zpow_le_zpow_right₀ (by norm_num) (by omega))

/-- If `s` lies between the patterns of `E` and `E + 1`, the largest candidate of the reference is `E - 126`. -/
theorem candMax_eq (s : EReal) (E : Nat) (h0 : 0 < E) (h : E < 255) (hl : ofB (pat E) ≤ s) (hu : s < ofB (pat (E + 1))) :
    candMax s = (((E : ℝ) - 126 : ℝ) : EReal) := by
  have hc : ∀ j : Nat, j < 254 → cand s j = if j + 1 ≤ E then (((j : ℝ) + 1 - 126 : ℝ) : EReal) else ⊥ := by
    intro j hj
    unfold cand
    rw [exp2_lane j hj]
    by_cases hjE : j + 1 ≤ E
    · rw [cmp_le ((pat_mono (by omega) hjE h).trans hl), select_one, if_pos hjE, lane_eq j hj, c_one]
      show (((j : ℝ) - 126 : ℝ) : EReal) + 1 = _
      rw [← EReal.coe_one, ← EReal.coe_add]; congr 1; ring
    · rw [cmp_not_le (hu.trans_le (pat_mono (by omega) (by omega) (by omega))), select_zero, if_neg hjE, c_bot]
  unfold candMax
  rw [c_bot]
  apply le_antisymm
  · rw [Finset.fold_max_le]
    refine ⟨bot_le, fun j _ => ?_⟩
    rw [hc j.val j.isLt]
    split
    · next hj =>
      refine EReal.coe_le_coe_iff.2 ?_
      have : ((j.val + 1 : ℕ) : ℝ) ≤ E := by exact_mod_cast hj
      push_cast at this
      linarith
    · exact bot_le
  · rw [Finset.le_fold_max]
    refine Or.inr ⟨⟨E - 1, by omega⟩, Finset.mem_univ _, ?_⟩
    rw [hc (E - 1) (by omega), if_pos (by omega)]
    refine EReal.coe_le_coe_iff.2 ?_
    rw [Nat.cast_sub (by omega)]
    push_cast
    linarith

/-- The reference's power of two at 0 is 1. -/
theorem pow2_zero : pow2 0 = 1 := by
  unfold pow2
  rw [c_127, c_n126, cmp_not_gt (by exact_mod_cast (by norm_num : (0:ℝ) ≤ 127)), select_zero,
    cmp_not_lt (by exact_mod_cast (by norm_num : (-126:ℝ) ≤ 0)), select_zero]
  have := exp2_int 0
  simpa using this

/-- The reference's power of two within the range is two to that power. -/
theorem pow2_int (z : ℤ) (h1 : z ≤ 127) (h2 : -126 ≤ z) : pow2 ((z : ℝ) : EReal) = (((2 : ℝ) ^ z : ℝ) : EReal) := by
  unfold pow2
  rw [c_127, c_n126, cmp_not_gt (by exact_mod_cast h1), select_zero,
    cmp_not_lt (EReal.coe_le_coe_iff.2 (by exact_mod_cast h2)), select_zero, exp2_int]

/-- The reference's power of two is infinite above 127. -/
theorem pow2_big (z : ℤ) (h1 : 127 < z) : pow2 ((z : ℝ) : EReal) = ⊤ := by
  unfold pow2
  rw [c_127, cmp_gt (EReal.coe_lt_coe_iff.2 (by exact_mod_cast h1)), select_one, c_top]

/-- The reference's power of two is zero below -126. -/
theorem pow2_small (z : ℤ) (h1 : z < -126) : pow2 ((z : ℝ) : EReal) = 0 := by
  unfold pow2
  rw [c_127, c_n126, cmp_not_gt (EReal.coe_le_coe_iff.2 (by have : (z:ℝ) < -126 := by exact_mod_cast h1
                                                            linarith)), select_zero,
    cmp_lt (EReal.coe_lt_coe_iff.2 (by exact_mod_cast h1)), select_one, c_zero]

/-! ## The two sides -/

/-- The kernel's test for no exponent holds of the fields 0 and 255 alone. -/
theorem noExp_pat : ∀ E < 256, IntOp.ori (IntOp.cmpi .eq (pat E) 0#32) (IntOp.cmpi .eq (pat E) 2139095040#32)
    = if E = 0 ∨ E = 255 then 1#1 else 0#1 := by decide +kernel

/-- Adding one exponent bit goes to the next exponent field. -/
theorem scale_pat : ∀ E < 255, IntOp.addi (pat E) 8388608#32 = pat (E + 1) := by decide +kernel

/-- The kernel's integer for the inverse has exponent field `253 - E`, from zero. -/
theorem inv_pat : ∀ E < 255, IntOp.maxsi (IntOp.subi 2122317824#32 (pat E)) 0#32 = pat (253 - E) := by decide +kernel

/-- The kernel's scale and inverse scale are the reference's, for every nonnegative maximum. -/
theorem scales_eq (a s : EReal) (hs : 0 ≤ s) (ha : a = 0 → s = 0) :
    kScale s = pow2 (refExp a s) ∧ kInv s = pow2 (ofB 0x00000000#32 - refExp a s) := by
  obtain ⟨E, hE, hle, hl, hu⟩ := search_spec s hs
  unfold kScale kInv noExp
  rw [hE, noExp_pat E (by omega), c_zero]
  rcases Nat.eq_zero_or_pos E with rfl | h0
  · have hlt : s < ofB (pat 1) := hu (by omega)
    have hr : refExp a s = 0 := by
      unfold refExp
      rw [c_tiny, cmp_lt (x := s) hlt, c_zero]
      have : ∀ b, IntOp.ori (w := 1) 1#1 b = 1#1 := by decide
      rw [this, select_one]
      unfold Scalar.select
      split <;> rfl
    rw [hr, if_pos (Or.inl rfl), select_one, select_one, sub_zero, pow2_zero]
    exact ⟨c_one, c_one⟩
  rcases Nat.lt_or_ge E 255 with h | h
  · have hu := hu h
    have hpos : 0 < s := lt_of_lt_of_le (by
      rw [ofB_pat E h0 h]; exact_mod_cast (by positivity : (0:ℝ) < 2 ^ ((E:ℤ) - 127))) hl
    have hne : s ≠ ⊤ := ne_top_of_lt hu
    have hr : refExp a s = ((((E : ℤ) - 126 : ℤ) : ℝ) : EReal) := by
      unfold refExp
      rw [cmp_ne (x := a) (by rw [c_zero]; intro h; exact hpos.ne' (ha h)), select_zero, c_tiny,
        cmp_not_lt ((pat_mono (a := 1) (by omega) (by omega) h).trans hl), cmp_ne (x := s) (by rw [c_top]; exact hne)]
      rw [show IntOp.ori (w := 1) 0#1 0#1 = 0#1 from rfl, select_zero, candMax_eq s E h0 h hl hu]
      push_cast; rfl
    rw [hr, if_neg (by omega), select_zero, select_zero, scale_pat E h, inv_pat E h]
    have hneg : (0 : EReal) - ((((E : ℤ) - 126 : ℤ) : ℝ) : EReal) = (((126 - (E : ℤ) : ℤ) : ℝ) : EReal) := by
      rw [zero_sub, ← EReal.coe_neg]; congr 1; push_cast; ring
    rw [hneg]
    constructor
    · rcases Nat.lt_or_ge E 254 with h' | h'
      · rw [ofB_pat (E + 1) (by omega) (by omega), pow2_int _ (by omega) (by omega)]
        congr 2; push_cast; ring
      · obtain rfl : E = 254 := by omega
        rw [ofB_pat_top, pow2_big _ (by norm_num)]
    · rcases Nat.lt_or_ge E 253 with h' | h'
      · rw [ofB_pat (253 - E) (by omega) (by omega), pow2_int _ (by omega) (by omega)]
        congr 2; omega
      · rw [show 253 - E = 0 by omega, ofB_pat_zero, pow2_small _ (by omega)]
  · obtain rfl : E = 255 := by omega
    rw [ofB_pat_top] at hl
    obtain rfl : s = ⊤ := top_le_iff.1 hl
    have hr : refExp a ⊤ = 0 := by
      unfold refExp
      rw [cmp_eq (x := ⊤) c_top.symm, c_zero]
      have : ∀ b, IntOp.ori (w := 1) b 1#1 = 1#1 := by decide
      rw [this, select_one]
      unfold Scalar.select
      split <;> rfl
    rw [hr, if_pos (Or.inr rfl), select_one, select_one, sub_zero, pow2_zero]
    exact ⟨c_one, c_one⟩

end Cert.Scale
-- ==== Proof.KI.Trip.lean ====
module
public import proofs.«01_k».proof.Proof.KI.Frame
public import proofs.«01_k».proof.Proof.Scale
open Idealize.ShloMosaic Cert.KernelIdeal Cert.KernelIdeal.Gen
open Cert.KernelIdeal.Own.trip_k0_t1.sl

/-!
The lane loop of the projection kernel, one trip: its long unrolled body in a short form. Every fact here only
renames what the body computes.
-/
namespace Cert.KernelIdeal.Own
@[expose] public section
set_option maxRecDepth 16384
variable {F : FTy → Type} [FloatOps F]

/-- The sum of squares of a list of lane blocks, block by block from zero. -/
noncomputable def ssOf (us : List (Vec F S32x128 .bf16)) : FVec F S32x128 .f32 :=
  us.foldl (fun a u => addf a (mulf (k0_pay5 u) (k0_pay5 u))) (broadcast S32x128 (Scalar.ofBits .f32 0x00000000#32))

/-- The largest magnitude of a list of lane blocks times their gammas, block by block from zero. -/
noncomputable def mxOf (us : List (Vec F S32x128 .bf16 × Vec F S1x128 .f32)) : FVec F S32x128 .f32 :=
  us.foldl (fun a u => maximumf a (absf (k0_pay6 u.1 u.2))) (broadcast S32x128 (Scalar.ofBits .f32 0x00000000#32))

/-- The reciprocal root of the mean square. -/
noncomputable def rOf (ss : FVec F S32x128 .f32) : FVec F S32x1 .f32 :=
  rsqrt (addf (mulf (shapeCast S32x1 (multiReduction .add [1] S32 ss 0x00000000#32 reduces_S32x128_S32 (.inl rfl) rfl)
    shapeCasts_S32_S32x1) (broadcast S32x1 (Scalar.ofBits .f32 0x39000000#32)))
    (broadcast S32x1 (Scalar.ofBits .f32 0x358637BD#32)))

/-- The argument of the scale: the largest magnitude, normalised, over the largest code. -/
noncomputable def sOf (mx : FVec F S32x128 .f32) (r : FVec F S32x1 .f32) : FVec F S32x1 .f32 :=
  mulf (mulf (shapeCast S32x1 (multiReduction .maximumf [1] S32 mx 0xFF800000#32 reduces_S32x128_S32 (.inl rfl) rfl)
    shapeCasts_S32_S32x1) r) (broadcast S32x1 (Scalar.ofBits .f32 0x3B124925#32))

/-- One block of codes: a block of the scratch times the row multiplier, clipped and rounded. -/
noncomputable def codesOf (m : FVec F S32x128 .f32) (v : Vec F S32x128 .f32) : FVec F S32x128 .fp8e4m3 :=
  truncf .fp8e4m3 (minimumf (broadcast S32x128 (Scalar.ofBits .f32 0x43E00000#32))
    (maximumf (broadcast S32x128 (Scalar.ofBits .f32 0xC3E00000#32)) (mulf v m))) bitsLt_fp8e4m3_f32

variable (arg1 : Memref sig .tc .vmem S256x8192 .bf16) (arg2 : Memref sig .tc .vmem S1x8192 .f32)
  (arg9 : Memref sig .tc .vmem S32x8192 .f32)
  (X_arg1 : BufTy.Contents (Elt F) arg1.view.ty) (X_arg2 : BufTy.Contents (Elt F) arg2.view.ty)
  (k : Fin k0_t1_loop.trips)

/-- The 64 lane blocks of x a trip loads. -/
def xs64 : List (Vec F S32x128 .bf16) :=
  [(View.readAt (Elt F) arg1.view (Rect.unit (s := S256x8192) (k0_off1 k) S32x128.size (k0_off1_inb k)).toLoadRect X_arg1),
   (View.readAt (Elt F) arg1.view (Rect.unit (s := S256x8192) (k0_off2 k) S32x128.size (k0_off2_inb k)).toLoadRect X_arg1),
   (View.readAt (Elt F) arg1.view (Rect.unit (s := S256x8192) (k0_off3 k) S32x128.size (k0_off3_inb k)).toLoadRect X_arg1),
   (View.readAt (Elt F) arg1.view (Rect.unit (s := S256x8192) (k0_off4 k) S32x128.size (k0_off4_inb k)).toLoadRect X_arg1),
   (View.readAt (Elt F) arg1.view (Rect.unit (s := S256x8192) (k0_off5 k) S32x128.size (k0_off5_inb k)).toLoadRect X_arg1),
   (View.readAt (Elt F) arg1.view (Rect.unit (s := S256x8192) (k0_off6 k) S32x128.size (k0_off6_inb k)).toLoadRect X_arg1),
   (View.readAt (Elt F) arg1.view (Rect.unit (s := S256x8192) (k0_off7 k) S32x128.size (k0_off7_inb k)).toLoadRect X_arg1),
   (View.readAt (Elt F) arg1.view (Rect.unit (s := S256x8192) (k0_off8 k) S32x128.size (k0_off8_inb k)).toLoadRect X_arg1),
   (View.readAt (Elt F) arg1.view (Rect.unit (s := S256x8192) (k0_off9 k) S32x128.size (k0_off9_inb k)).toLoadRect X_arg1),
   (View.readAt (Elt F) arg1.view (Rect.unit (s := S256x8192) (k0_off10 k) S32x128.size (k0_off10_inb k)).toLoadRect X_arg1),
   (View.readAt (Elt F) arg1.view (Rect.unit (s := S256x8192) (k0_off11 k) S32x128.size (k0_off11_inb k)).toLoadRect X_arg1),
   (View.readAt (Elt F) arg1.view (Rect.unit (s := S256x8192) (k0_off12 k) S32x128.size (k0_off12_inb k)).toLoadRect X_arg1),
   (View.readAt (Elt F) arg1.view (Rect.unit (s := S256x8192) (k0_off13 k) S32x128.size (k0_off13_inb k)).toLoadRect X_arg1),
   (View.readAt (Elt F) arg1.view (Rect.unit (s := S256x8192) (k0_off14 k) S32x128.size (k0_off14_inb k)).toLoadRect X_arg1),
   (View.readAt (Elt F) arg1.view (Rect.unit (s := S256x8192) (k0_off15 k) S32x128.size (k0_off15_inb k)).toLoadRect X_arg1),
   (View.readAt (Elt F) arg1.view (Rect.unit (s := S256x8192) (k0_off16 k) S32x128.size (k0_off16_inb k)).toLoadRect X_arg1),
   (View.readAt (Elt F) arg1.view (Rect.unit (s := S256x8192) (k0_off17 k) S32x128.size (k0_off17_inb k)).toLoadRect X_arg1),
   (View.readAt (Elt F) arg1.view (Rect.unit (s := S256x8192) (k0_off18 k) S32x128.size (k0_off18_inb k)).toLoadRect X_arg1),
   (View.readAt (Elt F) arg1.view (Rect.unit (s := S256x8192) (k0_off19 k) S32x128.size (k0_off19_inb k)).toLoadRect X_arg1),
   (View.readAt (Elt F) arg1.view (Rect.unit (s := S256x8192) (k0_off20 k) S32x128.size (k0_off20_inb k)).toLoadRect X_arg1),
   (View.readAt (Elt F) arg1.view (Rect.unit (s := S256x8192) (k0_off21 k) S32x128.size (k0_off21_inb k)).toLoadRect X_arg1),
   (View.readAt (Elt F) arg1.view (Rect.unit (s := S256x8192) (k0_off22 k) S32x128.size (k0_off22_inb k)).toLoadRect X_arg1),
   (View.readAt (Elt F) arg1.view (Rect.unit (s := S256x8192) (k0_off23 k) S32x128.size (k0_off23_inb k)).toLoadRect X_arg1),
   (View.readAt (Elt F) arg1.view (Rect.unit (s := S256x8192) (k0_off24 k) S32x128.size (k0_off24_inb k)).toLoadRect X_arg1),
   (View.readAt (Elt F) arg1.view (Rect.unit (s := S256x8192) (k0_off25 k) S32x128.size (k0_off25_inb k)).toLoadRect X_arg1),
   (View.readAt (Elt F) arg1.view (Rect.unit (s := S256x8192) (k0_off26 k) S32x128.size (k0_off26_inb k)).toLoadRect X_arg1),
   (View.readAt (Elt F) arg1.view (Rect.unit (s := S256x8192) (k0_off27 k) S32x128.size (k0_off27_inb k)).toLoadRect X_arg1),
   (View.readAt (Elt F) arg1.view (Rect.unit (s := S256x8192) (k0_off28 k) S32x128.size (k0_off28_inb k)).toLoadRect X_arg1),
   (View.readAt (Elt F) arg1.view (Rect.unit (s := S256x8192) (k0_off29 k) S32x128.size (k0_off29_inb k)).toLoadRect X_arg1),
   (View.readAt (Elt F) arg1.view (Rect.unit (s := S256x8192) (k0_off30 k) S32x128.size (k0_off30_inb k)).toLoadRect X_arg1),
   (View.readAt (Elt F) arg1.view (Rect.unit (s := S256x8192) (k0_off31 k) S32x128.size (k0_off31_inb k)).toLoadRect X_arg1),
   (View.readAt (Elt F) arg1.view (Rect.unit (s := S256x8192) (k0_off32 k) S32x128.size (k0_off32_inb k)).toLoadRect X_arg1),
   (View.readAt (Elt F) arg1.view (Rect.unit (s := S256x8192) (k0_off33 k) S32x128.size (k0_off33_inb k)).toLoadRect X_arg1),
   (View.readAt (Elt F) arg1.view (Rect.unit (s := S256x8192) (k0_off34 k) S32x128.size (k0_off34_inb k)).toLoadRect X_arg1),
   (View.readAt (Elt F) arg1.view (Rect.unit (s := S256x8192) (k0_off35 k) S32x128.size (k0_off35_inb k)).toLoadRect X_arg1),
   (View.readAt (Elt F) arg1.view (Rect.unit (s := S256x8192) (k0_off36 k) S32x128.size (k0_off36_inb k)).toLoadRect X_arg1),
   (View.readAt (Elt F) arg1.view (Rect.unit (s := S256x8192) (k0_off37 k) S32x128.size (k0_off37_inb k)).toLoadRect X_arg1),
   (View.readAt (Elt F) arg1.view (Rect.unit (s := S256x8192) (k0_off38 k) S32x128.size (k0_off38_inb k)).toLoadRect X_arg1),
   (View.readAt (Elt F) arg1.view (Rect.unit (s := S256x8192) (k0_off39 k) S32x128.size (k0_off39_inb k)).toLoadRect X_arg1),
   (View.readAt (Elt F) arg1.view (Rect.unit (s := S256x8192) (k0_off40 k) S32x128.size (k0_off40_inb k)).toLoadRect X_arg1),
   (View.readAt (Elt F) arg1.view (Rect.unit (s := S256x8192) (k0_off41 k) S32x128.size (k0_off41_inb k)).toLoadRect X_arg1),
   (View.readAt (Elt F) arg1.view (Rect.unit (s := S256x8192) (k0_off42 k) S32x128.size (k0_off42_inb k)).toLoadRect X_arg1),
   (View.readAt (Elt F) arg1.view (Rect.unit (s := S256x8192) (k0_off43 k) S32x128.size (k0_off43_inb k)).toLoadRect X_arg1),
   (View.readAt (Elt F) arg1.view (Rect.unit (s := S256x8192) (k0_off44 k) S32x128.size (k0_off44_inb k)).toLoadRect X_arg1),
   (View.readAt (Elt F) arg1.view (Rect.unit (s := S256x8192) (k0_off45 k) S32x128.size (k0_off45_inb k)).toLoadRect X_arg1),
   (View.readAt (Elt F) arg1.view (Rect.unit (s := S256x8192) (k0_off46 k) S32x128.size (k0_off46_inb k)).toLoadRect X_arg1),
   (View.readAt (Elt F) arg1.view (Rect.unit (s := S256x8192) (k0_off47 k) S32x128.size (k0_off47_inb k)).toLoadRect X_arg1),
   (View.readAt (Elt F) arg1.view (Rect.unit (s := S256x8192) (k0_off48 k) S32x128.size (k0_off48_inb k)).toLoadRect X_arg1),
   (View.readAt (Elt F) arg1.view (Rect.unit (s := S256x8192) (k0_off49 k) S32x128.size (k0_off49_inb k)).toLoadRect X_arg1),
   (View.readAt (Elt F) arg1.view (Rect.unit (s := S256x8192) (k0_off50 k) S32x128.size (k0_off50_inb k)).toLoadRect X_arg1),
   (View.readAt (Elt F) arg1.view (Rect.unit (s := S256x8192) (k0_off51 k) S32x128.size (k0_off51_inb k)).toLoadRect X_arg1),
   (View.readAt (Elt F) arg1.view (Rect.unit (s := S256x8192) (k0_off52 k) S32x128.size (k0_off52_inb k)).toLoadRect X_arg1),
   (View.readAt (Elt F) arg1.view (Rect.unit (s := S256x8192) (k0_off53 k) S32x128.size (k0_off53_inb k)).toLoadRect X_arg1),
   (View.readAt (Elt F) arg1.view (Rect.unit (s := S256x8192) (k0_off54 k) S32x128.size (k0_off54_inb k)).toLoadRect X_arg1),
   (View.readAt (Elt F) arg1.view (Rect.unit (s := S256x8192) (k0_off55 k) S32x128.size (k0_off55_inb k)).toLoadRect X_arg1),
   (View.readAt (Elt F) arg1.view (Rect.unit (s := S256x8192) (k0_off56 k) S32x128.size (k0_off56_inb k)).toLoadRect X_arg1),
   (View.readAt (Elt F) arg1.view (Rect.unit (s := S256x8192) (k0_off57 k) S32x128.size (k0_off57_inb k)).toLoadRect X_arg1),
   (View.readAt (Elt F) arg1.view (Rect.unit (s := S256x8192) (k0_off58 k) S32x128.size (k0_off58_inb k)).toLoadRect X_arg1),
   (View.readAt (Elt F) arg1.view (Rect.unit (s := S256x8192) (k0_off59 k) S32x128.size (k0_off59_inb k)).toLoadRect X_arg1),
   (View.readAt (Elt F) arg1.view (Rect.unit (s := S256x8192) (k0_off60 k) S32x128.size (k0_off60_inb k)).toLoadRect X_arg1),
   (View.readAt (Elt F) arg1.view (Rect.unit (s := S256x8192) (k0_off61 k) S32x128.size (k0_off61_inb k)).toLoadRect X_arg1),
   (View.readAt (Elt F) arg1.view (Rect.unit (s := S256x8192) (k0_off62 k) S32x128.size (k0_off62_inb k)).toLoadRect X_arg1),
   (View.readAt (Elt F) arg1.view (Rect.unit (s := S256x8192) (k0_off63 k) S32x128.size (k0_off63_inb k)).toLoadRect X_arg1),
   (View.readAt (Elt F) arg1.view (Rect.unit (s := S256x8192) (k0_off64 k) S32x128.size (k0_off64_inb k)).toLoadRect X_arg1)]

/-- The 64 lane blocks of x a trip loads, each with its gammas. -/
def xg64 : List (Vec F S32x128 .bf16 × Vec F S1x128 .f32) :=
  [((View.readAt (Elt F) arg1.view (Rect.unit (s := S256x8192) (k0_off1 k) S32x128.size (k0_off1_inb k)).toLoadRect X_arg1),
    (View.readAt (Elt F) arg2.view (Rect.unit (s := S1x8192) ![0, 0] S1x128.size inb_S1x8192_S1x128_0_0).toLoadRect X_arg2)),
   ((View.readAt (Elt F) arg1.view (Rect.unit (s := S256x8192) (k0_off2 k) S32x128.size (k0_off2_inb k)).toLoadRect X_arg1),
    (View.readAt (Elt F) arg2.view (Rect.unit (s := S1x8192) ![0, 128] S1x128.size inb_S1x8192_S1x128_0_128).toLoadRect X_arg2)),
   ((View.readAt (Elt F) arg1.view (Rect.unit (s := S256x8192) (k0_off3 k) S32x128.size (k0_off3_inb k)).toLoadRect X_arg1),
    (View.readAt (Elt F) arg2.view (Rect.unit (s := S1x8192) ![0, 256] S1x128.size inb_S1x8192_S1x128_0_256).toLoadRect X_arg2)),
   ((View.readAt (Elt F) arg1.view (Rect.unit (s := S256x8192) (k0_off4 k) S32x128.size (k0_off4_inb k)).toLoadRect X_arg1),
    (View.readAt (Elt F) arg2.view (Rect.unit (s := S1x8192) ![0, 384] S1x128.size inb_S1x8192_S1x128_0_384).toLoadRect X_arg2)),
   ((View.readAt (Elt F) arg1.view (Rect.unit (s := S256x8192) (k0_off5 k) S32x128.size (k0_off5_inb k)).toLoadRect X_arg1),
    (View.readAt (Elt F) arg2.view (Rect.unit (s := S1x8192) ![0, 512] S1x128.size inb_S1x8192_S1x128_0_512).toLoadRect X_arg2)),
   ((View.readAt (Elt F) arg1.view (Rect.unit (s := S256x8192) (k0_off6 k) S32x128.size (k0_off6_inb k)).toLoadRect X_arg1),
    (View.readAt (Elt F) arg2.view (Rect.unit (s := S1x8192) ![0, 640] S1x128.size inb_S1x8192_S1x128_0_640).toLoadRect X_arg2)),
   ((View.readAt (Elt F) arg1.view (Rect.unit (s := S256x8192) (k0_off7 k) S32x128.size (k0_off7_inb k)).toLoadRect X_arg1),
    (View.readAt (Elt F) arg2.view (Rect.unit (s := S1x8192) ![0, 768] S1x128.size inb_S1x8192_S1x128_0_768).toLoadRect X_arg2)),
   ((View.readAt (Elt F) arg1.view (Rect.unit (s := S256x8192) (k0_off8 k) S32x128.size (k0_off8_inb k)).toLoadRect X_arg1),
    (View.readAt (Elt F) arg2.view (Rect.unit (s := S1x8192) ![0, 896] S1x128.size inb_S1x8192_S1x128_0_896).toLoadRect X_arg2)),
   ((View.readAt (Elt F) arg1.view (Rect.unit (s := S256x8192) (k0_off9 k) S32x128.size (k0_off9_inb k)).toLoadRect X_arg1),
    (View.readAt (Elt F) arg2.view (Rect.unit (s := S1x8192) ![0, 1024] S1x128.size inb_S1x8192_S1x128_0_1024).toLoadRect X_arg2)),
   ((View.readAt (Elt F) arg1.view (Rect.unit (s := S256x8192) (k0_off10 k) S32x128.size (k0_off10_inb k)).toLoadRect X_arg1),
    (View.readAt (Elt F) arg2.view (Rect.unit (s := S1x8192) ![0, 1152] S1x128.size inb_S1x8192_S1x128_0_1152).toLoadRect X_arg2)),
   ((View.readAt (Elt F) arg1.view (Rect.unit (s := S256x8192) (k0_off11 k) S32x128.size (k0_off11_inb k)).toLoadRect X_arg1),
    (View.readAt (Elt F) arg2.view (Rect.unit (s := S1x8192) ![0, 1280] S1x128.size inb_S1x8192_S1x128_0_1280).toLoadRect X_arg2)),
   ((View.readAt (Elt F) arg1.view (Rect.unit (s := S256x8192) (k0_off12 k) S32x128.size (k0_off12_inb k)).toLoadRect X_arg1),
    (View.readAt (Elt F) arg2.view (Rect.unit (s := S1x8192) ![0, 1408] S1x128.size inb_S1x8192_S1x128_0_1408).toLoadRect X_arg2)),
   ((View.readAt (Elt F) arg1.view (Rect.unit (s := S256x8192) (k0_off13 k) S32x128.size (k0_off13_inb k)).toLoadRect X_arg1),
    (View.readAt (Elt F) arg2.view (Rect.unit (s := S1x8192) ![0, 1536] S1x128.size inb_S1x8192_S1x128_0_1536).toLoadRect X_arg2)),
   ((View.readAt (Elt F) arg1.view (Rect.unit (s := S256x8192) (k0_off14 k) S32x128.size (k0_off14_inb k)).toLoadRect X_arg1),
    (View.readAt (Elt F) arg2.view (Rect.unit (s := S1x8192) ![0, 1664] S1x128.size inb_S1x8192_S1x128_0_1664).toLoadRect X_arg2)),
   ((View.readAt (Elt F) arg1.view (Rect.unit (s := S256x8192) (k0_off15 k) S32x128.size (k0_off15_inb k)).toLoadRect X_arg1),
    (View.readAt (Elt F) arg2.view (Rect.unit (s := S1x8192) ![0, 1792] S1x128.size inb_S1x8192_S1x128_0_1792).toLoadRect X_arg2)),
   ((View.readAt (Elt F) arg1.view (Rect.unit (s := S256x8192) (k0_off16 k) S32x128.size (k0_off16_inb k)).toLoadRect X_arg1),
    (View.readAt (Elt F) arg2.view (Rect.unit (s := S1x8192) ![0, 1920] S1x128.size inb_S1x8192_S1x128_0_1920).toLoadRect X_arg2)),
   ((View.readAt (Elt F) arg1.view (Rect.unit (s := S256x8192) (k0_off17 k) S32x128.size (k0_off17_inb k)).toLoadRect X_arg1),
    (View.readAt (Elt F) arg2.view (Rect.unit (s := S1x8192) ![0, 2048] S1x128.size inb_S1x8192_S1x128_0_2048).toLoadRect X_arg2)),
   ((View.readAt (Elt F) arg1.view (Rect.unit (s := S256x8192) (k0_off18 k) S32x128.size (k0_off18_inb k)).toLoadRect X_arg1),
    (View.readAt (Elt F) arg2.view (Rect.unit (s := S1x8192) ![0, 2176] S1x128.size inb_S1x8192_S1x128_0_2176).toLoadRect X_arg2)),
   ((View.readAt (Elt F) arg1.view (Rect.unit (s := S256x8192) (k0_off19 k) S32x128.size (k0_off19_inb k)).toLoadRect X_arg1),
    (View.readAt (Elt F) arg2.view (Rect.unit (s := S1x8192) ![0, 2304] S1x128.size inb_S1x8192_S1x128_0_2304).toLoadRect X_arg2)),
   ((View.readAt (Elt F) arg1.view (Rect.unit (s := S256x8192) (k0_off20 k) S32x128.size (k0_off20_inb k)).toLoadRect X_arg1),
    (View.readAt (Elt F) arg2.view (Rect.unit (s := S1x8192) ![0, 2432] S1x128.size inb_S1x8192_S1x128_0_2432).toLoadRect X_arg2)),
   ((View.readAt (Elt F) arg1.view (Rect.unit (s := S256x8192) (k0_off21 k) S32x128.size (k0_off21_inb k)).toLoadRect X_arg1),
    (View.readAt (Elt F) arg2.view (Rect.unit (s := S1x8192) ![0, 2560] S1x128.size inb_S1x8192_S1x128_0_2560).toLoadRect X_arg2)),
   ((View.readAt (Elt F) arg1.view (Rect.unit (s := S256x8192) (k0_off22 k) S32x128.size (k0_off22_inb k)).toLoadRect X_arg1),
    (View.readAt (Elt F) arg2.view (Rect.unit (s := S1x8192) ![0, 2688] S1x128.size inb_S1x8192_S1x128_0_2688).toLoadRect X_arg2)),
   ((View.readAt (Elt F) arg1.view (Rect.unit (s := S256x8192) (k0_off23 k) S32x128.size (k0_off23_inb k)).toLoadRect X_arg1),
    (View.readAt (Elt F) arg2.view (Rect.unit (s := S1x8192) ![0, 2816] S1x128.size inb_S1x8192_S1x128_0_2816).toLoadRect X_arg2)),
   ((View.readAt (Elt F) arg1.view (Rect.unit (s := S256x8192) (k0_off24 k) S32x128.size (k0_off24_inb k)).toLoadRect X_arg1),
    (View.readAt (Elt F) arg2.view (Rect.unit (s := S1x8192) ![0, 2944] S1x128.size inb_S1x8192_S1x128_0_2944).toLoadRect X_arg2)),
   ((View.readAt (Elt F) arg1.view (Rect.unit (s := S256x8192) (k0_off25 k) S32x128.size (k0_off25_inb k)).toLoadRect X_arg1),
    (View.readAt (Elt F) arg2.view (Rect.unit (s := S1x8192) ![0, 3072] S1x128.size inb_S1x8192_S1x128_0_3072).toLoadRect X_arg2)),
   ((View.readAt (Elt F) arg1.view (Rect.unit (s := S256x8192) (k0_off26 k) S32x128.size (k0_off26_inb k)).toLoadRect X_arg1),
    (View.readAt (Elt F) arg2.view (Rect.unit (s := S1x8192) ![0, 3200] S1x128.size inb_S1x8192_S1x128_0_3200).toLoadRect X_arg2)),
   ((View.readAt (Elt F) arg1.view (Rect.unit (s := S256x8192) (k0_off27 k) S32x128.size (k0_off27_inb k)).toLoadRect X_arg1),
    (View.readAt (Elt F) arg2.view (Rect.unit (s := S1x8192) ![0, 3328] S1x128.size inb_S1x8192_S1x128_0_3328).toLoadRect X_arg2)),
   ((View.readAt (Elt F) arg1.view (Rect.unit (s := S256x8192) (k0_off28 k) S32x128.size (k0_off28_inb k)).toLoadRect X_arg1),
    (View.readAt (Elt F) arg2.view (Rect.unit (s := S1x8192) ![0, 3456] S1x128.size inb_S1x8192_S1x128_0_3456).toLoadRect X_arg2)),
   ((View.readAt (Elt F) arg1.view (Rect.unit (s := S256x8192) (k0_off29 k) S32x128.size (k0_off29_inb k)).toLoadRect X_arg1),
    (View.readAt (Elt F) arg2.view (Rect.unit (s := S1x8192) ![0, 3584] S1x128.size inb_S1x8192_S1x128_0_3584).toLoadRect X_arg2)),
   ((View.readAt (Elt F) arg1.view (Rect.unit (s := S256x8192) (k0_off30 k) S32x128.size (k0_off30_inb k)).toLoadRect X_arg1),
    (View.readAt (Elt F) arg2.view (Rect.unit (s := S1x8192) ![0, 3712] S1x128.size inb_S1x8192_S1x128_0_3712).toLoadRect X_arg2)),
   ((View.readAt (Elt F) arg1.view (Rect.unit (s := S256x8192) (k0_off31 k) S32x128.size (k0_off31_inb k)).toLoadRect X_arg1),
    (View.readAt (Elt F) arg2.view (Rect.unit (s := S1x8192) ![0, 3840] S1x128.size inb_S1x8192_S1x128_0_3840).toLoadRect X_arg2)),
   ((View.readAt (Elt F) arg1.view (Rect.unit (s := S256x8192) (k0_off32 k) S32x128.size (k0_off32_inb k)).toLoadRect X_arg1),
    (View.readAt (Elt F) arg2.view (Rect.unit (s := S1x8192) ![0, 3968] S1x128.size inb_S1x8192_S1x128_0_3968).toLoadRect X_arg2)),
   ((View.readAt (Elt F) arg1.view (Rect.unit (s := S256x8192) (k0_off33 k) S32x128.size (k0_off33_inb k)).toLoadRect X_arg1),
    (View.readAt (Elt F) arg2.view (Rect.unit (s := S1x8192) ![0, 4096] S1x128.size inb_S1x8192_S1x128_0_4096).toLoadRect X_arg2)),
   ((View.readAt (Elt F) arg1.view (Rect.unit (s := S256x8192) (k0_off34 k) S32x128.size (k0_off34_inb k)).toLoadRect X_arg1),
    (View.readAt (Elt F) arg2.view (Rect.unit (s := S1x8192) ![0, 4224] S1x128.size inb_S1x8192_S1x128_0_4224).toLoadRect X_arg2)),
   ((View.readAt (Elt F) arg1.view (Rect.unit (s := S256x8192) (k0_off35 k) S32x128.size (k0_off35_inb k)).toLoadRect X_arg1),
    (View.readAt (Elt F) arg2.view (Rect.unit (s := S1x8192) ![0, 4352] S1x128.size inb_S1x8192_S1x128_0_4352).toLoadRect X_arg2)),
   ((View.readAt (Elt F) arg1.view (Rect.unit (s := S256x8192) (k0_off36 k) S32x128.size (k0_off36_inb k)).toLoadRect X_arg1),
    (View.readAt (Elt F) arg2.view (Rect.unit (s := S1x8192) ![0, 4480] S1x128.size inb_S1x8192_S1x128_0_4480).toLoadRect X_arg2)),
   ((View.readAt (Elt F) arg1.view (Rect.unit (s := S256x8192) (k0_off37 k) S32x128.size (k0_off37_inb k)).toLoadRect X_arg1),
    (View.readAt (Elt F) arg2.view (Rect.unit (s := S1x8192) ![0, 4608] S1x128.size inb_S1x8192_S1x128_0_4608).toLoadRect X_arg2)),
   ((View.readAt (Elt F) arg1.view (Rect.unit (s := S256x8192) (k0_off38 k) S32x128.size (k0_off38_inb k)).toLoadRect X_arg1),
    (View.readAt (Elt F) arg2.view (Rect.unit (s := S1x8192) ![0, 4736] S1x128.size inb_S1x8192_S1x128_0_4736).toLoadRect X_arg2)),
   ((View.readAt (Elt F) arg1.view (Rect.unit (s := S256x8192) (k0_off39 k) S32x128.size (k0_off39_inb k)).toLoadRect X_arg1),
    (View.readAt (Elt F) arg2.view (Rect.unit (s := S1x8192) ![0, 4864] S1x128.size inb_S1x8192_S1x128_0_4864).toLoadRect X_arg2)),
   ((View.readAt (Elt F) arg1.view (Rect.unit (s := S256x8192) (k0_off40 k) S32x128.size (k0_off40_inb k)).toLoadRect X_arg1),
    (View.readAt (Elt F) arg2.view (Rect.unit (s := S1x8192) ![0, 4992] S1x128.size inb_S1x8192_S1x128_0_4992).toLoadRect X_arg2)),
   ((View.readAt (Elt F) arg1.view (Rect.unit (s := S256x8192) (k0_off41 k) S32x128.size (k0_off41_inb k)).toLoadRect X_arg1),
    (View.readAt (Elt F) arg2.view (Rect.unit (s := S1x8192) ![0, 5120] S1x128.size inb_S1x8192_S1x128_0_5120).toLoadRect X_arg2)),
   ((View.readAt (Elt F) arg1.view (Rect.unit (s := S256x8192) (k0_off42 k) S32x128.size (k0_off42_inb k)).toLoadRect X_arg1),
    (View.readAt (Elt F) arg2.view (Rect.unit (s := S1x8192) ![0, 5248] S1x128.size inb_S1x8192_S1x128_0_5248).toLoadRect X_arg2)),
   ((View.readAt (Elt F) arg1.view (Rect.unit (s := S256x8192) (k0_off43 k) S32x128.size (k0_off43_inb k)).toLoadRect X_arg1),
    (View.readAt (Elt F) arg2.view (Rect.unit (s := S1x8192) ![0, 5376] S1x128.size inb_S1x8192_S1x128_0_5376).toLoadRect X_arg2)),
   ((View.readAt (Elt F) arg1.view (Rect.unit (s := S256x8192) (k0_off44 k) S32x128.size (k0_off44_inb k)).toLoadRect X_arg1),
    (View.readAt (Elt F) arg2.view (Rect.unit (s := S1x8192) ![0, 5504] S1x128.size inb_S1x8192_S1x128_0_5504).toLoadRect X_arg2)),
   ((View.readAt (Elt F) arg1.view (Rect.unit (s := S256x8192) (k0_off45 k) S32x128.size (k0_off45_inb k)).toLoadRect X_arg1),
    (View.readAt (Elt F) arg2.view (Rect.unit (s := S1x8192) ![0, 5632] S1x128.size inb_S1x8192_S1x128_0_5632).toLoadRect X_arg2)),
   ((View.readAt (Elt F) arg1.view (Rect.unit (s := S256x8192) (k0_off46 k) S32x128.size (k0_off46_inb k)).toLoadRect X_arg1),
    (View.readAt (Elt F) arg2.view (Rect.unit (s := S1x8192) ![0, 5760] S1x128.size inb_S1x8192_S1x128_0_5760).toLoadRect X_arg2)),
   ((View.readAt (Elt F) arg1.view (Rect.unit (s := S256x8192) (k0_off47 k) S32x128.size (k0_off47_inb k)).toLoadRect X_arg1),
    (View.readAt (Elt F) arg2.view (Rect.unit (s := S1x8192) ![0, 5888] S1x128.size inb_S1x8192_S1x128_0_5888).toLoadRect X_arg2)),
   ((View.readAt (Elt F) arg1.view (Rect.unit (s := S256x8192) (k0_off48 k) S32x128.size (k0_off48_inb k)).toLoadRect X_arg1),
    (View.readAt (Elt F) arg2.view (Rect.unit (s := S1x8192) ![0, 6016] S1x128.size inb_S1x8192_S1x128_0_6016).toLoadRect X_arg2)),
   ((View.readAt (Elt F) arg1.view (Rect.unit (s := S256x8192) (k0_off49 k) S32x128.size (k0_off49_inb k)).toLoadRect X_arg1),
    (View.readAt (Elt F) arg2.view (Rect.unit (s := S1x8192) ![0, 6144] S1x128.size inb_S1x8192_S1x128_0_6144).toLoadRect X_arg2)),
   ((View.readAt (Elt F) arg1.view (Rect.unit (s := S256x8192) (k0_off50 k) S32x128.size (k0_off50_inb k)).toLoadRect X_arg1),
    (View.readAt (Elt F) arg2.view (Rect.unit (s := S1x8192) ![0, 6272] S1x128.size inb_S1x8192_S1x128_0_6272).toLoadRect X_arg2)),
   ((View.readAt (Elt F) arg1.view (Rect.unit (s := S256x8192) (k0_off51 k) S32x128.size (k0_off51_inb k)).toLoadRect X_arg1),
    (View.readAt (Elt F) arg2.view (Rect.unit (s := S1x8192) ![0, 6400] S1x128.size inb_S1x8192_S1x128_0_6400).toLoadRect X_arg2)),
   ((View.readAt (Elt F) arg1.view (Rect.unit (s := S256x8192) (k0_off52 k) S32x128.size (k0_off52_inb k)).toLoadRect X_arg1),
    (View.readAt (Elt F) arg2.view (Rect.unit (s := S1x8192) ![0, 6528] S1x128.size inb_S1x8192_S1x128_0_6528).toLoadRect X_arg2)),
   ((View.readAt (Elt F) arg1.view (Rect.unit (s := S256x8192) (k0_off53 k) S32x128.size (k0_off53_inb k)).toLoadRect X_arg1),
    (View.readAt (Elt F) arg2.view (Rect.unit (s := S1x8192) ![0, 6656] S1x128.size inb_S1x8192_S1x128_0_6656).toLoadRect X_arg2)),
   ((View.readAt (Elt F) arg1.view (Rect.unit (s := S256x8192) (k0_off54 k) S32x128.size (k0_off54_inb k)).toLoadRect X_arg1),
    (View.readAt (Elt F) arg2.view (Rect.unit (s := S1x8192) ![0, 6784] S1x128.size inb_S1x8192_S1x128_0_6784).toLoadRect X_arg2)),
   ((View.readAt (Elt F) arg1.view (Rect.unit (s := S256x8192) (k0_off55 k) S32x128.size (k0_off55_inb k)).toLoadRect X_arg1),
    (View.readAt (Elt F) arg2.view (Rect.unit (s := S1x8192) ![0, 6912] S1x128.size inb_S1x8192_S1x128_0_6912).toLoadRect X_arg2)),
   ((View.readAt (Elt F) arg1.view (Rect.unit (s := S256x8192) (k0_off56 k) S32x128.size (k0_off56_inb k)).toLoadRect X_arg1),
    (View.readAt (Elt F) arg2.view (Rect.unit (s := S1x8192) ![0, 7040] S1x128.size inb_S1x8192_S1x128_0_7040).toLoadRect X_arg2)),
   ((View.readAt (Elt F) arg1.view (Rect.unit (s := S256x8192) (k0_off57 k) S32x128.size (k0_off57_inb k)).toLoadRect X_arg1),
    (View.readAt (Elt F) arg2.view (Rect.unit (s := S1x8192) ![0, 7168] S1x128.size inb_S1x8192_S1x128_0_7168).toLoadRect X_arg2)),
   ((View.readAt (Elt F) arg1.view (Rect.unit (s := S256x8192) (k0_off58 k) S32x128.size (k0_off58_inb k)).toLoadRect X_arg1),
    (View.readAt (Elt F) arg2.view (Rect.unit (s := S1x8192) ![0, 7296] S1x128.size inb_S1x8192_S1x128_0_7296).toLoadRect X_arg2)),
   ((View.readAt (Elt F) arg1.view (Rect.unit (s := S256x8192) (k0_off59 k) S32x128.size (k0_off59_inb k)).toLoadRect X_arg1),
    (View.readAt (Elt F) arg2.view (Rect.unit (s := S1x8192) ![0, 7424] S1x128.size inb_S1x8192_S1x128_0_7424).toLoadRect X_arg2)),
   ((View.readAt (Elt F) arg1.view (Rect.unit (s := S256x8192) (k0_off60 k) S32x128.size (k0_off60_inb k)).toLoadRect X_arg1),
    (View.readAt (Elt F) arg2.view (Rect.unit (s := S1x8192) ![0, 7552] S1x128.size inb_S1x8192_S1x128_0_7552).toLoadRect X_arg2)),
   ((View.readAt (Elt F) arg1.view (Rect.unit (s := S256x8192) (k0_off61 k) S32x128.size (k0_off61_inb k)).toLoadRect X_arg1),
    (View.readAt (Elt F) arg2.view (Rect.unit (s := S1x8192) ![0, 7680] S1x128.size inb_S1x8192_S1x128_0_7680).toLoadRect X_arg2)),
   ((View.readAt (Elt F) arg1.view (Rect.unit (s := S256x8192) (k0_off62 k) S32x128.size (k0_off62_inb k)).toLoadRect X_arg1),
    (View.readAt (Elt F) arg2.view (Rect.unit (s := S1x8192) ![0, 7808] S1x128.size inb_S1x8192_S1x128_0_7808).toLoadRect X_arg2)),
   ((View.readAt (Elt F) arg1.view (Rect.unit (s := S256x8192) (k0_off63 k) S32x128.size (k0_off63_inb k)).toLoadRect X_arg1),
    (View.readAt (Elt F) arg2.view (Rect.unit (s := S1x8192) ![0, 7936] S1x128.size inb_S1x8192_S1x128_0_7936).toLoadRect X_arg2)),
   ((View.readAt (Elt F) arg1.view (Rect.unit (s := S256x8192) (k0_off64 k) S32x128.size (k0_off64_inb k)).toLoadRect X_arg1),
    (View.readAt (Elt F) arg2.view (Rect.unit (s := S1x8192) ![0, 8064] S1x128.size inb_S1x8192_S1x128_0_8064).toLoadRect X_arg2))]

/-- The reciprocal root of a trip's rows, from the sums of squares. -/
theorem r76_eq : r_76 arg1 X_arg1 k = rOf (ssOf (xs64 arg1 X_arg1 k)) := by sl_kernel_rfl
/-- The argument of the scale of a trip's rows, from maxima and reciprocal root. -/
theorem r77_eq : r_77 arg1 arg2 X_arg1 X_arg2 k = sOf (mxOf (xg64 arg1 arg2 X_arg1 X_arg2 k)) (r_76 arg1 X_arg1 k) := by sl_kernel_rfl

/-- What a trip leaves in the scratch, last first. -/
noncomputable def hw64 : List (View.Piece (Elt F) S32x8192 .f32) :=
  ⟨Rect.unit (s := S32x8192) ![0, 8064] S32x128.size inb_S32x8192_S32x128_0_8064, k0_pay7 (View.readAt (Elt F) arg1.view (Rect.unit (s := S256x8192) (k0_off64 k) S32x128.size (k0_off64_inb k)).toLoadRect X_arg1)
    (View.readAt (Elt F) arg2.view (Rect.unit (s := S1x8192) ![0, 8064] S1x128.size inb_S1x8192_S1x128_0_8064).toLoadRect X_arg2)⟩ ::
   ⟨Rect.unit (s := S32x8192) ![0, 7936] S32x128.size inb_S32x8192_S32x128_0_7936, k0_pay7 (View.readAt (Elt F) arg1.view (Rect.unit (s := S256x8192) (k0_off63 k) S32x128.size (k0_off63_inb k)).toLoadRect X_arg1)
    (View.readAt (Elt F) arg2.view (Rect.unit (s := S1x8192) ![0, 7936] S1x128.size inb_S1x8192_S1x128_0_7936).toLoadRect X_arg2)⟩ ::
   ⟨Rect.unit (s := S32x8192) ![0, 7808] S32x128.size inb_S32x8192_S32x128_0_7808, k0_pay7 (View.readAt (Elt F) arg1.view (Rect.unit (s := S256x8192) (k0_off62 k) S32x128.size (k0_off62_inb k)).toLoadRect X_arg1)
    (View.readAt (Elt F) arg2.view (Rect.unit (s := S1x8192) ![0, 7808] S1x128.size inb_S1x8192_S1x128_0_7808).toLoadRect X_arg2)⟩ ::
   ⟨Rect.unit (s := S32x8192) ![0, 7680] S32x128.size inb_S32x8192_S32x128_0_7680, k0_pay7 (View.readAt (Elt F) arg1.view (Rect.unit (s := S256x8192) (k0_off61 k) S32x128.size (k0_off61_inb k)).toLoadRect X_arg1)
    (View.readAt (Elt F) arg2.view (Rect.unit (s := S1x8192) ![0, 7680] S1x128.size inb_S1x8192_S1x128_0_7680).toLoadRect X_arg2)⟩ ::
   ⟨Rect.unit (s := S32x8192) ![0, 7552] S32x128.size inb_S32x8192_S32x128_0_7552, k0_pay7 (View.readAt (Elt F) arg1.view (Rect.unit (s := S256x8192) (k0_off60 k) S32x128.size (k0_off60_inb k)).toLoadRect X_arg1)
    (View.readAt (Elt F) arg2.view (Rect.unit (s := S1x8192) ![0, 7552] S1x128.size inb_S1x8192_S1x128_0_7552).toLoadRect X_arg2)⟩ ::
   ⟨Rect.unit (s := S32x8192) ![0, 7424] S32x128.size inb_S32x8192_S32x128_0_7424, k0_pay7 (View.readAt (Elt F) arg1.view (Rect.unit (s := S256x8192) (k0_off59 k) S32x128.size (k0_off59_inb k)).toLoadRect X_arg1)
    (View.readAt (Elt F) arg2.view (Rect.unit (s := S1x8192) ![0, 7424] S1x128.size inb_S1x8192_S1x128_0_7424).toLoadRect X_arg2)⟩ ::
   ⟨Rect.unit (s := S32x8192) ![0, 7296] S32x128.size inb_S32x8192_S32x128_0_7296, k0_pay7 (View.readAt (Elt F) arg1.view (Rect.unit (s := S256x8192) (k0_off58 k) S32x128.size (k0_off58_inb k)).toLoadRect X_arg1)
    (View.readAt (Elt F) arg2.view (Rect.unit (s := S1x8192) ![0, 7296] S1x128.size inb_S1x8192_S1x128_0_7296).toLoadRect X_arg2)⟩ ::
   ⟨Rect.unit (s := S32x8192) ![0, 7168] S32x128.size inb_S32x8192_S32x128_0_7168, k0_pay7 (View.readAt (Elt F) arg1.view (Rect.unit (s := S256x8192) (k0_off57 k) S32x128.size (k0_off57_inb k)).toLoadRect X_arg1)
    (View.readAt (Elt F) arg2.view (Rect.unit (s := S1x8192) ![0, 7168] S1x128.size inb_S1x8192_S1x128_0_7168).toLoadRect X_arg2)⟩ ::
   ⟨Rect.unit (s := S32x8192) ![0, 7040] S32x128.size inb_S32x8192_S32x128_0_7040, k0_pay7 (View.readAt (Elt F) arg1.view (Rect.unit (s := S256x8192) (k0_off56 k) S32x128.size (k0_off56_inb k)).toLoadRect X_arg1)
    (View.readAt (Elt F) arg2.view (Rect.unit (s := S1x8192) ![0, 7040] S1x128.size inb_S1x8192_S1x128_0_7040).toLoadRect X_arg2)⟩ ::
   ⟨Rect.unit (s := S32x8192) ![0, 6912] S32x128.size inb_S32x8192_S32x128_0_6912, k0_pay7 (View.readAt (Elt F) arg1.view (Rect.unit (s := S256x8192) (k0_off55 k) S32x128.size (k0_off55_inb k)).toLoadRect X_arg1)
    (View.readAt (Elt F) arg2.view (Rect.unit (s := S1x8192) ![0, 6912] S1x128.size inb_S1x8192_S1x128_0_6912).toLoadRect X_arg2)⟩ ::
   ⟨Rect.unit (s := S32x8192) ![0, 6784] S32x128.size inb_S32x8192_S32x128_0_6784, k0_pay7 (View.readAt (Elt F) arg1.view (Rect.unit (s := S256x8192) (k0_off54 k) S32x128.size (k0_off54_inb k)).toLoadRect X_arg1)
    (View.readAt (Elt F) arg2.view (Rect.unit (s := S1x8192) ![0, 6784] S1x128.size inb_S1x8192_S1x128_0_6784).toLoadRect X_arg2)⟩ ::
   ⟨Rect.unit (s := S32x8192) ![0, 6656] S32x128.size inb_S32x8192_S32x128_0_6656, k0_pay7 (View.readAt (Elt F) arg1.view (Rect.unit (s := S256x8192) (k0_off53 k) S32x128.size (k0_off53_inb k)).toLoadRect X_arg1)
    (View.readAt (Elt F) arg2.view (Rect.unit (s := S1x8192) ![0, 6656] S1x128.size inb_S1x8192_S1x128_0_6656).toLoadRect X_arg2)⟩ ::
   ⟨Rect.unit (s := S32x8192) ![0, 6528] S32x128.size inb_S32x8192_S32x128_0_6528, k0_pay7 (View.readAt (Elt F) arg1.view (Rect.unit (s := S256x8192) (k0_off52 k) S32x128.size (k0_off52_inb k)).toLoadRect X_arg1)
    (View.readAt (Elt F) arg2.view (Rect.unit (s := S1x8192) ![0, 6528] S1x128.size inb_S1x8192_S1x128_0_6528).toLoadRect X_arg2)⟩ ::
   ⟨Rect.unit (s := S32x8192) ![0, 6400] S32x128.size inb_S32x8192_S32x128_0_6400, k0_pay7 (View.readAt (Elt F) arg1.view (Rect.unit (s := S256x8192) (k0_off51 k) S32x128.size (k0_off51_inb k)).toLoadRect X_arg1)
    (View.readAt (Elt F) arg2.view (Rect.unit (s := S1x8192) ![0, 6400] S1x128.size inb_S1x8192_S1x128_0_6400).toLoadRect X_arg2)⟩ ::
   ⟨Rect.unit (s := S32x8192) ![0, 6272] S32x128.size inb_S32x8192_S32x128_0_6272, k0_pay7 (View.readAt (Elt F) arg1.view (Rect.unit (s := S256x8192) (k0_off50 k) S32x128.size (k0_off50_inb k)).toLoadRect X_arg1)
    (View.readAt (Elt F) arg2.view (Rect.unit (s := S1x8192) ![0, 6272] S1x128.size inb_S1x8192_S1x128_0_6272).toLoadRect X_arg2)⟩ ::
   ⟨Rect.unit (s := S32x8192) ![0, 6144] S32x128.size inb_S32x8192_S32x128_0_6144, k0_pay7 (View.readAt (Elt F) arg1.view (Rect.unit (s := S256x8192) (k0_off49 k) S32x128.size (k0_off49_inb k)).toLoadRect X_arg1)
    (View.readAt (Elt F) arg2.view (Rect.unit (s := S1x8192) ![0, 6144] S1x128.size inb_S1x8192_S1x128_0_6144).toLoadRect X_arg2)⟩ ::
   ⟨Rect.unit (s := S32x8192) ![0, 6016] S32x128.size inb_S32x8192_S32x128_0_6016, k0_pay7 (View.readAt (Elt F) arg1.view (Rect.unit (s := S256x8192) (k0_off48 k) S32x128.size (k0_off48_inb k)).toLoadRect X_arg1)
    (View.readAt (Elt F) arg2.view (Rect.unit (s := S1x8192) ![0, 6016] S1x128.size inb_S1x8192_S1x128_0_6016).toLoadRect X_arg2)⟩ ::
   ⟨Rect.unit (s := S32x8192) ![0, 5888] S32x128.size inb_S32x8192_S32x128_0_5888, k0_pay7 (View.readAt (Elt F) arg1.view (Rect.unit (s := S256x8192) (k0_off47 k) S32x128.size (k0_off47_inb k)).toLoadRect X_arg1)
    (View.readAt (Elt F) arg2.view (Rect.unit (s := S1x8192) ![0, 5888] S1x128.size inb_S1x8192_S1x128_0_5888).toLoadRect X_arg2)⟩ ::
   ⟨Rect.unit (s := S32x8192) ![0, 5760] S32x128.size inb_S32x8192_S32x128_0_5760, k0_pay7 (View.readAt (Elt F) arg1.view (Rect.unit (s := S256x8192) (k0_off46 k) S32x128.size (k0_off46_inb k)).toLoadRect X_arg1)
    (View.readAt (Elt F) arg2.view (Rect.unit (s := S1x8192) ![0, 5760] S1x128.size inb_S1x8192_S1x128_0_5760).toLoadRect X_arg2)⟩ ::
   ⟨Rect.unit (s := S32x8192) ![0, 5632] S32x128.size inb_S32x8192_S32x128_0_5632, k0_pay7 (View.readAt (Elt F) arg1.view (Rect.unit (s := S256x8192) (k0_off45 k) S32x128.size (k0_off45_inb k)).toLoadRect X_arg1)
    (View.readAt (Elt F) arg2.view (Rect.unit (s := S1x8192) ![0, 5632] S1x128.size inb_S1x8192_S1x128_0_5632).toLoadRect X_arg2)⟩ ::
   ⟨Rect.unit (s := S32x8192) ![0, 5504] S32x128.size inb_S32x8192_S32x128_0_5504, k0_pay7 (View.readAt (Elt F) arg1.view (Rect.unit (s := S256x8192) (k0_off44 k) S32x128.size (k0_off44_inb k)).toLoadRect X_arg1)
    (View.readAt (Elt F) arg2.view (Rect.unit (s := S1x8192) ![0, 5504] S1x128.size inb_S1x8192_S1x128_0_5504).toLoadRect X_arg2)⟩ ::
   ⟨Rect.unit (s := S32x8192) ![0, 5376] S32x128.size inb_S32x8192_S32x128_0_5376, k0_pay7 (View.readAt (Elt F) arg1.view (Rect.unit (s := S256x8192) (k0_off43 k) S32x128.size (k0_off43_inb k)).toLoadRect X_arg1)
    (View.readAt (Elt F) arg2.view (Rect.unit (s := S1x8192) ![0, 5376] S1x128.size inb_S1x8192_S1x128_0_5376).toLoadRect X_arg2)⟩ ::
   ⟨Rect.unit (s := S32x8192) ![0, 5248] S32x128.size inb_S32x8192_S32x128_0_5248, k0_pay7 (View.readAt (Elt F) arg1.view (Rect.unit (s := S256x8192) (k0_off42 k) S32x128.size (k0_off42_inb k)).toLoadRect X_arg1)
    (View.readAt (Elt F) arg2.view (Rect.unit (s := S1x8192) ![0, 5248] S1x128.size inb_S1x8192_S1x128_0_5248).toLoadRect X_arg2)⟩ ::
   ⟨Rect.unit (s := S32x8192) ![0, 5120] S32x128.size inb_S32x8192_S32x128_0_5120, k0_pay7 (View.readAt (Elt F) arg1.view (Rect.unit (s := S256x8192) (k0_off41 k) S32x128.size (k0_off41_inb k)).toLoadRect X_arg1)
    (View.readAt (Elt F) arg2.view (Rect.unit (s := S1x8192) ![0, 5120] S1x128.size inb_S1x8192_S1x128_0_5120).toLoadRect X_arg2)⟩ ::
   ⟨Rect.unit (s := S32x8192) ![0, 4992] S32x128.size inb_S32x8192_S32x128_0_4992, k0_pay7 (View.readAt (Elt F) arg1.view (Rect.unit (s := S256x8192) (k0_off40 k) S32x128.size (k0_off40_inb k)).toLoadRect X_arg1)
    (View.readAt (Elt F) arg2.view (Rect.unit (s := S1x8192) ![0, 4992] S1x128.size inb_S1x8192_S1x128_0_4992).toLoadRect X_arg2)⟩ ::
   ⟨Rect.unit (s := S32x8192) ![0, 4864] S32x128.size inb_S32x8192_S32x128_0_4864, k0_pay7 (View.readAt (Elt F) arg1.view (Rect.unit (s := S256x8192) (k0_off39 k) S32x128.size (k0_off39_inb k)).toLoadRect X_arg1)
    (View.readAt (Elt F) arg2.view (Rect.unit (s := S1x8192) ![0, 4864] S1x128.size inb_S1x8192_S1x128_0_4864).toLoadRect X_arg2)⟩ ::
   ⟨Rect.unit (s := S32x8192) ![0, 4736] S32x128.size inb_S32x8192_S32x128_0_4736, k0_pay7 (View.readAt (Elt F) arg1.view (Rect.unit (s := S256x8192) (k0_off38 k) S32x128.size (k0_off38_inb k)).toLoadRect X_arg1)
    (View.readAt (Elt F) arg2.view (Rect.unit (s := S1x8192) ![0, 4736] S1x128.size inb_S1x8192_S1x128_0_4736).toLoadRect X_arg2)⟩ ::
   ⟨Rect.unit (s := S32x8192) ![0, 4608] S32x128.size inb_S32x8192_S32x128_0_4608, k0_pay7 (View.readAt (Elt F) arg1.view (Rect.unit (s := S256x8192) (k0_off37 k) S32x128.size (k0_off37_inb k)).toLoadRect X_arg1)
    (View.readAt (Elt F) arg2.view (Rect.unit (s := S1x8192) ![0, 4608] S1x128.size inb_S1x8192_S1x128_0_4608).toLoadRect X_arg2)⟩ ::
   ⟨Rect.unit (s := S32x8192) ![0, 4480] S32x128.size inb_S32x8192_S32x128_0_4480, k0_pay7 (View.readAt (Elt F) arg1.view (Rect.unit (s := S256x8192) (k0_off36 k) S32x128.size (k0_off36_inb k)).toLoadRect X_arg1)
    (View.readAt (Elt F) arg2.view (Rect.unit (s := S1x8192) ![0, 4480] S1x128.size inb_S1x8192_S1x128_0_4480).toLoadRect X_arg2)⟩ ::
   ⟨Rect.unit (s := S32x8192) ![0, 4352] S32x128.size inb_S32x8192_S32x128_0_4352, k0_pay7 (View.readAt (Elt F) arg1.view (Rect.unit (s := S256x8192) (k0_off35 k) S32x128.size (k0_off35_inb k)).toLoadRect X_arg1)
    (View.readAt (Elt F) arg2.view (Rect.unit (s := S1x8192) ![0, 4352] S1x128.size inb_S1x8192_S1x128_0_4352).toLoadRect X_arg2)⟩ ::
   ⟨Rect.unit (s := S32x8192) ![0, 4224] S32x128.size inb_S32x8192_S32x128_0_4224, k0_pay7 (View.readAt (Elt F) arg1.view (Rect.unit (s := S256x8192) (k0_off34 k) S32x128.size (k0_off34_inb k)).toLoadRect X_arg1)
    (View.readAt (Elt F) arg2.view (Rect.unit (s := S1x8192) ![0, 4224] S1x128.size inb_S1x8192_S1x128_0_4224).toLoadRect X_arg2)⟩ ::
   ⟨Rect.unit (s := S32x8192) ![0, 4096] S32x128.size inb_S32x8192_S32x128_0_4096, k0_pay7 (View.readAt (Elt F) arg1.view (Rect.unit (s := S256x8192) (k0_off33 k) S32x128.size (k0_off33_inb k)).toLoadRect X_arg1)
    (View.readAt (Elt F) arg2.view (Rect.unit (s := S1x8192) ![0, 4096] S1x128.size inb_S1x8192_S1x128_0_4096).toLoadRect X_arg2)⟩ ::
   ⟨Rect.unit (s := S32x8192) ![0, 3968] S32x128.size inb_S32x8192_S32x128_0_3968, k0_pay7 (View.readAt (Elt F) arg1.view (Rect.unit (s := S256x8192) (k0_off32 k) S32x128.size (k0_off32_inb k)).toLoadRect X_arg1)
    (View.readAt (Elt F) arg2.view (Rect.unit (s := S1x8192) ![0, 3968] S1x128.size inb_S1x8192_S1x128_0_3968).toLoadRect X_arg2)⟩ ::
   ⟨Rect.unit (s := S32x8192) ![0, 3840] S32x128.size inb_S32x8192_S32x128_0_3840, k0_pay7 (View.readAt (Elt F) arg1.view (Rect.unit (s := S256x8192) (k0_off31 k) S32x128.size (k0_off31_inb k)).toLoadRect X_arg1)
    (View.readAt (Elt F) arg2.view (Rect.unit (s := S1x8192) ![0, 3840] S1x128.size inb_S1x8192_S1x128_0_3840).toLoadRect X_arg2)⟩ ::
   ⟨Rect.unit (s := S32x8192) ![0, 3712] S32x128.size inb_S32x8192_S32x128_0_3712, k0_pay7 (View.readAt (Elt F) arg1.view (Rect.unit (s := S256x8192) (k0_off30 k) S32x128.size (k0_off30_inb k)).toLoadRect X_arg1)
    (View.readAt (Elt F) arg2.view (Rect.unit (s := S1x8192) ![0, 3712] S1x128.size inb_S1x8192_S1x128_0_3712).toLoadRect X_arg2)⟩ ::
   ⟨Rect.unit (s := S32x8192) ![0, 3584] S32x128.size inb_S32x8192_S32x128_0_3584, k0_pay7 (View.readAt (Elt F) arg1.view (Rect.unit (s := S256x8192) (k0_off29 k) S32x128.size (k0_off29_inb k)).toLoadRect X_arg1)
    (View.readAt (Elt F) arg2.view (Rect.unit (s := S1x8192) ![0, 3584] S1x128.size inb_S1x8192_S1x128_0_3584).toLoadRect X_arg2)⟩ ::
   ⟨Rect.unit (s := S32x8192) ![0, 3456] S32x128.size inb_S32x8192_S32x128_0_3456, k0_pay7 (View.readAt (Elt F) arg1.view (Rect.unit (s := S256x8192) (k0_off28 k) S32x128.size (k0_off28_inb k)).toLoadRect X_arg1)
    (View.readAt (Elt F) arg2.view (Rect.unit (s := S1x8192) ![0, 3456] S1x128.size inb_S1x8192_S1x128_0_3456).toLoadRect X_arg2)⟩ ::
   ⟨Rect.unit (s := S32x8192) ![0, 3328] S32x128.size inb_S32x8192_S32x128_0_3328, k0_pay7 (View.readAt (Elt F) arg1.view (Rect.unit (s := S256x8192) (k0_off27 k) S32x128.size (k0_off27_inb k)).toLoadRect X_arg1)
    (View.readAt (Elt F) arg2.view (Rect.unit (s := S1x8192) ![0, 3328] S1x128.size inb_S1x8192_S1x128_0_3328).toLoadRect X_arg2)⟩ ::
   ⟨Rect.unit (s := S32x8192) ![0, 3200] S32x128.size inb_S32x8192_S32x128_0_3200, k0_pay7 (View.readAt (Elt F) arg1.view (Rect.unit (s := S256x8192) (k0_off26 k) S32x128.size (k0_off26_inb k)).toLoadRect X_arg1)
    (View.readAt (Elt F) arg2.view (Rect.unit (s := S1x8192) ![0, 3200] S1x128.size inb_S1x8192_S1x128_0_3200).toLoadRect X_arg2)⟩ ::
   ⟨Rect.unit (s := S32x8192) ![0, 3072] S32x128.size inb_S32x8192_S32x128_0_3072, k0_pay7 (View.readAt (Elt F) arg1.view (Rect.unit (s := S256x8192) (k0_off25 k) S32x128.size (k0_off25_inb k)).toLoadRect X_arg1)
    (View.readAt (Elt F) arg2.view (Rect.unit (s := S1x8192) ![0, 3072] S1x128.size inb_S1x8192_S1x128_0_3072).toLoadRect X_arg2)⟩ ::
   ⟨Rect.unit (s := S32x8192) ![0, 2944] S32x128.size inb_S32x8192_S32x128_0_2944, k0_pay7 (View.readAt (Elt F) arg1.view (Rect.unit (s := S256x8192) (k0_off24 k) S32x128.size (k0_off24_inb k)).toLoadRect X_arg1)
    (View.readAt (Elt F) arg2.view (Rect.unit (s := S1x8192) ![0, 2944] S1x128.size inb_S1x8192_S1x128_0_2944).toLoadRect X_arg2)⟩ ::
   ⟨Rect.unit (s := S32x8192) ![0, 2816] S32x128.size inb_S32x8192_S32x128_0_2816, k0_pay7 (View.readAt (Elt F) arg1.view (Rect.unit (s := S256x8192) (k0_off23 k) S32x128.size (k0_off23_inb k)).toLoadRect X_arg1)
    (View.readAt (Elt F) arg2.view (Rect.unit (s := S1x8192) ![0, 2816] S1x128.size inb_S1x8192_S1x128_0_2816).toLoadRect X_arg2)⟩ ::
   ⟨Rect.unit (s := S32x8192) ![0, 2688] S32x128.size inb_S32x8192_S32x128_0_2688, k0_pay7 (View.readAt (Elt F) arg1.view (Rect.unit (s := S256x8192) (k0_off22 k) S32x128.size (k0_off22_inb k)).toLoadRect X_arg1)
    (View.readAt (Elt F) arg2.view (Rect.unit (s := S1x8192) ![0, 2688] S1x128.size inb_S1x8192_S1x128_0_2688).toLoadRect X_arg2)⟩ ::
   ⟨Rect.unit (s := S32x8192) ![0, 2560] S32x128.size inb_S32x8192_S32x128_0_2560, k0_pay7 (View.readAt (Elt F) arg1.view (Rect.unit (s := S256x8192) (k0_off21 k) S32x128.size (k0_off21_inb k)).toLoadRect X_arg1)
    (View.readAt (Elt F) arg2.view (Rect.unit (s := S1x8192) ![0, 2560] S1x128.size inb_S1x8192_S1x128_0_2560).toLoadRect X_arg2)⟩ ::
   ⟨Rect.unit (s := S32x8192) ![0, 2432] S32x128.size inb_S32x8192_S32x128_0_2432, k0_pay7 (View.readAt (Elt F) arg1.view (Rect.unit (s := S256x8192) (k0_off20 k) S32x128.size (k0_off20_inb k)).toLoadRect X_arg1)
    (View.readAt (Elt F) arg2.view (Rect.unit (s := S1x8192) ![0, 2432] S1x128.size inb_S1x8192_S1x128_0_2432).toLoadRect X_arg2)⟩ ::
   ⟨Rect.unit (s := S32x8192) ![0, 2304] S32x128.size inb_S32x8192_S32x128_0_2304, k0_pay7 (View.readAt (Elt F) arg1.view (Rect.unit (s := S256x8192) (k0_off19 k) S32x128.size (k0_off19_inb k)).toLoadRect X_arg1)
    (View.readAt (Elt F) arg2.view (Rect.unit (s := S1x8192) ![0, 2304] S1x128.size inb_S1x8192_S1x128_0_2304).toLoadRect X_arg2)⟩ ::
   ⟨Rect.unit (s := S32x8192) ![0, 2176] S32x128.size inb_S32x8192_S32x128_0_2176, k0_pay7 (View.readAt (Elt F) arg1.view (Rect.unit (s := S256x8192) (k0_off18 k) S32x128.size (k0_off18_inb k)).toLoadRect X_arg1)
    (View.readAt (Elt F) arg2.view (Rect.unit (s := S1x8192) ![0, 2176] S1x128.size inb_S1x8192_S1x128_0_2176).toLoadRect X_arg2)⟩ ::
   ⟨Rect.unit (s := S32x8192) ![0, 2048] S32x128.size inb_S32x8192_S32x128_0_2048, k0_pay7 (View.readAt (Elt F) arg1.view (Rect.unit (s := S256x8192) (k0_off17 k) S32x128.size (k0_off17_inb k)).toLoadRect X_arg1)
    (View.readAt (Elt F) arg2.view (Rect.unit (s := S1x8192) ![0, 2048] S1x128.size inb_S1x8192_S1x128_0_2048).toLoadRect X_arg2)⟩ ::
   ⟨Rect.unit (s := S32x8192) ![0, 1920] S32x128.size inb_S32x8192_S32x128_0_1920, k0_pay7 (View.readAt (Elt F) arg1.view (Rect.unit (s := S256x8192) (k0_off16 k) S32x128.size (k0_off16_inb k)).toLoadRect X_arg1)
    (View.readAt (Elt F) arg2.view (Rect.unit (s := S1x8192) ![0, 1920] S1x128.size inb_S1x8192_S1x128_0_1920).toLoadRect X_arg2)⟩ ::
   ⟨Rect.unit (s := S32x8192) ![0, 1792] S32x128.size inb_S32x8192_S32x128_0_1792, k0_pay7 (View.readAt (Elt F) arg1.view (Rect.unit (s := S256x8192) (k0_off15 k) S32x128.size (k0_off15_inb k)).toLoadRect X_arg1)
    (View.readAt (Elt F) arg2.view (Rect.unit (s := S1x8192) ![0, 1792] S1x128.size inb_S1x8192_S1x128_0_1792).toLoadRect X_arg2)⟩ ::
   ⟨Rect.unit (s := S32x8192) ![0, 1664] S32x128.size inb_S32x8192_S32x128_0_1664, k0_pay7 (View.readAt (Elt F) arg1.view (Rect.unit (s := S256x8192) (k0_off14 k) S32x128.size (k0_off14_inb k)).toLoadRect X_arg1)
    (View.readAt (Elt F) arg2.view (Rect.unit (s := S1x8192) ![0, 1664] S1x128.size inb_S1x8192_S1x128_0_1664).toLoadRect X_arg2)⟩ ::
   ⟨Rect.unit (s := S32x8192) ![0, 1536] S32x128.size inb_S32x8192_S32x128_0_1536, k0_pay7 (View.readAt (Elt F) arg1.view (Rect.unit (s := S256x8192) (k0_off13 k) S32x128.size (k0_off13_inb k)).toLoadRect X_arg1)
    (View.readAt (Elt F) arg2.view (Rect.unit (s := S1x8192) ![0, 1536] S1x128.size inb_S1x8192_S1x128_0_1536).toLoadRect X_arg2)⟩ ::
   ⟨Rect.unit (s := S32x8192) ![0, 1408] S32x128.size inb_S32x8192_S32x128_0_1408, k0_pay7 (View.readAt (Elt F) arg1.view (Rect.unit (s := S256x8192) (k0_off12 k) S32x128.size (k0_off12_inb k)).toLoadRect X_arg1)
    (View.readAt (Elt F) arg2.view (Rect.unit (s := S1x8192) ![0, 1408] S1x128.size inb_S1x8192_S1x128_0_1408).toLoadRect X_arg2)⟩ ::
   ⟨Rect.unit (s := S32x8192) ![0, 1280] S32x128.size inb_S32x8192_S32x128_0_1280, k0_pay7 (View.readAt (Elt F) arg1.view (Rect.unit (s := S256x8192) (k0_off11 k) S32x128.size (k0_off11_inb k)).toLoadRect X_arg1)
    (View.readAt (Elt F) arg2.view (Rect.unit (s := S1x8192) ![0, 1280] S1x128.size inb_S1x8192_S1x128_0_1280).toLoadRect X_arg2)⟩ ::
   ⟨Rect.unit (s := S32x8192) ![0, 1152] S32x128.size inb_S32x8192_S32x128_0_1152, k0_pay7 (View.readAt (Elt F) arg1.view (Rect.unit (s := S256x8192) (k0_off10 k) S32x128.size (k0_off10_inb k)).toLoadRect X_arg1)
    (View.readAt (Elt F) arg2.view (Rect.unit (s := S1x8192) ![0, 1152] S1x128.size inb_S1x8192_S1x128_0_1152).toLoadRect X_arg2)⟩ ::
   ⟨Rect.unit (s := S32x8192) ![0, 1024] S32x128.size inb_S32x8192_S32x128_0_1024, k0_pay7 (View.readAt (Elt F) arg1.view (Rect.unit (s := S256x8192) (k0_off9 k) S32x128.size (k0_off9_inb k)).toLoadRect X_arg1)
    (View.readAt (Elt F) arg2.view (Rect.unit (s := S1x8192) ![0, 1024] S1x128.size inb_S1x8192_S1x128_0_1024).toLoadRect X_arg2)⟩ ::
   ⟨Rect.unit (s := S32x8192) ![0, 896] S32x128.size inb_S32x8192_S32x128_0_896, k0_pay7 (View.readAt (Elt F) arg1.view (Rect.unit (s := S256x8192) (k0_off8 k) S32x128.size (k0_off8_inb k)).toLoadRect X_arg1)
    (View.readAt (Elt F) arg2.view (Rect.unit (s := S1x8192) ![0, 896] S1x128.size inb_S1x8192_S1x128_0_896).toLoadRect X_arg2)⟩ ::
   ⟨Rect.unit (s := S32x8192) ![0, 768] S32x128.size inb_S32x8192_S32x128_0_768, k0_pay7 (View.readAt (Elt F) arg1.view (Rect.unit (s := S256x8192) (k0_off7 k) S32x128.size (k0_off7_inb k)).toLoadRect X_arg1)
    (View.readAt (Elt F) arg2.view (Rect.unit (s := S1x8192) ![0, 768] S1x128.size inb_S1x8192_S1x128_0_768).toLoadRect X_arg2)⟩ ::
   ⟨Rect.unit (s := S32x8192) ![0, 640] S32x128.size inb_S32x8192_S32x128_0_640, k0_pay7 (View.readAt (Elt F) arg1.view (Rect.unit (s := S256x8192) (k0_off6 k) S32x128.size (k0_off6_inb k)).toLoadRect X_arg1)
    (View.readAt (Elt F) arg2.view (Rect.unit (s := S1x8192) ![0, 640] S1x128.size inb_S1x8192_S1x128_0_640).toLoadRect X_arg2)⟩ ::
   ⟨Rect.unit (s := S32x8192) ![0, 512] S32x128.size inb_S32x8192_S32x128_0_512, k0_pay7 (View.readAt (Elt F) arg1.view (Rect.unit (s := S256x8192) (k0_off5 k) S32x128.size (k0_off5_inb k)).toLoadRect X_arg1)
    (View.readAt (Elt F) arg2.view (Rect.unit (s := S1x8192) ![0, 512] S1x128.size inb_S1x8192_S1x128_0_512).toLoadRect X_arg2)⟩ ::
   ⟨Rect.unit (s := S32x8192) ![0, 384] S32x128.size inb_S32x8192_S32x128_0_384, k0_pay7 (View.readAt (Elt F) arg1.view (Rect.unit (s := S256x8192) (k0_off4 k) S32x128.size (k0_off4_inb k)).toLoadRect X_arg1)
    (View.readAt (Elt F) arg2.view (Rect.unit (s := S1x8192) ![0, 384] S1x128.size inb_S1x8192_S1x128_0_384).toLoadRect X_arg2)⟩ ::
   ⟨Rect.unit (s := S32x8192) ![0, 256] S32x128.size inb_S32x8192_S32x128_0_256, k0_pay7 (View.readAt (Elt F) arg1.view (Rect.unit (s := S256x8192) (k0_off3 k) S32x128.size (k0_off3_inb k)).toLoadRect X_arg1)
    (View.readAt (Elt F) arg2.view (Rect.unit (s := S1x8192) ![0, 256] S1x128.size inb_S1x8192_S1x128_0_256).toLoadRect X_arg2)⟩ ::
   ⟨Rect.unit (s := S32x8192) ![0, 128] S32x128.size inb_S32x8192_S32x128_0_128, k0_pay7 (View.readAt (Elt F) arg1.view (Rect.unit (s := S256x8192) (k0_off2 k) S32x128.size (k0_off2_inb k)).toLoadRect X_arg1)
    (View.readAt (Elt F) arg2.view (Rect.unit (s := S1x8192) ![0, 128] S1x128.size inb_S1x8192_S1x128_0_128).toLoadRect X_arg2)⟩ ::
   ⟨Rect.unit (s := S32x8192) ![0, 0] S32x128.size inb_S32x8192_S32x128_0_0, k0_pay7 (View.readAt (Elt F) arg1.view (Rect.unit (s := S256x8192) (k0_off1 k) S32x128.size (k0_off1_inb k)).toLoadRect X_arg1)
    (View.readAt (Elt F) arg2.view (Rect.unit (s := S1x8192) ![0, 0] S1x128.size inb_S1x8192_S1x128_0_0).toLoadRect X_arg2)⟩ :: []

/-- What the first pass of a trip writes to the scratch. -/
theorem hw_eq : HW_arg9_64 arg1 arg2 X_arg1 X_arg2 k = hw64 arg1 arg2 X_arg1 X_arg2 k := by sl_kernel_rfl

/-- The code pieces of a trip, last first. -/
noncomputable def l5 (w : FVec F S32x128 .f32) : List (View.Piece (Elt F) S256x8192 .fp8e4m3) :=
  ⟨Rect.unit (s := S256x8192) (k0_off64 k) S32x128.size (k0_off64_inb k), codesOf w
    (arg9.view.readCov (HW_arg9_64 arg1 arg2 X_arg1 X_arg2 k) (Rect.unit (s := S32x8192) ![0, 8064] S32x128.size inb_S32x8192_S32x128_0_8064).toLoadRect)⟩ ::
   ⟨Rect.unit (s := S256x8192) (k0_off63 k) S32x128.size (k0_off63_inb k), codesOf w
    (arg9.view.readCov (HW_arg9_64 arg1 arg2 X_arg1 X_arg2 k) (Rect.unit (s := S32x8192) ![0, 7936] S32x128.size inb_S32x8192_S32x128_0_7936).toLoadRect)⟩ ::
   ⟨Rect.unit (s := S256x8192) (k0_off62 k) S32x128.size (k0_off62_inb k), codesOf w
    (arg9.view.readCov (HW_arg9_64 arg1 arg2 X_arg1 X_arg2 k) (Rect.unit (s := S32x8192) ![0, 7808] S32x128.size inb_S32x8192_S32x128_0_7808).toLoadRect)⟩ ::
   ⟨Rect.unit (s := S256x8192) (k0_off61 k) S32x128.size (k0_off61_inb k), codesOf w
    (arg9.view.readCov (HW_arg9_64 arg1 arg2 X_arg1 X_arg2 k) (Rect.unit (s := S32x8192) ![0, 7680] S32x128.size inb_S32x8192_S32x128_0_7680).toLoadRect)⟩ ::
   ⟨Rect.unit (s := S256x8192) (k0_off60 k) S32x128.size (k0_off60_inb k), codesOf w
    (arg9.view.readCov (HW_arg9_64 arg1 arg2 X_arg1 X_arg2 k) (Rect.unit (s := S32x8192) ![0, 7552] S32x128.size inb_S32x8192_S32x128_0_7552).toLoadRect)⟩ ::
   ⟨Rect.unit (s := S256x8192) (k0_off59 k) S32x128.size (k0_off59_inb k), codesOf w
    (arg9.view.readCov (HW_arg9_64 arg1 arg2 X_arg1 X_arg2 k) (Rect.unit (s := S32x8192) ![0, 7424] S32x128.size inb_S32x8192_S32x128_0_7424).toLoadRect)⟩ ::
   ⟨Rect.unit (s := S256x8192) (k0_off58 k) S32x128.size (k0_off58_inb k), codesOf w
    (arg9.view.readCov (HW_arg9_64 arg1 arg2 X_arg1 X_arg2 k) (Rect.unit (s := S32x8192) ![0, 7296] S32x128.size inb_S32x8192_S32x128_0_7296).toLoadRect)⟩ ::
   ⟨Rect.unit (s := S256x8192) (k0_off57 k) S32x128.size (k0_off57_inb k), codesOf w
    (arg9.view.readCov (HW_arg9_64 arg1 arg2 X_arg1 X_arg2 k) (Rect.unit (s := S32x8192) ![0, 7168] S32x128.size inb_S32x8192_S32x128_0_7168).toLoadRect)⟩ ::
   ⟨Rect.unit (s := S256x8192) (k0_off56 k) S32x128.size (k0_off56_inb k), codesOf w
    (arg9.view.readCov (HW_arg9_64 arg1 arg2 X_arg1 X_arg2 k) (Rect.unit (s := S32x8192) ![0, 7040] S32x128.size inb_S32x8192_S32x128_0_7040).toLoadRect)⟩ ::
   ⟨Rect.unit (s := S256x8192) (k0_off55 k) S32x128.size (k0_off55_inb k), codesOf w
    (arg9.view.readCov (HW_arg9_64 arg1 arg2 X_arg1 X_arg2 k) (Rect.unit (s := S32x8192) ![0, 6912] S32x128.size inb_S32x8192_S32x128_0_6912).toLoadRect)⟩ ::
   ⟨Rect.unit (s := S256x8192) (k0_off54 k) S32x128.size (k0_off54_inb k), codesOf w
    (arg9.view.readCov (HW_arg9_64 arg1 arg2 X_arg1 X_arg2 k) (Rect.unit (s := S32x8192) ![0, 6784] S32x128.size inb_S32x8192_S32x128_0_6784).toLoadRect)⟩ ::
   ⟨Rect.unit (s := S256x8192) (k0_off53 k) S32x128.size (k0_off53_inb k), codesOf w
    (arg9.view.readCov (HW_arg9_64 arg1 arg2 X_arg1 X_arg2 k) (Rect.unit (s := S32x8192) ![0, 6656] S32x128.size inb_S32x8192_S32x128_0_6656).toLoadRect)⟩ ::
   ⟨Rect.unit (s := S256x8192) (k0_off52 k) S32x128.size (k0_off52_inb k), codesOf w
    (arg9.view.readCov (HW_arg9_64 arg1 arg2 X_arg1 X_arg2 k) (Rect.unit (s := S32x8192) ![0, 6528] S32x128.size inb_S32x8192_S32x128_0_6528).toLoadRect)⟩ ::
   ⟨Rect.unit (s := S256x8192) (k0_off51 k) S32x128.size (k0_off51_inb k), codesOf w
    (arg9.view.readCov (HW_arg9_64 arg1 arg2 X_arg1 X_arg2 k) (Rect.unit (s := S32x8192) ![0, 6400] S32x128.size inb_S32x8192_S32x128_0_6400).toLoadRect)⟩ ::
   ⟨Rect.unit (s := S256x8192) (k0_off50 k) S32x128.size (k0_off50_inb k), codesOf w
    (arg9.view.readCov (HW_arg9_64 arg1 arg2 X_arg1 X_arg2 k) (Rect.unit (s := S32x8192) ![0, 6272] S32x128.size inb_S32x8192_S32x128_0_6272).toLoadRect)⟩ ::
   ⟨Rect.unit (s := S256x8192) (k0_off49 k) S32x128.size (k0_off49_inb k), codesOf w
    (arg9.view.readCov (HW_arg9_64 arg1 arg2 X_arg1 X_arg2 k) (Rect.unit (s := S32x8192) ![0, 6144] S32x128.size inb_S32x8192_S32x128_0_6144).toLoadRect)⟩ ::
   ⟨Rect.unit (s := S256x8192) (k0_off48 k) S32x128.size (k0_off48_inb k), codesOf w
    (arg9.view.readCov (HW_arg9_64 arg1 arg2 X_arg1 X_arg2 k) (Rect.unit (s := S32x8192) ![0, 6016] S32x128.size inb_S32x8192_S32x128_0_6016).toLoadRect)⟩ ::
   ⟨Rect.unit (s := S256x8192) (k0_off47 k) S32x128.size (k0_off47_inb k), codesOf w
    (arg9.view.readCov (HW_arg9_64 arg1 arg2 X_arg1 X_arg2 k) (Rect.unit (s := S32x8192) ![0, 5888] S32x128.size inb_S32x8192_S32x128_0_5888).toLoadRect)⟩ ::
   ⟨Rect.unit (s := S256x8192) (k0_off46 k) S32x128.size (k0_off46_inb k), codesOf w
    (arg9.view.readCov (HW_arg9_64 arg1 arg2 X_arg1 X_arg2 k) (Rect.unit (s := S32x8192) ![0, 5760] S32x128.size inb_S32x8192_S32x128_0_5760).toLoadRect)⟩ ::
   ⟨Rect.unit (s := S256x8192) (k0_off45 k) S32x128.size (k0_off45_inb k), codesOf w
    (arg9.view.readCov (HW_arg9_64 arg1 arg2 X_arg1 X_arg2 k) (Rect.unit (s := S32x8192) ![0, 5632] S32x128.size inb_S32x8192_S32x128_0_5632).toLoadRect)⟩ ::
   ⟨Rect.unit (s := S256x8192) (k0_off44 k) S32x128.size (k0_off44_inb k), codesOf w
    (arg9.view.readCov (HW_arg9_64 arg1 arg2 X_arg1 X_arg2 k) (Rect.unit (s := S32x8192) ![0, 5504] S32x128.size inb_S32x8192_S32x128_0_5504).toLoadRect)⟩ ::
   ⟨Rect.unit (s := S256x8192) (k0_off43 k) S32x128.size (k0_off43_inb k), codesOf w
    (arg9.view.readCov (HW_arg9_64 arg1 arg2 X_arg1 X_arg2 k) (Rect.unit (s := S32x8192) ![0, 5376] S32x128.size inb_S32x8192_S32x128_0_5376).toLoadRect)⟩ ::
   ⟨Rect.unit (s := S256x8192) (k0_off42 k) S32x128.size (k0_off42_inb k), codesOf w
    (arg9.view.readCov (HW_arg9_64 arg1 arg2 X_arg1 X_arg2 k) (Rect.unit (s := S32x8192) ![0, 5248] S32x128.size inb_S32x8192_S32x128_0_5248).toLoadRect)⟩ ::
   ⟨Rect.unit (s := S256x8192) (k0_off41 k) S32x128.size (k0_off41_inb k), codesOf w
    (arg9.view.readCov (HW_arg9_64 arg1 arg2 X_arg1 X_arg2 k) (Rect.unit (s := S32x8192) ![0, 5120] S32x128.size inb_S32x8192_S32x128_0_5120).toLoadRect)⟩ ::
   ⟨Rect.unit (s := S256x8192) (k0_off40 k) S32x128.size (k0_off40_inb k), codesOf w
    (arg9.view.readCov (HW_arg9_64 arg1 arg2 X_arg1 X_arg2 k) (Rect.unit (s := S32x8192) ![0, 4992] S32x128.size inb_S32x8192_S32x128_0_4992).toLoadRect)⟩ ::
   ⟨Rect.unit (s := S256x8192) (k0_off39 k) S32x128.size (k0_off39_inb k), codesOf w
    (arg9.view.readCov (HW_arg9_64 arg1 arg2 X_arg1 X_arg2 k) (Rect.unit (s := S32x8192) ![0, 4864] S32x128.size inb_S32x8192_S32x128_0_4864).toLoadRect)⟩ ::
   ⟨Rect.unit (s := S256x8192) (k0_off38 k) S32x128.size (k0_off38_inb k), codesOf w
    (arg9.view.readCov (HW_arg9_64 arg1 arg2 X_arg1 X_arg2 k) (Rect.unit (s := S32x8192) ![0, 4736] S32x128.size inb_S32x8192_S32x128_0_4736).toLoadRect)⟩ ::
   ⟨Rect.unit (s := S256x8192) (k0_off37 k) S32x128.size (k0_off37_inb k), codesOf w
    (arg9.view.readCov (HW_arg9_64 arg1 arg2 X_arg1 X_arg2 k) (Rect.unit (s := S32x8192) ![0, 4608] S32x128.size inb_S32x8192_S32x128_0_4608).toLoadRect)⟩ ::
   ⟨Rect.unit (s := S256x8192) (k0_off36 k) S32x128.size (k0_off36_inb k), codesOf w
    (arg9.view.readCov (HW_arg9_64 arg1 arg2 X_arg1 X_arg2 k) (Rect.unit (s := S32x8192) ![0, 4480] S32x128.size inb_S32x8192_S32x128_0_4480).toLoadRect)⟩ ::
   ⟨Rect.unit (s := S256x8192) (k0_off35 k) S32x128.size (k0_off35_inb k), codesOf w
    (arg9.view.readCov (HW_arg9_64 arg1 arg2 X_arg1 X_arg2 k) (Rect.unit (s := S32x8192) ![0, 4352] S32x128.size inb_S32x8192_S32x128_0_4352).toLoadRect)⟩ ::
   ⟨Rect.unit (s := S256x8192) (k0_off34 k) S32x128.size (k0_off34_inb k), codesOf w
    (arg9.view.readCov (HW_arg9_64 arg1 arg2 X_arg1 X_arg2 k) (Rect.unit (s := S32x8192) ![0, 4224] S32x128.size inb_S32x8192_S32x128_0_4224).toLoadRect)⟩ ::
   ⟨Rect.unit (s := S256x8192) (k0_off33 k) S32x128.size (k0_off33_inb k), codesOf w
    (arg9.view.readCov (HW_arg9_64 arg1 arg2 X_arg1 X_arg2 k) (Rect.unit (s := S32x8192) ![0, 4096] S32x128.size inb_S32x8192_S32x128_0_4096).toLoadRect)⟩ ::
   ⟨Rect.unit (s := S256x8192) (k0_off32 k) S32x128.size (k0_off32_inb k), codesOf w
    (arg9.view.readCov (HW_arg9_64 arg1 arg2 X_arg1 X_arg2 k) (Rect.unit (s := S32x8192) ![0, 3968] S32x128.size inb_S32x8192_S32x128_0_3968).toLoadRect)⟩ ::
   ⟨Rect.unit (s := S256x8192) (k0_off31 k) S32x128.size (k0_off31_inb k), codesOf w
    (arg9.view.readCov (HW_arg9_64 arg1 arg2 X_arg1 X_arg2 k) (Rect.unit (s := S32x8192) ![0, 3840] S32x128.size inb_S32x8192_S32x128_0_3840).toLoadRect)⟩ ::
   ⟨Rect.unit (s := S256x8192) (k0_off30 k) S32x128.size (k0_off30_inb k), codesOf w
    (arg9.view.readCov (HW_arg9_64 arg1 arg2 X_arg1 X_arg2 k) (Rect.unit (s := S32x8192) ![0, 3712] S32x128.size inb_S32x8192_S32x128_0_3712).toLoadRect)⟩ ::
   ⟨Rect.unit (s := S256x8192) (k0_off29 k) S32x128.size (k0_off29_inb k), codesOf w
    (arg9.view.readCov (HW_arg9_64 arg1 arg2 X_arg1 X_arg2 k) (Rect.unit (s := S32x8192) ![0, 3584] S32x128.size inb_S32x8192_S32x128_0_3584).toLoadRect)⟩ ::
   ⟨Rect.unit (s := S256x8192) (k0_off28 k) S32x128.size (k0_off28_inb k), codesOf w
    (arg9.view.readCov (HW_arg9_64 arg1 arg2 X_arg1 X_arg2 k) (Rect.unit (s := S32x8192) ![0, 3456] S32x128.size inb_S32x8192_S32x128_0_3456).toLoadRect)⟩ ::
   ⟨Rect.unit (s := S256x8192) (k0_off27 k) S32x128.size (k0_off27_inb k), codesOf w
    (arg9.view.readCov (HW_arg9_64 arg1 arg2 X_arg1 X_arg2 k) (Rect.unit (s := S32x8192) ![0, 3328] S32x128.size inb_S32x8192_S32x128_0_3328).toLoadRect)⟩ ::
   ⟨Rect.unit (s := S256x8192) (k0_off26 k) S32x128.size (k0_off26_inb k), codesOf w
    (arg9.view.readCov (HW_arg9_64 arg1 arg2 X_arg1 X_arg2 k) (Rect.unit (s := S32x8192) ![0, 3200] S32x128.size inb_S32x8192_S32x128_0_3200).toLoadRect)⟩ ::
   ⟨Rect.unit (s := S256x8192) (k0_off25 k) S32x128.size (k0_off25_inb k), codesOf w
    (arg9.view.readCov (HW_arg9_64 arg1 arg2 X_arg1 X_arg2 k) (Rect.unit (s := S32x8192) ![0, 3072] S32x128.size inb_S32x8192_S32x128_0_3072).toLoadRect)⟩ ::
   ⟨Rect.unit (s := S256x8192) (k0_off24 k) S32x128.size (k0_off24_inb k), codesOf w
    (arg9.view.readCov (HW_arg9_64 arg1 arg2 X_arg1 X_arg2 k) (Rect.unit (s := S32x8192) ![0, 2944] S32x128.size inb_S32x8192_S32x128_0_2944).toLoadRect)⟩ ::
   ⟨Rect.unit (s := S256x8192) (k0_off23 k) S32x128.size (k0_off23_inb k), codesOf w
    (arg9.view.readCov (HW_arg9_64 arg1 arg2 X_arg1 X_arg2 k) (Rect.unit (s := S32x8192) ![0, 2816] S32x128.size inb_S32x8192_S32x128_0_2816).toLoadRect)⟩ ::
   ⟨Rect.unit (s := S256x8192) (k0_off22 k) S32x128.size (k0_off22_inb k), codesOf w
    (arg9.view.readCov (HW_arg9_64 arg1 arg2 X_arg1 X_arg2 k) (Rect.unit (s := S32x8192) ![0, 2688] S32x128.size inb_S32x8192_S32x128_0_2688).toLoadRect)⟩ ::
   ⟨Rect.unit (s := S256x8192) (k0_off21 k) S32x128.size (k0_off21_inb k), codesOf w
    (arg9.view.readCov (HW_arg9_64 arg1 arg2 X_arg1 X_arg2 k) (Rect.unit (s := S32x8192) ![0, 2560] S32x128.size inb_S32x8192_S32x128_0_2560).toLoadRect)⟩ ::
   ⟨Rect.unit (s := S256x8192) (k0_off20 k) S32x128.size (k0_off20_inb k), codesOf w
    (arg9.view.readCov (HW_arg9_64 arg1 arg2 X_arg1 X_arg2 k) (Rect.unit (s := S32x8192) ![0, 2432] S32x128.size inb_S32x8192_S32x128_0_2432).toLoadRect)⟩ ::
   ⟨Rect.unit (s := S256x8192) (k0_off19 k) S32x128.size (k0_off19_inb k), codesOf w
    (arg9.view.readCov (HW_arg9_64 arg1 arg2 X_arg1 X_arg2 k) (Rect.unit (s := S32x8192) ![0, 2304] S32x128.size inb_S32x8192_S32x128_0_2304).toLoadRect)⟩ ::
   ⟨Rect.unit (s := S256x8192) (k0_off18 k) S32x128.size (k0_off18_inb k), codesOf w
    (arg9.view.readCov (HW_arg9_64 arg1 arg2 X_arg1 X_arg2 k) (Rect.unit (s := S32x8192) ![0, 2176] S32x128.size inb_S32x8192_S32x128_0_2176).toLoadRect)⟩ ::
   ⟨Rect.unit (s := S256x8192) (k0_off17 k) S32x128.size (k0_off17_inb k), codesOf w
    (arg9.view.readCov (HW_arg9_64 arg1 arg2 X_arg1 X_arg2 k) (Rect.unit (s := S32x8192) ![0, 2048] S32x128.size inb_S32x8192_S32x128_0_2048).toLoadRect)⟩ ::
   ⟨Rect.unit (s := S256x8192) (k0_off16 k) S32x128.size (k0_off16_inb k), codesOf w
    (arg9.view.readCov (HW_arg9_64 arg1 arg2 X_arg1 X_arg2 k) (Rect.unit (s := S32x8192) ![0, 1920] S32x128.size inb_S32x8192_S32x128_0_1920).toLoadRect)⟩ ::
   ⟨Rect.unit (s := S256x8192) (k0_off15 k) S32x128.size (k0_off15_inb k), codesOf w
    (arg9.view.readCov (HW_arg9_64 arg1 arg2 X_arg1 X_arg2 k) (Rect.unit (s := S32x8192) ![0, 1792] S32x128.size inb_S32x8192_S32x128_0_1792).toLoadRect)⟩ ::
   ⟨Rect.unit (s := S256x8192) (k0_off14 k) S32x128.size (k0_off14_inb k), codesOf w
    (arg9.view.readCov (HW_arg9_64 arg1 arg2 X_arg1 X_arg2 k) (Rect.unit (s := S32x8192) ![0, 1664] S32x128.size inb_S32x8192_S32x128_0_1664).toLoadRect)⟩ ::
   ⟨Rect.unit (s := S256x8192) (k0_off13 k) S32x128.size (k0_off13_inb k), codesOf w
    (arg9.view.readCov (HW_arg9_64 arg1 arg2 X_arg1 X_arg2 k) (Rect.unit (s := S32x8192) ![0, 1536] S32x128.size inb_S32x8192_S32x128_0_1536).toLoadRect)⟩ ::
   ⟨Rect.unit (s := S256x8192) (k0_off12 k) S32x128.size (k0_off12_inb k), codesOf w
    (arg9.view.readCov (HW_arg9_64 arg1 arg2 X_arg1 X_arg2 k) (Rect.unit (s := S32x8192) ![0, 1408] S32x128.size inb_S32x8192_S32x128_0_1408).toLoadRect)⟩ ::
   ⟨Rect.unit (s := S256x8192) (k0_off11 k) S32x128.size (k0_off11_inb k), codesOf w
    (arg9.view.readCov (HW_arg9_64 arg1 arg2 X_arg1 X_arg2 k) (Rect.unit (s := S32x8192) ![0, 1280] S32x128.size inb_S32x8192_S32x128_0_1280).toLoadRect)⟩ ::
   ⟨Rect.unit (s := S256x8192) (k0_off10 k) S32x128.size (k0_off10_inb k), codesOf w
    (arg9.view.readCov (HW_arg9_64 arg1 arg2 X_arg1 X_arg2 k) (Rect.unit (s := S32x8192) ![0, 1152] S32x128.size inb_S32x8192_S32x128_0_1152).toLoadRect)⟩ ::
   ⟨Rect.unit (s := S256x8192) (k0_off9 k) S32x128.size (k0_off9_inb k), codesOf w
    (arg9.view.readCov (HW_arg9_64 arg1 arg2 X_arg1 X_arg2 k) (Rect.unit (s := S32x8192) ![0, 1024] S32x128.size inb_S32x8192_S32x128_0_1024).toLoadRect)⟩ ::
   ⟨Rect.unit (s := S256x8192) (k0_off8 k) S32x128.size (k0_off8_inb k), codesOf w
    (arg9.view.readCov (HW_arg9_64 arg1 arg2 X_arg1 X_arg2 k) (Rect.unit (s := S32x8192) ![0, 896] S32x128.size inb_S32x8192_S32x128_0_896).toLoadRect)⟩ ::
   ⟨Rect.unit (s := S256x8192) (k0_off7 k) S32x128.size (k0_off7_inb k), codesOf w
    (arg9.view.readCov (HW_arg9_64 arg1 arg2 X_arg1 X_arg2 k) (Rect.unit (s := S32x8192) ![0, 768] S32x128.size inb_S32x8192_S32x128_0_768).toLoadRect)⟩ ::
   ⟨Rect.unit (s := S256x8192) (k0_off6 k) S32x128.size (k0_off6_inb k), codesOf w
    (arg9.view.readCov (HW_arg9_64 arg1 arg2 X_arg1 X_arg2 k) (Rect.unit (s := S32x8192) ![0, 640] S32x128.size inb_S32x8192_S32x128_0_640).toLoadRect)⟩ ::
   ⟨Rect.unit (s := S256x8192) (k0_off5 k) S32x128.size (k0_off5_inb k), codesOf w
    (arg9.view.readCov (HW_arg9_64 arg1 arg2 X_arg1 X_arg2 k) (Rect.unit (s := S32x8192) ![0, 512] S32x128.size inb_S32x8192_S32x128_0_512).toLoadRect)⟩ ::
   ⟨Rect.unit (s := S256x8192) (k0_off4 k) S32x128.size (k0_off4_inb k), codesOf w
    (arg9.view.readCov (HW_arg9_64 arg1 arg2 X_arg1 X_arg2 k) (Rect.unit (s := S32x8192) ![0, 384] S32x128.size inb_S32x8192_S32x128_0_384).toLoadRect)⟩ ::
   ⟨Rect.unit (s := S256x8192) (k0_off3 k) S32x128.size (k0_off3_inb k), codesOf w
    (arg9.view.readCov (HW_arg9_64 arg1 arg2 X_arg1 X_arg2 k) (Rect.unit (s := S32x8192) ![0, 256] S32x128.size inb_S32x8192_S32x128_0_256).toLoadRect)⟩ ::
   ⟨Rect.unit (s := S256x8192) (k0_off2 k) S32x128.size (k0_off2_inb k), codesOf w
    (arg9.view.readCov (HW_arg9_64 arg1 arg2 X_arg1 X_arg2 k) (Rect.unit (s := S32x8192) ![0, 128] S32x128.size inb_S32x8192_S32x128_0_128).toLoadRect)⟩ ::
   ⟨Rect.unit (s := S256x8192) (k0_off1 k) S32x128.size (k0_off1_inb k), codesOf w
    (arg9.view.readCov (HW_arg9_64 arg1 arg2 X_arg1 X_arg2 k) (Rect.unit (s := S32x8192) ![0, 0] S32x128.size inb_S32x8192_S32x128_0_0).toLoadRect)⟩ :: []

end
end Cert.KernelIdeal.Own
-- ==== Proof.KI.Trip2.lean ====
module
public import proofs.«01_k».proof.Proof.KI.Trip
open Idealize.ShloMosaic Cert.KernelIdeal Cert.KernelIdeal.Gen
open Cert.KernelIdeal.Own.trip_k0_t1.sl
namespace Cert.KernelIdeal.Own
set_option maxRecDepth 16384
 public section
variable {F : FTy → Type} [FloatOps F]
variable (arg1 : Memref sig .tc .vmem S256x8192 .bf16) (arg2 : Memref sig .tc .vmem S1x8192 .f32)
  (arg9 : Memref sig .tc .vmem S32x8192 .f32)
  (X_arg1 : BufTy.Contents (Elt F) arg1.view.ty) (X_arg2 : BufTy.Contents (Elt F) arg2.view.ty)
  (k : Fin k0_t1_loop.trips)
/-- The codes that one trip writes. -/
theorem trip5_eq (𝒱 : Variants) (c : Dev nD) (bd : Option 𝒱.V) (i : grid0.Coords) (harg1 : arg1.IsWhole) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (harg9 : arg9.IsWhole) :
    (trip_k0_t1 (F := F) 𝒱 c bd i arg1 harg1 arg2 harg2 arg3 harg3 arg4 harg4 arg5 harg5 arg6 harg6 arg7 harg7 arg8 harg8 arg9 harg9 X_arg1 X_arg2 k).1
      = l5 arg1 arg2 arg9 X_arg1 X_arg2 k (r_84 arg1 arg2 X_arg1 X_arg2 k) := by sl_kernel_rfl
/-- The scales that one trip writes. -/
theorem trip6_eq (𝒱 : Variants) (c : Dev nD) (bd : Option 𝒱.V) (i : grid0.Coords) (harg1 : arg1.IsWhole) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (harg9 : arg9.IsWhole) :
    (trip_k0_t1 (F := F) 𝒱 c bd i arg1 harg1 arg2 harg2 arg3 harg3 arg4 harg4 arg5 harg5 arg6 harg6 arg7 harg7 arg8 harg8 arg9 harg9 X_arg1 X_arg2 k).2.1
      = [⟨Rect.unit (s := S256x1) (k0_off65 k) S32x1.size (k0_off65_inb k), r_83 arg1 arg2 X_arg1 X_arg2 k⟩] := by sl_kernel_rfl
end
end Cert.KernelIdeal.Own
-- ==== Proof.KI.Trip3.lean ====
module
public import proofs.«01_k».proof.Proof.KI.Trip
open Idealize.ShloMosaic Cert.KernelIdeal Cert.KernelIdeal.Gen
open Cert.KernelIdeal.Own.trip_k0_t1.sl
namespace Cert.KernelIdeal.Own
set_option maxRecDepth 16384
public section
variable (arg1 : Memref sig .tc .vmem S256x8192 .bf16) (arg2 : Memref sig .tc .vmem S1x8192 .f32)
  (X_arg1 : BufTy.Contents (Elt Ideal) arg1.view.ty) (X_arg2 : BufTy.Contents (Elt Ideal) arg2.view.ty)
  (k : Fin k0_t1_loop.trips)
/-- The scales of a trip's rows. -/
theorem r83_eq : r_83 arg1 arg2 X_arg1 X_arg2 k = fun j => Scale.kScale (r_77 arg1 arg2 X_arg1 X_arg2 k j) := by sl_kernel_rfl
/-- The multiplier of a trip's rows: reciprocal root times inverse scale. -/
theorem r84_eq : r_84 arg1 arg2 X_arg1 X_arg2 k
    = broadcastTo S32x128 (shapeCast S32x1 (mulf (r_76 arg1 X_arg1 k) (fun j => Scale.kInv (r_77 arg1 arg2 X_arg1 X_arg2 k j))) shapeCasts_S32x1_S32x1) broadcasts_S32x1_S32x128 := by sl_kernel_rfl
end

end Cert.KernelIdeal.Own
-- ==== Proof.Spec.lean ====
module
public import proofs.«01_k».proof.Proof.Scale
public import Mathlib.Algebra.BigOperators.Fin
open Idealize.ShloMosaic Cert.Scale

/-!
What the kernel computes, as plain functions of extended reals: one token's codes and scale, the projected values,
and a head's codes and scale.
-/
namespace Cert.Spec
@[expose] public section

/-- The magnitude as the programs compute it. -/
noncomputable def mag (a : EReal) : EReal := max a (-a)
/-- The reciprocal root of the mean square of a token. -/
noncomputable def rms (u : Fin 8192 → EReal) : EReal :=
  Ideal.rsqrt ((∑ k, u k * u k) * ofB 0x39000000#32 + ofB 0x358637BD#32)
/-- The largest magnitude of a token times gamma, from zero. -/
noncomputable def rowMax (u g : Fin 8192 → EReal) : EReal :=
  Finset.univ.fold max (ofB 0x00000000#32) fun k : Fin 8192 => mag (u k * g k)
/-- The argument of a token's scale. -/
noncomputable def rowArg (u g : Fin 8192 → EReal) : EReal := rowMax u g * rms u * ofB 0x3B124925#32
/-- The clip to the finite codes. -/
noncomputable def clip (v : EReal) : EReal := min (ofB 0x43E00000#32) (max (ofB 0xC3E00000#32) v)
/-- One code of a token. -/
noncomputable def rowCode (u g : Fin 8192 → EReal) (k : Fin 8192) : EReal :=
  clip (u k * g k * (rms u * kInv (rowArg u g)))
/-- A token's scale. -/
noncomputable def rowScale (u g : Fin 8192 → EReal) : EReal := kScale (rowArg u g)

/-- A sum from the left is the start plus the sum of the list. -/
theorem foldl_add {α : Type} (f : α → EReal) (l : List α) (z : EReal) :
    l.foldl (fun a u => a + f u) z = z + (l.map f).sum := by
  induction l generalizing z with
  | nil => simp
  | cons a l ih => simp [ih, add_assoc]

/-- A maximum from the left is below a bound when the start and every element are. -/
theorem foldl_max_le {α : Type} (f : α → EReal) (l : List α) (z m : EReal) :
    l.foldl (fun a u => max a (f u)) z ≤ m ↔ z ≤ m ∧ ∀ u ∈ l, f u ≤ m := by
  induction l generalizing z with
  | nil => simp
  | cons a l ih => simp [ih, and_assoc]

/-- The column of chunk `c` and lane `l`. -/
def col (c : Fin 64) (l : Fin 128) : Fin 8192 := ⟨128 * c.val + l.val, by omega⟩

/-- A sum over the lanes and the chunks is the sum over the columns. -/
theorem sum_col (f : Fin 8192 → EReal) : (∑ l : Fin 128, ∑ c : Fin 64, f (col c l)) = ∑ k, f k := by
  rw [Finset.sum_comm, ← Fintype.sum_prod_type']
  refine Fintype.sum_equiv (finProdFinEquiv (m := 64) (n := 128)) _ _ fun p => ?_
  congr 1
  apply Fin.ext
  simp [col, finProdFinEquiv, add_comm]

/-- What holds of every lane and chunk holds of every column. -/
theorem forall_col (P : Fin 8192 → Prop) : (∀ (l : Fin 128) (c : Fin 64), P (col c l)) ↔ ∀ k, P k := by
  refine ⟨fun h k => ?_, fun h l c => h _⟩
  have := h ⟨k.val % 128, by omega⟩ ⟨k.val / 128, by omega⟩
  rwa [show col ⟨k.val / 128, by omega⟩ ⟨k.val % 128, by omega⟩ = k from Fin.ext (by simp [col]; omega)] at this

end
end Cert.Spec
-- ==== Proof.KI.Load.lean ====
module
public import proofs.«01_k».proof.Proof.KI.Trip2
public import proofs.«01_k».proof.Proof.KI.Trip3
public import proofs.«01_k».proof.Proof.Spec
public import Idealize.ShloMosaic.Lib.Pointwise
public import Idealize.ShloMosaic.Lib.WholeRead
open Idealize.ShloMosaic Cert.KernelIdeal Cert.KernelIdeal.Gen
open Cert.Spec Cert.Scale
open Cert.KernelIdeal.Own.trip_k0_t1.sl

/-!
One block of the projection kernel's lane loop, read at an index.
-/
namespace Cert.KernelIdeal.Own
@[expose] public section
set_option maxRecDepth 16384

/-- Row `i` of a block of tokens. -/
def rowX (x0 : FVec Ideal S256x8192 .bf16) (i : Fin 256) : Fin 8192 → EReal := fun k => x0 (ix2 i k)
/-- The gammas. -/
def rowG (g0 : FVec Ideal S1x8192 .f32) : Fin 8192 → EReal := fun k => g0 (ix2 0 k)
/-- The token of row `r` of trip `k`. -/
def trow (k : Fin k0_t1_loop.trips) (r : Fin 32) : Fin 256 :=
  ⟨32 * k.val + r.val, by have := Nat.lt_of_lt_of_le k.isLt k0_t1_abs.2.1; omega⟩
/-- Chunk `c` of a trip's tokens. -/
def U (x0 : FVec Ideal S256x8192 .bf16) (k : Fin k0_t1_loop.trips) (c : Fin 64) : Vec Ideal S32x128 .bf16 :=
  fun j => x0 (ix2 (trow k (j 0)) (col c (j 1)))
/-- Chunk `c` of the gammas. -/
def Gm (g0 : FVec Ideal S1x8192 .f32) (c : Fin 64) : Vec Ideal S1x128 .f32 :=
  fun j => g0 (ix2 0 (col c (j 1)))

variable (arg1 : Memref sig .tc .vmem S256x8192 .bf16) (arg2 : Memref sig .tc .vmem S1x8192 .f32)
  (arg9 : Memref sig .tc .vmem S32x8192 .f32)
  (harg1 : arg1.IsWhole) (harg2 : arg2.IsWhole)
  (x0 : FVec Ideal S256x8192 .bf16) (g0 : FVec Ideal S1x8192 .f32)
  (k : Fin k0_t1_loop.trips)

/-- A lane block of x, loaded. -/
theorem loadX (c : Fin 64) (off : Fin 2 → ℕ) (h) (ho : off = ![32 * k.val, 128 * c.val]) :
    View.readAt (Elt Ideal) arg1.view (Rect.unit (s := S256x8192) off S32x128.size h).toLoadRect (harg1.unread x0)
      = U x0 k c := by
  subst ho
  funext j
  rw [harg1.readAt_unread]
  refine congrArg x0 (funext fun a => Fin.ext ?_)
  fin_cases a <;> simp [LoadRect.idx, Rect.unit, Rect.toLoadRect, ix2, trow, col]

/-- A lane block of gamma, loaded. -/
theorem loadG (c : Fin 64) (off : Fin 2 → ℕ) (h) (ho : off = ![0, 128 * c.val]) :
    View.readAt (Elt Ideal) arg2.view (Rect.unit (s := S1x8192) off S1x128.size h).toLoadRect (harg2.unread g0)
      = Gm g0 c := by
  subst ho
  funext j
  rw [harg2.readAt_unread]
  refine congrArg g0 (funext fun a => Fin.ext ?_)
  fin_cases a <;> simp [LoadRect.idx, Rect.unit, Rect.toLoadRect, ix2, trow, col]
  exact Nat.lt_one_iff.mp (j 0).isLt

/-- Lists with equal heads and equal tails are equal. -/
theorem cons2 {α : Type _} {a a' : α} {l l' : List α} (h : a = a') (h' : l = l') : a :: l = a' :: l' := by rw [h, h']

/-- The chunks of a trip, each with its gammas. -/
def chunks : List (Vec Ideal S32x128 .bf16 × Vec Ideal S1x128 .f32) :=
  List.ofFn fun c : Fin 64 => (U x0 k c, Gm g0 c)

/-- The 64 chunks of x that a trip loads. -/
theorem xs64_eq : xs64 arg1 (harg1.unread x0) k = List.ofFn (U x0 k) :=
  (show _ = [U x0 k 0, U x0 k 1, U x0 k 2, U x0 k 3, U x0 k 4, U x0 k 5, U x0 k 6, U x0 k 7, U x0 k 8, U x0 k 9, U x0 k 10, U x0 k 11, U x0 k 12, U x0 k 13, U x0 k 14, U x0 k 15, U x0 k 16, U x0 k 17, U x0 k 18, U x0 k 19, U x0 k 20, U x0 k 21, U x0 k 22, U x0 k 23, U x0 k 24, U x0 k 25, U x0 k 26, U x0 k 27, U x0 k 28, U x0 k 29, U x0 k 30, U x0 k 31, U x0 k 32, U x0 k 33, U x0 k 34, U x0 k 35, U x0 k 36, U x0 k 37, U x0 k 38, U x0 k 39, U x0 k 40, U x0 k 41, U x0 k 42, U x0 k 43, U x0 k 44, U x0 k 45, U x0 k 46, U x0 k 47, U x0 k 48, U x0 k 49, U x0 k 50, U x0 k 51, U x0 k 52, U x0 k 53, U x0 k 54, U x0 k 55, U x0 k 56, U x0 k 57, U x0 k 58, U x0 k 59, U x0 k 60, U x0 k 61, U x0 k 62, U x0 k 63] from
    cons2 (loadX arg1 harg1 x0 k 0 _ _ (k0_off1_eq k))
    (cons2 (loadX arg1 harg1 x0 k 1 _ _ (k0_off2_eq k))
    (cons2 (loadX arg1 harg1 x0 k 2 _ _ (k0_off3_eq k))
    (cons2 (loadX arg1 harg1 x0 k 3 _ _ (k0_off4_eq k))
    (cons2 (loadX arg1 harg1 x0 k 4 _ _ (k0_off5_eq k))
    (cons2 (loadX arg1 harg1 x0 k 5 _ _ (k0_off6_eq k))
    (cons2 (loadX arg1 harg1 x0 k 6 _ _ (k0_off7_eq k))
    (cons2 (loadX arg1 harg1 x0 k 7 _ _ (k0_off8_eq k))
    (cons2 (loadX arg1 harg1 x0 k 8 _ _ (k0_off9_eq k))
    (cons2 (loadX arg1 harg1 x0 k 9 _ _ (k0_off10_eq k))
    (cons2 (loadX arg1 harg1 x0 k 10 _ _ (k0_off11_eq k))
    (cons2 (loadX arg1 harg1 x0 k 11 _ _ (k0_off12_eq k))
    (cons2 (loadX arg1 harg1 x0 k 12 _ _ (k0_off13_eq k))
    (cons2 (loadX arg1 harg1 x0 k 13 _ _ (k0_off14_eq k))
    (cons2 (loadX arg1 harg1 x0 k 14 _ _ (k0_off15_eq k))
    (cons2 (loadX arg1 harg1 x0 k 15 _ _ (k0_off16_eq k))
    (cons2 (loadX arg1 harg1 x0 k 16 _ _ (k0_off17_eq k))
    (cons2 (loadX arg1 harg1 x0 k 17 _ _ (k0_off18_eq k))
    (cons2 (loadX arg1 harg1 x0 k 18 _ _ (k0_off19_eq k))
    (cons2 (loadX arg1 harg1 x0 k 19 _ _ (k0_off20_eq k))
    (cons2 (loadX arg1 harg1 x0 k 20 _ _ (k0_off21_eq k))
    (cons2 (loadX arg1 harg1 x0 k 21 _ _ (k0_off22_eq k))
    (cons2 (loadX arg1 harg1 x0 k 22 _ _ (k0_off23_eq k))
    (cons2 (loadX arg1 harg1 x0 k 23 _ _ (k0_off24_eq k))
    (cons2 (loadX arg1 harg1 x0 k 24 _ _ (k0_off25_eq k))
    (cons2 (loadX arg1 harg1 x0 k 25 _ _ (k0_off26_eq k))
    (cons2 (loadX arg1 harg1 x0 k 26 _ _ (k0_off27_eq k))
    (cons2 (loadX arg1 harg1 x0 k 27 _ _ (k0_off28_eq k))
    (cons2 (loadX arg1 harg1 x0 k 28 _ _ (k0_off29_eq k))
    (cons2 (loadX arg1 harg1 x0 k 29 _ _ (k0_off30_eq k))
    (cons2 (loadX arg1 harg1 x0 k 30 _ _ (k0_off31_eq k))
    (cons2 (loadX arg1 harg1 x0 k 31 _ _ (k0_off32_eq k))
    (cons2 (loadX arg1 harg1 x0 k 32 _ _ (k0_off33_eq k))
    (cons2 (loadX arg1 harg1 x0 k 33 _ _ (k0_off34_eq k))
    (cons2 (loadX arg1 harg1 x0 k 34 _ _ (k0_off35_eq k))
    (cons2 (loadX arg1 harg1 x0 k 35 _ _ (k0_off36_eq k))
    (cons2 (loadX arg1 harg1 x0 k 36 _ _ (k0_off37_eq k))
    (cons2 (loadX arg1 harg1 x0 k 37 _ _ (k0_off38_eq k))
    (cons2 (loadX arg1 harg1 x0 k 38 _ _ (k0_off39_eq k))
    (cons2 (loadX arg1 harg1 x0 k 39 _ _ (k0_off40_eq k))
    (cons2 (loadX arg1 harg1 x0 k 40 _ _ (k0_off41_eq k))
    (cons2 (loadX arg1 harg1 x0 k 41 _ _ (k0_off42_eq k))
    (cons2 (loadX arg1 harg1 x0 k 42 _ _ (k0_off43_eq k))
    (cons2 (loadX arg1 harg1 x0 k 43 _ _ (k0_off44_eq k))
    (cons2 (loadX arg1 harg1 x0 k 44 _ _ (k0_off45_eq k))
    (cons2 (loadX arg1 harg1 x0 k 45 _ _ (k0_off46_eq k))
    (cons2 (loadX arg1 harg1 x0 k 46 _ _ (k0_off47_eq k))
    (cons2 (loadX arg1 harg1 x0 k 47 _ _ (k0_off48_eq k))
    (cons2 (loadX arg1 harg1 x0 k 48 _ _ (k0_off49_eq k))
    (cons2 (loadX arg1 harg1 x0 k 49 _ _ (k0_off50_eq k))
    (cons2 (loadX arg1 harg1 x0 k 50 _ _ (k0_off51_eq k))
    (cons2 (loadX arg1 harg1 x0 k 51 _ _ (k0_off52_eq k))
    (cons2 (loadX arg1 harg1 x0 k 52 _ _ (k0_off53_eq k))
    (cons2 (loadX arg1 harg1 x0 k 53 _ _ (k0_off54_eq k))
    (cons2 (loadX arg1 harg1 x0 k 54 _ _ (k0_off55_eq k))
    (cons2 (loadX arg1 harg1 x0 k 55 _ _ (k0_off56_eq k))
    (cons2 (loadX arg1 harg1 x0 k 56 _ _ (k0_off57_eq k))
    (cons2 (loadX arg1 harg1 x0 k 57 _ _ (k0_off58_eq k))
    (cons2 (loadX arg1 harg1 x0 k 58 _ _ (k0_off59_eq k))
    (cons2 (loadX arg1 harg1 x0 k 59 _ _ (k0_off60_eq k))
    (cons2 (loadX arg1 harg1 x0 k 60 _ _ (k0_off61_eq k))
    (cons2 (loadX arg1 harg1 x0 k 61 _ _ (k0_off62_eq k))
    (cons2 (loadX arg1 harg1 x0 k 62 _ _ (k0_off63_eq k))
    (cons2 (loadX arg1 harg1 x0 k 63 _ _ (k0_off64_eq k))
    (rfl))))))))))))))))))))))))))))))))))))))))))))))))))))))))))))))))).trans (by sl_kernel_rfl)

/-- The 64 pairs of chunks of x and gamma that a trip loads. -/
theorem xg64_eq : xg64 arg1 arg2 (harg1.unread x0) (harg2.unread g0) k = chunks x0 g0 k :=
  (show _ = [(U x0 k 0, Gm g0 0), (U x0 k 1, Gm g0 1), (U x0 k 2, Gm g0 2), (U x0 k 3, Gm g0 3), (U x0 k 4, Gm g0 4), (U x0 k 5, Gm g0 5), (U x0 k 6, Gm g0 6), (U x0 k 7, Gm g0 7), (U x0 k 8, Gm g0 8), (U x0 k 9, Gm g0 9), (U x0 k 10, Gm g0 10), (U x0 k 11, Gm g0 11), (U x0 k 12, Gm g0 12), (U x0 k 13, Gm g0 13), (U x0 k 14, Gm g0 14), (U x0 k 15, Gm g0 15), (U x0 k 16, Gm g0 16), (U x0 k 17, Gm g0 17), (U x0 k 18, Gm g0 18), (U x0 k 19, Gm g0 19), (U x0 k 20, Gm g0 20), (U x0 k 21, Gm g0 21), (U x0 k 22, Gm g0 22), (U x0 k 23, Gm g0 23), (U x0 k 24, Gm g0 24), (U x0 k 25, Gm g0 25), (U x0 k 26, Gm g0 26), (U x0 k 27, Gm g0 27), (U x0 k 28, Gm g0 28), (U x0 k 29, Gm g0 29), (U x0 k 30, Gm g0 30), (U x0 k 31, Gm g0 31), (U x0 k 32, Gm g0 32), (U x0 k 33, Gm g0 33), (U x0 k 34, Gm g0 34), (U x0 k 35, Gm g0 35), (U x0 k 36, Gm g0 36), (U x0 k 37, Gm g0 37), (U x0 k 38, Gm g0 38), (U x0 k 39, Gm g0 39), (U x0 k 40, Gm g0 40), (U x0 k 41, Gm g0 41), (U x0 k 42, Gm g0 42), (U x0 k 43, Gm g0 43), (U x0 k 44, Gm g0 44), (U x0 k 45, Gm g0 45), (U x0 k 46, Gm g0 46), (U x0 k 47, Gm g0 47), (U x0 k 48, Gm g0 48), (U x0 k 49, Gm g0 49), (U x0 k 50, Gm g0 50), (U x0 k 51, Gm g0 51), (U x0 k 52, Gm g0 52), (U x0 k 53, Gm g0 53), (U x0 k 54, Gm g0 54), (U x0 k 55, Gm g0 55), (U x0 k 56, Gm g0 56), (U x0 k 57, Gm g0 57), (U x0 k 58, Gm g0 58), (U x0 k 59, Gm g0 59), (U x0 k 60, Gm g0 60), (U x0 k 61, Gm g0 61), (U x0 k 62, Gm g0 62), (U x0 k 63, Gm g0 63)] from
    cons2 (congrArg₂ Prod.mk (loadX arg1 harg1 x0 k 0 _ _ (k0_off1_eq k)) (loadG arg2 harg2 g0 0 _ _ rfl))
    (cons2 (congrArg₂ Prod.mk (loadX arg1 harg1 x0 k 1 _ _ (k0_off2_eq k)) (loadG arg2 harg2 g0 1 _ _ rfl))
    (cons2 (congrArg₂ Prod.mk (loadX arg1 harg1 x0 k 2 _ _ (k0_off3_eq k)) (loadG arg2 harg2 g0 2 _ _ rfl))
    (cons2 (congrArg₂ Prod.mk (loadX arg1 harg1 x0 k 3 _ _ (k0_off4_eq k)) (loadG arg2 harg2 g0 3 _ _ rfl))
    (cons2 (congrArg₂ Prod.mk (loadX arg1 harg1 x0 k 4 _ _ (k0_off5_eq k)) (loadG arg2 harg2 g0 4 _ _ rfl))
    (cons2 (congrArg₂ Prod.mk (loadX arg1 harg1 x0 k 5 _ _ (k0_off6_eq k)) (loadG arg2 harg2 g0 5 _ _ rfl))
    (cons2 (congrArg₂ Prod.mk (loadX arg1 harg1 x0 k 6 _ _ (k0_off7_eq k)) (loadG arg2 harg2 g0 6 _ _ rfl))
    (cons2 (congrArg₂ Prod.mk (loadX arg1 harg1 x0 k 7 _ _ (k0_off8_eq k)) (loadG arg2 harg2 g0 7 _ _ rfl))
    (cons2 (congrArg₂ Prod.mk (loadX arg1 harg1 x0 k 8 _ _ (k0_off9_eq k)) (loadG arg2 harg2 g0 8 _ _ rfl))
    (cons2 (congrArg₂ Prod.mk (loadX arg1 harg1 x0 k 9 _ _ (k0_off10_eq k)) (loadG arg2 harg2 g0 9 _ _ rfl))
    (cons2 (congrArg₂ Prod.mk (loadX arg1 harg1 x0 k 10 _ _ (k0_off11_eq k)) (loadG arg2 harg2 g0 10 _ _ rfl))
    (cons2 (congrArg₂ Prod.mk (loadX arg1 harg1 x0 k 11 _ _ (k0_off12_eq k)) (loadG arg2 harg2 g0 11 _ _ rfl))
    (cons2 (congrArg₂ Prod.mk (loadX arg1 harg1 x0 k 12 _ _ (k0_off13_eq k)) (loadG arg2 harg2 g0 12 _ _ rfl))
    (cons2 (congrArg₂ Prod.mk (loadX arg1 harg1 x0 k 13 _ _ (k0_off14_eq k)) (loadG arg2 harg2 g0 13 _ _ rfl))
    (cons2 (congrArg₂ Prod.mk (loadX arg1 harg1 x0 k 14 _ _ (k0_off15_eq k)) (loadG arg2 harg2 g0 14 _ _ rfl))
    (cons2 (congrArg₂ Prod.mk (loadX arg1 harg1 x0 k 15 _ _ (k0_off16_eq k)) (loadG arg2 harg2 g0 15 _ _ rfl))
    (cons2 (congrArg₂ Prod.mk (loadX arg1 harg1 x0 k 16 _ _ (k0_off17_eq k)) (loadG arg2 harg2 g0 16 _ _ rfl))
    (cons2 (congrArg₂ Prod.mk (loadX arg1 harg1 x0 k 17 _ _ (k0_off18_eq k)) (loadG arg2 harg2 g0 17 _ _ rfl))
    (cons2 (congrArg₂ Prod.mk (loadX arg1 harg1 x0 k 18 _ _ (k0_off19_eq k)) (loadG arg2 harg2 g0 18 _ _ rfl))
    (cons2 (congrArg₂ Prod.mk (loadX arg1 harg1 x0 k 19 _ _ (k0_off20_eq k)) (loadG arg2 harg2 g0 19 _ _ rfl))
    (cons2 (congrArg₂ Prod.mk (loadX arg1 harg1 x0 k 20 _ _ (k0_off21_eq k)) (loadG arg2 harg2 g0 20 _ _ rfl))
    (cons2 (congrArg₂ Prod.mk (loadX arg1 harg1 x0 k 21 _ _ (k0_off22_eq k)) (loadG arg2 harg2 g0 21 _ _ rfl))
    (cons2 (congrArg₂ Prod.mk (loadX arg1 harg1 x0 k 22 _ _ (k0_off23_eq k)) (loadG arg2 harg2 g0 22 _ _ rfl))
    (cons2 (congrArg₂ Prod.mk (loadX arg1 harg1 x0 k 23 _ _ (k0_off24_eq k)) (loadG arg2 harg2 g0 23 _ _ rfl))
    (cons2 (congrArg₂ Prod.mk (loadX arg1 harg1 x0 k 24 _ _ (k0_off25_eq k)) (loadG arg2 harg2 g0 24 _ _ rfl))
    (cons2 (congrArg₂ Prod.mk (loadX arg1 harg1 x0 k 25 _ _ (k0_off26_eq k)) (loadG arg2 harg2 g0 25 _ _ rfl))
    (cons2 (congrArg₂ Prod.mk (loadX arg1 harg1 x0 k 26 _ _ (k0_off27_eq k)) (loadG arg2 harg2 g0 26 _ _ rfl))
    (cons2 (congrArg₂ Prod.mk (loadX arg1 harg1 x0 k 27 _ _ (k0_off28_eq k)) (loadG arg2 harg2 g0 27 _ _ rfl))
    (cons2 (congrArg₂ Prod.mk (loadX arg1 harg1 x0 k 28 _ _ (k0_off29_eq k)) (loadG arg2 harg2 g0 28 _ _ rfl))
    (cons2 (congrArg₂ Prod.mk (loadX arg1 harg1 x0 k 29 _ _ (k0_off30_eq k)) (loadG arg2 harg2 g0 29 _ _ rfl))
    (cons2 (congrArg₂ Prod.mk (loadX arg1 harg1 x0 k 30 _ _ (k0_off31_eq k)) (loadG arg2 harg2 g0 30 _ _ rfl))
    (cons2 (congrArg₂ Prod.mk (loadX arg1 harg1 x0 k 31 _ _ (k0_off32_eq k)) (loadG arg2 harg2 g0 31 _ _ rfl))
    (cons2 (congrArg₂ Prod.mk (loadX arg1 harg1 x0 k 32 _ _ (k0_off33_eq k)) (loadG arg2 harg2 g0 32 _ _ rfl))
    (cons2 (congrArg₂ Prod.mk (loadX arg1 harg1 x0 k 33 _ _ (k0_off34_eq k)) (loadG arg2 harg2 g0 33 _ _ rfl))
    (cons2 (congrArg₂ Prod.mk (loadX arg1 harg1 x0 k 34 _ _ (k0_off35_eq k)) (loadG arg2 harg2 g0 34 _ _ rfl))
    (cons2 (congrArg₂ Prod.mk (loadX arg1 harg1 x0 k 35 _ _ (k0_off36_eq k)) (loadG arg2 harg2 g0 35 _ _ rfl))
    (cons2 (congrArg₂ Prod.mk (loadX arg1 harg1 x0 k 36 _ _ (k0_off37_eq k)) (loadG arg2 harg2 g0 36 _ _ rfl))
    (cons2 (congrArg₂ Prod.mk (loadX arg1 harg1 x0 k 37 _ _ (k0_off38_eq k)) (loadG arg2 harg2 g0 37 _ _ rfl))
    (cons2 (congrArg₂ Prod.mk (loadX arg1 harg1 x0 k 38 _ _ (k0_off39_eq k)) (loadG arg2 harg2 g0 38 _ _ rfl))
    (cons2 (congrArg₂ Prod.mk (loadX arg1 harg1 x0 k 39 _ _ (k0_off40_eq k)) (loadG arg2 harg2 g0 39 _ _ rfl))
    (cons2 (congrArg₂ Prod.mk (loadX arg1 harg1 x0 k 40 _ _ (k0_off41_eq k)) (loadG arg2 harg2 g0 40 _ _ rfl))
    (cons2 (congrArg₂ Prod.mk (loadX arg1 harg1 x0 k 41 _ _ (k0_off42_eq k)) (loadG arg2 harg2 g0 41 _ _ rfl))
    (cons2 (congrArg₂ Prod.mk (loadX arg1 harg1 x0 k 42 _ _ (k0_off43_eq k)) (loadG arg2 harg2 g0 42 _ _ rfl))
    (cons2 (congrArg₂ Prod.mk (loadX arg1 harg1 x0 k 43 _ _ (k0_off44_eq k)) (loadG arg2 harg2 g0 43 _ _ rfl))
    (cons2 (congrArg₂ Prod.mk (loadX arg1 harg1 x0 k 44 _ _ (k0_off45_eq k)) (loadG arg2 harg2 g0 44 _ _ rfl))
    (cons2 (congrArg₂ Prod.mk (loadX arg1 harg1 x0 k 45 _ _ (k0_off46_eq k)) (loadG arg2 harg2 g0 45 _ _ rfl))
    (cons2 (congrArg₂ Prod.mk (loadX arg1 harg1 x0 k 46 _ _ (k0_off47_eq k)) (loadG arg2 harg2 g0 46 _ _ rfl))
    (cons2 (congrArg₂ Prod.mk (loadX arg1 harg1 x0 k 47 _ _ (k0_off48_eq k)) (loadG arg2 harg2 g0 47 _ _ rfl))
    (cons2 (congrArg₂ Prod.mk (loadX arg1 harg1 x0 k 48 _ _ (k0_off49_eq k)) (loadG arg2 harg2 g0 48 _ _ rfl))
    (cons2 (congrArg₂ Prod.mk (loadX arg1 harg1 x0 k 49 _ _ (k0_off50_eq k)) (loadG arg2 harg2 g0 49 _ _ rfl))
    (cons2 (congrArg₂ Prod.mk (loadX arg1 harg1 x0 k 50 _ _ (k0_off51_eq k)) (loadG arg2 harg2 g0 50 _ _ rfl))
    (cons2 (congrArg₂ Prod.mk (loadX arg1 harg1 x0 k 51 _ _ (k0_off52_eq k)) (loadG arg2 harg2 g0 51 _ _ rfl))
    (cons2 (congrArg₂ Prod.mk (loadX arg1 harg1 x0 k 52 _ _ (k0_off53_eq k)) (loadG arg2 harg2 g0 52 _ _ rfl))
    (cons2 (congrArg₂ Prod.mk (loadX arg1 harg1 x0 k 53 _ _ (k0_off54_eq k)) (loadG arg2 harg2 g0 53 _ _ rfl))
    (cons2 (congrArg₂ Prod.mk (loadX arg1 harg1 x0 k 54 _ _ (k0_off55_eq k)) (loadG arg2 harg2 g0 54 _ _ rfl))
    (cons2 (congrArg₂ Prod.mk (loadX arg1 harg1 x0 k 55 _ _ (k0_off56_eq k)) (loadG arg2 harg2 g0 55 _ _ rfl))
    (cons2 (congrArg₂ Prod.mk (loadX arg1 harg1 x0 k 56 _ _ (k0_off57_eq k)) (loadG arg2 harg2 g0 56 _ _ rfl))
    (cons2 (congrArg₂ Prod.mk (loadX arg1 harg1 x0 k 57 _ _ (k0_off58_eq k)) (loadG arg2 harg2 g0 57 _ _ rfl))
    (cons2 (congrArg₂ Prod.mk (loadX arg1 harg1 x0 k 58 _ _ (k0_off59_eq k)) (loadG arg2 harg2 g0 58 _ _ rfl))
    (cons2 (congrArg₂ Prod.mk (loadX arg1 harg1 x0 k 59 _ _ (k0_off60_eq k)) (loadG arg2 harg2 g0 59 _ _ rfl))
    (cons2 (congrArg₂ Prod.mk (loadX arg1 harg1 x0 k 60 _ _ (k0_off61_eq k)) (loadG arg2 harg2 g0 60 _ _ rfl))
    (cons2 (congrArg₂ Prod.mk (loadX arg1 harg1 x0 k 61 _ _ (k0_off62_eq k)) (loadG arg2 harg2 g0 61 _ _ rfl))
    (cons2 (congrArg₂ Prod.mk (loadX arg1 harg1 x0 k 62 _ _ (k0_off63_eq k)) (loadG arg2 harg2 g0 62 _ _ rfl))
    (cons2 (congrArg₂ Prod.mk (loadX arg1 harg1 x0 k 63 _ _ (k0_off64_eq k)) (loadG arg2 harg2 g0 63 _ _ rfl))
    (rfl))))))))))))))))))))))))))))))))))))))))))))))))))))))))))))))))).trans (by sl_kernel_rfl)

/-- The scratch after the first pass: x times gamma. -/
noncomputable def scr : Vec Ideal S32x8192 .f32 := fun y => x0 (ix2 (trow k (y 0)) (y 1)) * g0 (ix2 0 (y 1))

/-- One piece of the scratch. -/
theorem hwPiece (c : Fin 64) (off1 off2 : Fin 2 → ℕ) (h1 h2 h3) (o1 : off1 = ![32 * k.val, 128 * c.val])
    (o2 : off2 = ![0, 128 * c.val]) :
    ∀ x : (Rect.unit (s := S32x8192) off2 S32x128.size h3).shape.Idx,
    k0_pay7 (View.readAt (Elt Ideal) arg1.view (Rect.unit (s := S256x8192) off1 S32x128.size h1).toLoadRect (harg1.unread x0))
      (View.readAt (Elt Ideal) arg2.view (Rect.unit (s := S1x8192) off2 S1x128.size h2).toLoadRect (harg2.unread g0)) x
      = scr x0 g0 k ((Rect.unit (s := S32x8192) off2 S32x128.size h3).emb x) := by
  intro x
  rw [loadX arg1 harg1 x0 k c _ _ o1, loadG arg2 harg2 g0 c _ _ o2]
  subst o2
  revert x
  intro (j : S32x128.Idx)
  have e0 : (Rect.unit (s := S32x8192) ![0, 128 * c.val] S32x128.size h3).emb j = ix2 (j 0) (col c (j 1)) := by
    funext a; apply Fin.ext; fin_cases a <;> simp [Rect.unit, Rect.emb, ix2, col]
  rw [e0]
  idx_vars j
  pointwise [k0_pay7, k0_pay6, k0_pay5, U, Gm, scr]

/-- A piece that agrees with one function of the whole shape. -/
def Ok {S : Shape} {e : EltTy} (G : S.Idx → Elt Ideal e) (p : View.Piece (Elt Ideal) S e) : Prop :=
  ∀ x : p.1.shape.Idx, p.2 x = G (p.1.emb x)
/-- No pieces are all right. -/
theorem okNil {S : Shape} {e : EltTy} (G : S.Idx → Elt Ideal e) : ∀ p ∈ ([] : List (View.Piece (Elt Ideal) S e)), Ok G p :=
  fun _ h => absurd h List.not_mem_nil
/-- Pieces are all right when the first and the others are. -/
theorem okCons {S : Shape} {e : EltTy} {G : S.Idx → Elt Ideal e} {p : View.Piece (Elt Ideal) S e} {L : List (View.Piece (Elt Ideal) S e)}
    (h : Ok G p) (hL : ∀ q ∈ L, Ok G q) : ∀ q ∈ p :: L, Ok G q := List.forall_mem_cons.2 ⟨h, hL⟩

/-- All that the first pass writes to the scratch is x times gamma. -/
theorem hw_pieces : ∀ p ∈ hw64 (F := Ideal) arg1 arg2 (harg1.unread x0) (harg2.unread g0) k, Ok (scr x0 g0 k) p :=
  okCons (hwPiece arg1 arg2 harg1 harg2 x0 g0 k 63 _ _ (k0_off64_inb k) inb_S1x8192_S1x128_0_8064 inb_S32x8192_S32x128_0_8064 (k0_off64_eq k) rfl)
    (okCons (hwPiece arg1 arg2 harg1 harg2 x0 g0 k 62 _ _ (k0_off63_inb k) inb_S1x8192_S1x128_0_7936 inb_S32x8192_S32x128_0_7936 (k0_off63_eq k) rfl)
    (okCons (hwPiece arg1 arg2 harg1 harg2 x0 g0 k 61 _ _ (k0_off62_inb k) inb_S1x8192_S1x128_0_7808 inb_S32x8192_S32x128_0_7808 (k0_off62_eq k) rfl)
    (okCons (hwPiece arg1 arg2 harg1 harg2 x0 g0 k 60 _ _ (k0_off61_inb k) inb_S1x8192_S1x128_0_7680 inb_S32x8192_S32x128_0_7680 (k0_off61_eq k) rfl)
    (okCons (hwPiece arg1 arg2 harg1 harg2 x0 g0 k 59 _ _ (k0_off60_inb k) inb_S1x8192_S1x128_0_7552 inb_S32x8192_S32x128_0_7552 (k0_off60_eq k) rfl)
    (okCons (hwPiece arg1 arg2 harg1 harg2 x0 g0 k 58 _ _ (k0_off59_inb k) inb_S1x8192_S1x128_0_7424 inb_S32x8192_S32x128_0_7424 (k0_off59_eq k) rfl)
    (okCons (hwPiece arg1 arg2 harg1 harg2 x0 g0 k 57 _ _ (k0_off58_inb k) inb_S1x8192_S1x128_0_7296 inb_S32x8192_S32x128_0_7296 (k0_off58_eq k) rfl)
    (okCons (hwPiece arg1 arg2 harg1 harg2 x0 g0 k 56 _ _ (k0_off57_inb k) inb_S1x8192_S1x128_0_7168 inb_S32x8192_S32x128_0_7168 (k0_off57_eq k) rfl)
    (okCons (hwPiece arg1 arg2 harg1 harg2 x0 g0 k 55 _ _ (k0_off56_inb k) inb_S1x8192_S1x128_0_7040 inb_S32x8192_S32x128_0_7040 (k0_off56_eq k) rfl)
    (okCons (hwPiece arg1 arg2 harg1 harg2 x0 g0 k 54 _ _ (k0_off55_inb k) inb_S1x8192_S1x128_0_6912 inb_S32x8192_S32x128_0_6912 (k0_off55_eq k) rfl)
    (okCons (hwPiece arg1 arg2 harg1 harg2 x0 g0 k 53 _ _ (k0_off54_inb k) inb_S1x8192_S1x128_0_6784 inb_S32x8192_S32x128_0_6784 (k0_off54_eq k) rfl)
    (okCons (hwPiece arg1 arg2 harg1 harg2 x0 g0 k 52 _ _ (k0_off53_inb k) inb_S1x8192_S1x128_0_6656 inb_S32x8192_S32x128_0_6656 (k0_off53_eq k) rfl)
    (okCons (hwPiece arg1 arg2 harg1 harg2 x0 g0 k 51 _ _ (k0_off52_inb k) inb_S1x8192_S1x128_0_6528 inb_S32x8192_S32x128_0_6528 (k0_off52_eq k) rfl)
    (okCons (hwPiece arg1 arg2 harg1 harg2 x0 g0 k 50 _ _ (k0_off51_inb k) inb_S1x8192_S1x128_0_6400 inb_S32x8192_S32x128_0_6400 (k0_off51_eq k) rfl)
    (okCons (hwPiece arg1 arg2 harg1 harg2 x0 g0 k 49 _ _ (k0_off50_inb k) inb_S1x8192_S1x128_0_6272 inb_S32x8192_S32x128_0_6272 (k0_off50_eq k) rfl)
    (okCons (hwPiece arg1 arg2 harg1 harg2 x0 g0 k 48 _ _ (k0_off49_inb k) inb_S1x8192_S1x128_0_6144 inb_S32x8192_S32x128_0_6144 (k0_off49_eq k) rfl)
    (okCons (hwPiece arg1 arg2 harg1 harg2 x0 g0 k 47 _ _ (k0_off48_inb k) inb_S1x8192_S1x128_0_6016 inb_S32x8192_S32x128_0_6016 (k0_off48_eq k) rfl)
    (okCons (hwPiece arg1 arg2 harg1 harg2 x0 g0 k 46 _ _ (k0_off47_inb k) inb_S1x8192_S1x128_0_5888 inb_S32x8192_S32x128_0_5888 (k0_off47_eq k) rfl)
    (okCons (hwPiece arg1 arg2 harg1 harg2 x0 g0 k 45 _ _ (k0_off46_inb k) inb_S1x8192_S1x128_0_5760 inb_S32x8192_S32x128_0_5760 (k0_off46_eq k) rfl)
    (okCons (hwPiece arg1 arg2 harg1 harg2 x0 g0 k 44 _ _ (k0_off45_inb k) inb_S1x8192_S1x128_0_5632 inb_S32x8192_S32x128_0_5632 (k0_off45_eq k) rfl)
    (okCons (hwPiece arg1 arg2 harg1 harg2 x0 g0 k 43 _ _ (k0_off44_inb k) inb_S1x8192_S1x128_0_5504 inb_S32x8192_S32x128_0_5504 (k0_off44_eq k) rfl)
    (okCons (hwPiece arg1 arg2 harg1 harg2 x0 g0 k 42 _ _ (k0_off43_inb k) inb_S1x8192_S1x128_0_5376 inb_S32x8192_S32x128_0_5376 (k0_off43_eq k) rfl)
    (okCons (hwPiece arg1 arg2 harg1 harg2 x0 g0 k 41 _ _ (k0_off42_inb k) inb_S1x8192_S1x128_0_5248 inb_S32x8192_S32x128_0_5248 (k0_off42_eq k) rfl)
    (okCons (hwPiece arg1 arg2 harg1 harg2 x0 g0 k 40 _ _ (k0_off41_inb k) inb_S1x8192_S1x128_0_5120 inb_S32x8192_S32x128_0_5120 (k0_off41_eq k) rfl)
    (okCons (hwPiece arg1 arg2 harg1 harg2 x0 g0 k 39 _ _ (k0_off40_inb k) inb_S1x8192_S1x128_0_4992 inb_S32x8192_S32x128_0_4992 (k0_off40_eq k) rfl)
    (okCons (hwPiece arg1 arg2 harg1 harg2 x0 g0 k 38 _ _ (k0_off39_inb k) inb_S1x8192_S1x128_0_4864 inb_S32x8192_S32x128_0_4864 (k0_off39_eq k) rfl)
    (okCons (hwPiece arg1 arg2 harg1 harg2 x0 g0 k 37 _ _ (k0_off38_inb k) inb_S1x8192_S1x128_0_4736 inb_S32x8192_S32x128_0_4736 (k0_off38_eq k) rfl)
    (okCons (hwPiece arg1 arg2 harg1 harg2 x0 g0 k 36 _ _ (k0_off37_inb k) inb_S1x8192_S1x128_0_4608 inb_S32x8192_S32x128_0_4608 (k0_off37_eq k) rfl)
    (okCons (hwPiece arg1 arg2 harg1 harg2 x0 g0 k 35 _ _ (k0_off36_inb k) inb_S1x8192_S1x128_0_4480 inb_S32x8192_S32x128_0_4480 (k0_off36_eq k) rfl)
    (okCons (hwPiece arg1 arg2 harg1 harg2 x0 g0 k 34 _ _ (k0_off35_inb k) inb_S1x8192_S1x128_0_4352 inb_S32x8192_S32x128_0_4352 (k0_off35_eq k) rfl)
    (okCons (hwPiece arg1 arg2 harg1 harg2 x0 g0 k 33 _ _ (k0_off34_inb k) inb_S1x8192_S1x128_0_4224 inb_S32x8192_S32x128_0_4224 (k0_off34_eq k) rfl)
    (okCons (hwPiece arg1 arg2 harg1 harg2 x0 g0 k 32 _ _ (k0_off33_inb k) inb_S1x8192_S1x128_0_4096 inb_S32x8192_S32x128_0_4096 (k0_off33_eq k) rfl)
    (okCons (hwPiece arg1 arg2 harg1 harg2 x0 g0 k 31 _ _ (k0_off32_inb k) inb_S1x8192_S1x128_0_3968 inb_S32x8192_S32x128_0_3968 (k0_off32_eq k) rfl)
    (okCons (hwPiece arg1 arg2 harg1 harg2 x0 g0 k 30 _ _ (k0_off31_inb k) inb_S1x8192_S1x128_0_3840 inb_S32x8192_S32x128_0_3840 (k0_off31_eq k) rfl)
    (okCons (hwPiece arg1 arg2 harg1 harg2 x0 g0 k 29 _ _ (k0_off30_inb k) inb_S1x8192_S1x128_0_3712 inb_S32x8192_S32x128_0_3712 (k0_off30_eq k) rfl)
    (okCons (hwPiece arg1 arg2 harg1 harg2 x0 g0 k 28 _ _ (k0_off29_inb k) inb_S1x8192_S1x128_0_3584 inb_S32x8192_S32x128_0_3584 (k0_off29_eq k) rfl)
    (okCons (hwPiece arg1 arg2 harg1 harg2 x0 g0 k 27 _ _ (k0_off28_inb k) inb_S1x8192_S1x128_0_3456 inb_S32x8192_S32x128_0_3456 (k0_off28_eq k) rfl)
    (okCons (hwPiece arg1 arg2 harg1 harg2 x0 g0 k 26 _ _ (k0_off27_inb k) inb_S1x8192_S1x128_0_3328 inb_S32x8192_S32x128_0_3328 (k0_off27_eq k) rfl)
    (okCons (hwPiece arg1 arg2 harg1 harg2 x0 g0 k 25 _ _ (k0_off26_inb k) inb_S1x8192_S1x128_0_3200 inb_S32x8192_S32x128_0_3200 (k0_off26_eq k) rfl)
    (okCons (hwPiece arg1 arg2 harg1 harg2 x0 g0 k 24 _ _ (k0_off25_inb k) inb_S1x8192_S1x128_0_3072 inb_S32x8192_S32x128_0_3072 (k0_off25_eq k) rfl)
    (okCons (hwPiece arg1 arg2 harg1 harg2 x0 g0 k 23 _ _ (k0_off24_inb k) inb_S1x8192_S1x128_0_2944 inb_S32x8192_S32x128_0_2944 (k0_off24_eq k) rfl)
    (okCons (hwPiece arg1 arg2 harg1 harg2 x0 g0 k 22 _ _ (k0_off23_inb k) inb_S1x8192_S1x128_0_2816 inb_S32x8192_S32x128_0_2816 (k0_off23_eq k) rfl)
    (okCons (hwPiece arg1 arg2 harg1 harg2 x0 g0 k 21 _ _ (k0_off22_inb k) inb_S1x8192_S1x128_0_2688 inb_S32x8192_S32x128_0_2688 (k0_off22_eq k) rfl)
    (okCons (hwPiece arg1 arg2 harg1 harg2 x0 g0 k 20 _ _ (k0_off21_inb k) inb_S1x8192_S1x128_0_2560 inb_S32x8192_S32x128_0_2560 (k0_off21_eq k) rfl)
    (okCons (hwPiece arg1 arg2 harg1 harg2 x0 g0 k 19 _ _ (k0_off20_inb k) inb_S1x8192_S1x128_0_2432 inb_S32x8192_S32x128_0_2432 (k0_off20_eq k) rfl)
    (okCons (hwPiece arg1 arg2 harg1 harg2 x0 g0 k 18 _ _ (k0_off19_inb k) inb_S1x8192_S1x128_0_2304 inb_S32x8192_S32x128_0_2304 (k0_off19_eq k) rfl)
    (okCons (hwPiece arg1 arg2 harg1 harg2 x0 g0 k 17 _ _ (k0_off18_inb k) inb_S1x8192_S1x128_0_2176 inb_S32x8192_S32x128_0_2176 (k0_off18_eq k) rfl)
    (okCons (hwPiece arg1 arg2 harg1 harg2 x0 g0 k 16 _ _ (k0_off17_inb k) inb_S1x8192_S1x128_0_2048 inb_S32x8192_S32x128_0_2048 (k0_off17_eq k) rfl)
    (okCons (hwPiece arg1 arg2 harg1 harg2 x0 g0 k 15 _ _ (k0_off16_inb k) inb_S1x8192_S1x128_0_1920 inb_S32x8192_S32x128_0_1920 (k0_off16_eq k) rfl)
    (okCons (hwPiece arg1 arg2 harg1 harg2 x0 g0 k 14 _ _ (k0_off15_inb k) inb_S1x8192_S1x128_0_1792 inb_S32x8192_S32x128_0_1792 (k0_off15_eq k) rfl)
    (okCons (hwPiece arg1 arg2 harg1 harg2 x0 g0 k 13 _ _ (k0_off14_inb k) inb_S1x8192_S1x128_0_1664 inb_S32x8192_S32x128_0_1664 (k0_off14_eq k) rfl)
    (okCons (hwPiece arg1 arg2 harg1 harg2 x0 g0 k 12 _ _ (k0_off13_inb k) inb_S1x8192_S1x128_0_1536 inb_S32x8192_S32x128_0_1536 (k0_off13_eq k) rfl)
    (okCons (hwPiece arg1 arg2 harg1 harg2 x0 g0 k 11 _ _ (k0_off12_inb k) inb_S1x8192_S1x128_0_1408 inb_S32x8192_S32x128_0_1408 (k0_off12_eq k) rfl)
    (okCons (hwPiece arg1 arg2 harg1 harg2 x0 g0 k 10 _ _ (k0_off11_inb k) inb_S1x8192_S1x128_0_1280 inb_S32x8192_S32x128_0_1280 (k0_off11_eq k) rfl)
    (okCons (hwPiece arg1 arg2 harg1 harg2 x0 g0 k 9 _ _ (k0_off10_inb k) inb_S1x8192_S1x128_0_1152 inb_S32x8192_S32x128_0_1152 (k0_off10_eq k) rfl)
    (okCons (hwPiece arg1 arg2 harg1 harg2 x0 g0 k 8 _ _ (k0_off9_inb k) inb_S1x8192_S1x128_0_1024 inb_S32x8192_S32x128_0_1024 (k0_off9_eq k) rfl)
    (okCons (hwPiece arg1 arg2 harg1 harg2 x0 g0 k 7 _ _ (k0_off8_inb k) inb_S1x8192_S1x128_0_896 inb_S32x8192_S32x128_0_896 (k0_off8_eq k) rfl)
    (okCons (hwPiece arg1 arg2 harg1 harg2 x0 g0 k 6 _ _ (k0_off7_inb k) inb_S1x8192_S1x128_0_768 inb_S32x8192_S32x128_0_768 (k0_off7_eq k) rfl)
    (okCons (hwPiece arg1 arg2 harg1 harg2 x0 g0 k 5 _ _ (k0_off6_inb k) inb_S1x8192_S1x128_0_640 inb_S32x8192_S32x128_0_640 (k0_off6_eq k) rfl)
    (okCons (hwPiece arg1 arg2 harg1 harg2 x0 g0 k 4 _ _ (k0_off5_inb k) inb_S1x8192_S1x128_0_512 inb_S32x8192_S32x128_0_512 (k0_off5_eq k) rfl)
    (okCons (hwPiece arg1 arg2 harg1 harg2 x0 g0 k 3 _ _ (k0_off4_inb k) inb_S1x8192_S1x128_0_384 inb_S32x8192_S32x128_0_384 (k0_off4_eq k) rfl)
    (okCons (hwPiece arg1 arg2 harg1 harg2 x0 g0 k 2 _ _ (k0_off3_inb k) inb_S1x8192_S1x128_0_256 inb_S32x8192_S32x128_0_256 (k0_off3_eq k) rfl)
    (okCons (hwPiece arg1 arg2 harg1 harg2 x0 g0 k 1 _ _ (k0_off2_inb k) inb_S1x8192_S1x128_0_128 inb_S32x8192_S32x128_0_128 (k0_off2_eq k) rfl)
    (okCons (hwPiece arg1 arg2 harg1 harg2 x0 g0 k 0 _ _ (k0_off1_inb k) inb_S1x8192_S1x128_0_0 inb_S32x8192_S32x128_0_0 (k0_off1_eq k) rfl)
    (okNil _))))))))))))))))))))))))))))))))))))))))))))))))))))))))))))))))

/-- The first pass writes the whole scratch. -/
theorem scr_cover : ∀ y : S32x8192.Idx, ∃ p ∈ hw64 (F := Ideal) arg1 arg2 (harg1.unread x0) (harg2.unread g0) k, y ∈ p.1.set :=
  View.cover_of_tiledL _ S32x128.size (by sl_kernel_rfl)

/-- Chunk `c` of the scratch. -/
noncomputable def V (c : Fin 64) : Vec Ideal S32x128 .f32 := fun j => scr x0 g0 k (ix2 (j 0) (col c (j 1)))

/-- A lane block of the scratch, loaded. -/
theorem loadV (c : Fin 64) (off : Fin 2 → ℕ) (h) (ho : off = ![0, 128 * c.val]) :
    arg9.view.readCov (HW_arg9_64 (F := Ideal) arg1 arg2 (harg1.unread x0) (harg2.unread g0) k) (Rect.unit (s := S32x8192) off S32x128.size h).toLoadRect
      = V x0 g0 k c := by
  subst ho
  rw [hw_eq, View.readCov_eq_canon']
  funext j
  rw [View.canon_apply_of_pieces (scr x0 g0 k) _ (hw_pieces arg1 arg2 harg1 harg2 x0 g0 k) _
    (scr_cover arg1 arg2 harg1 harg2 x0 g0 k _)]
  refine congrArg (scr x0 g0 k) (funext fun a => Fin.ext ?_)
  fin_cases a <;> simp [LoadRect.idx, Rect.unit, Rect.toLoadRect, ix2, col]

end
end Cert.KernelIdeal.Own
-- ==== Proof.KI.Rows.lean ====
module
public import proofs.«01_k».proof.Proof.KI.Load
open Idealize.ShloMosaic Cert.KernelIdeal Cert.KernelIdeal.Gen
open Cert.Spec Cert.Scale
open Cert.KernelIdeal.Own.trip_k0_t1.sl

/-!
The lane loop of the projection kernel, all its trips: the codes and the scale it leaves for every token of a block.
-/
namespace Cert.KernelIdeal.Own
@[expose] public section
set_option maxRecDepth 16384

variable (arg1 : Memref sig .tc .vmem S256x8192 .bf16) (arg2 : Memref sig .tc .vmem S1x8192 .f32)
  (arg9 : Memref sig .tc .vmem S32x8192 .f32)
  (harg1 : arg1.IsWhole) (harg2 : arg2.IsWhole)
  (x0 : FVec Ideal S256x8192 .bf16) (g0 : FVec Ideal S1x8192 .f32)
  (k : Fin k0_t1_loop.trips)

/-- The running sum of squares, by lane. -/
theorem ss_fold (us : List (Vec Ideal S32x128 .bf16)) (z : FVec Ideal S32x128 .f32) (r : Fin 32) (l : Fin 128) :
    (us.foldl (fun a u => addf a (mulf (k0_pay5 u) (k0_pay5 u))) z) (ix2 r l)
      = z (ix2 r l) + (us.map fun u => (u (ix2 r l) * u (ix2 r l) : EReal)).sum := by
  induction us generalizing z with
  | nil => simp
  | cons u us ih =>
    rw [List.foldl_cons, ih, List.map_cons, List.sum_cons, ← add_assoc]
    congr 1
    pointwise [k0_pay5]

/-- When the running maximum, by lane, is below a bound. -/
theorem mx_fold (us : List (Vec Ideal S32x128 .bf16 × Vec Ideal S1x128 .f32)) (z : FVec Ideal S32x128 .f32) (r : Fin 32)
    (l : Fin 128) (m : EReal) :
    (us.foldl (fun a u => maximumf a (absf (k0_pay6 u.1 u.2))) z) (ix2 r l) ≤ m
      ↔ z (ix2 r l) ≤ m ∧ ∀ u ∈ us, mag (u.1 (ix2 r l) * u.2 (ix2 0 l)) ≤ m := by
  induction us generalizing z with
  | nil => simp
  | cons u us ih =>
    rw [List.foldl_cons, ih, List.forall_mem_cons, ← and_assoc]
    refine and_congr_left fun _ => ?_
    have e : maximumf z (absf (k0_pay6 u.1 u.2)) (ix2 r l) = max (z (ix2 r l)) (mag (u.1 (ix2 r l) * u.2 (ix2 0 l))) := by
      pointwise [k0_pay6, k0_pay5, mag]
      rfl
    rw [e, max_le_iff]

/-- The sum of squares of one lane over the 64 chunks. -/
theorem ss_apply (r : Fin 32) (l : Fin 128) :
    ssOf (List.ofFn (U x0 k)) (ix2 r l)
      = ∑ c : Fin 64, rowX x0 (trow k r) (col c l) * rowX x0 (trow k r) (col c l) := by
  unfold ssOf
  rw [ss_fold, List.map_ofFn, List.sum_ofFn]
  have e : broadcast S32x128 (Scalar.ofBits (F := Ideal) .f32 0x00000000#32) (ix2 r l) = (0 : EReal) := c_zero
  rw [e, zero_add]
  rfl

/-- When the largest magnitude of one lane over the 64 chunks is below a bound. -/
theorem mx_le (r : Fin 32) (l : Fin 128) (m : EReal) :
    mxOf (chunks x0 g0 k) (ix2 r l) ≤ m
      ↔ ofB 0x00000000#32 ≤ m ∧ ∀ c : Fin 64, mag (rowX x0 (trow k r) (col c l) * rowG g0 (col c l)) ≤ m := by
  unfold mxOf chunks
  rw [mx_fold, List.forall_mem_ofFn_iff]
  rfl

/-- A trip's reciprocal root, at a row. -/
theorem r76_apply (r : Fin 32) (b : Fin 1) : r_76 (F := Ideal) arg1 (harg1.unread x0) k (ix2 r b) = rms (rowX x0 (trow k r)) := by
  rw [r76_eq, xs64_eq]
  have e : ∀ ss : FVec Ideal S32x128 .f32, rOf ss (ix2 r b)
      = Ideal.rsqrt ((∑ x, ss (ix2 r x)) * ofB 0x39000000#32 + ofB 0x358637BD#32) := by
    intro ss; pointwise [rOf]
  rw [e, rms, ← sum_col]
  congr 3
  exact Finset.sum_congr rfl fun l _ => ss_apply x0 k r l

/-- The argument of a trip's scale, at a row. -/
theorem r77_apply (r : Fin 32) (b : Fin 1) :
    r_77 (F := Ideal) arg1 arg2 (harg1.unread x0) (harg2.unread g0) k (ix2 r b) = rowArg (rowX x0 (trow k r)) (rowG g0) := by
  rw [r77_eq, xg64_eq]
  have e : ∀ (mx : FVec Ideal S32x128 .f32) (rr : FVec Ideal S32x1 .f32), sOf mx rr (ix2 r b)
      = Finset.univ.fold max (ofB 0xFF800000#32) (fun x : Fin 128 => mx (ix2 r x)) * rr (ix2 r b) * ofB 0x3B124925#32 := by
    intro mx rr; pointwise [sOf]
  rw [e, r76_apply, rowArg]
  congr 2
  refine eq_of_forall_ge_iff fun m => ?_
  rw [Finset.fold_max_le, rowMax, Finset.fold_max_le, c_bot]
  have hl : ∀ l : Fin 128, mxOf (chunks x0 g0 k) (ix2 r l) ≤ m ↔ _ := fun l => mx_le x0 g0 k r l m
  simp only [hl, Finset.mem_univ, true_implies, bot_le, true_and]
  rw [← forall_col (fun c => mag (rowX x0 (trow k r) c * rowG g0 c) ≤ m)]
  exact ⟨fun h => ⟨(h 0).1, fun l c => (h l).2 c⟩, fun h l => ⟨h.1, fun c => h.2 l c⟩⟩

/-- The codes of a block of tokens. -/
noncomputable def G5 : Vec Ideal S256x8192 .fp8e4m3 := fun y => rowCode (rowX x0 (y 0)) (rowG g0) (y 1)
/-- The scales of a block of tokens. -/
noncomputable def G6 : Vec Ideal S256x1 .f32 := fun y => rowScale (rowX x0 (y 0)) (rowG g0)

/-- One piece of the codes. -/
theorem p5Piece (c : Fin 64) (off1 off2 : Fin 2 → ℕ) (h1 h2) (o1 : off1 = ![32 * k.val, 128 * c.val])
    (o2 : off2 = ![0, 128 * c.val]) :
    Ok (G5 x0 g0) ⟨Rect.unit (s := S256x8192) off1 S32x128.size h1,
      codesOf (F := Ideal) (r_84 (F := Ideal) arg1 arg2 (harg1.unread x0) (harg2.unread g0) k)
        (arg9.view.readCov (HW_arg9_64 (F := Ideal) arg1 arg2 (harg1.unread x0) (harg2.unread g0) k)
          (Rect.unit (s := S32x8192) off2 S32x128.size h2).toLoadRect)⟩ := by
  rw [loadV arg1 arg2 arg9 harg1 harg2 x0 g0 k c off2 h2 o2, r84_eq]
  subst o1
  intro (j : S32x128.Idx)
  have e0 : (Rect.unit (s := S256x8192) ![32 * k.val, 128 * c.val] S32x128.size h1).emb j = ix2 (trow k (j 0)) (col c (j 1)) := by
    funext a; apply Fin.ext; fin_cases a <;> simp [Rect.unit, Rect.emb, ix2, col, trow]
  refine Eq.trans ?_ (congrArg (G5 x0 g0) e0.symm)
  dsimp only
  have e : ∀ (mr : FVec Ideal S32x1 .f32) (v : Vec Ideal S32x128 .f32) (r : Fin 32) (l : Fin 128),
      codesOf (broadcastTo S32x128 (shapeCast S32x1 mr shapeCasts_S32x1_S32x1) broadcasts_S32x1_S32x128) v (ix2 r l)
        = clip (v (ix2 r l) * mr (ix2 r 0)) := by
    intro mr v r l; pointwise [codesOf, clip]
  have e2 : ∀ r : Fin 32, mulf (F := Ideal) (φ := .f32) (s := S32x1) (r_76 (F := Ideal) arg1 (harg1.unread x0) k) (fun j => kInv (r_77 (F := Ideal) arg1 arg2 (harg1.unread x0) (harg2.unread g0) k j)) (ix2 r 0)
      = rms (rowX x0 (trow k r)) * kInv (rowArg (rowX x0 (trow k r)) (rowG g0)) := by
    intro r
    rw [← r76_apply arg1 harg1 x0 k r 0, ← r77_apply arg1 arg2 harg1 harg2 x0 g0 k r 0]; rfl
  idx_vars j
  rw [e]
  rw [e2]
  rfl

/-- All codes that a trip writes are right. -/
theorem l5_pieces : ∀ p ∈ l5 (F := Ideal) arg1 arg2 arg9 (harg1.unread x0) (harg2.unread g0) k
    (r_84 (F := Ideal) arg1 arg2 (harg1.unread x0) (harg2.unread g0) k), Ok (G5 x0 g0) p :=
  okCons (p5Piece arg1 arg2 arg9 harg1 harg2 x0 g0 k 63 _ _ (k0_off64_inb k) inb_S32x8192_S32x128_0_8064 (k0_off64_eq k) rfl)
    (okCons (p5Piece arg1 arg2 arg9 harg1 harg2 x0 g0 k 62 _ _ (k0_off63_inb k) inb_S32x8192_S32x128_0_7936 (k0_off63_eq k) rfl)
    (okCons (p5Piece arg1 arg2 arg9 harg1 harg2 x0 g0 k 61 _ _ (k0_off62_inb k) inb_S32x8192_S32x128_0_7808 (k0_off62_eq k) rfl)
    (okCons (p5Piece arg1 arg2 arg9 harg1 harg2 x0 g0 k 60 _ _ (k0_off61_inb k) inb_S32x8192_S32x128_0_7680 (k0_off61_eq k) rfl)
    (okCons (p5Piece arg1 arg2 arg9 harg1 harg2 x0 g0 k 59 _ _ (k0_off60_inb k) inb_S32x8192_S32x128_0_7552 (k0_off60_eq k) rfl)
    (okCons (p5Piece arg1 arg2 arg9 harg1 harg2 x0 g0 k 58 _ _ (k0_off59_inb k) inb_S32x8192_S32x128_0_7424 (k0_off59_eq k) rfl)
    (okCons (p5Piece arg1 arg2 arg9 harg1 harg2 x0 g0 k 57 _ _ (k0_off58_inb k) inb_S32x8192_S32x128_0_7296 (k0_off58_eq k) rfl)
    (okCons (p5Piece arg1 arg2 arg9 harg1 harg2 x0 g0 k 56 _ _ (k0_off57_inb k) inb_S32x8192_S32x128_0_7168 (k0_off57_eq k) rfl)
    (okCons (p5Piece arg1 arg2 arg9 harg1 harg2 x0 g0 k 55 _ _ (k0_off56_inb k) inb_S32x8192_S32x128_0_7040 (k0_off56_eq k) rfl)
    (okCons (p5Piece arg1 arg2 arg9 harg1 harg2 x0 g0 k 54 _ _ (k0_off55_inb k) inb_S32x8192_S32x128_0_6912 (k0_off55_eq k) rfl)
    (okCons (p5Piece arg1 arg2 arg9 harg1 harg2 x0 g0 k 53 _ _ (k0_off54_inb k) inb_S32x8192_S32x128_0_6784 (k0_off54_eq k) rfl)
    (okCons (p5Piece arg1 arg2 arg9 harg1 harg2 x0 g0 k 52 _ _ (k0_off53_inb k) inb_S32x8192_S32x128_0_6656 (k0_off53_eq k) rfl)
    (okCons (p5Piece arg1 arg2 arg9 harg1 harg2 x0 g0 k 51 _ _ (k0_off52_inb k) inb_S32x8192_S32x128_0_6528 (k0_off52_eq k) rfl)
    (okCons (p5Piece arg1 arg2 arg9 harg1 harg2 x0 g0 k 50 _ _ (k0_off51_inb k) inb_S32x8192_S32x128_0_6400 (k0_off51_eq k) rfl)
    (okCons (p5Piece arg1 arg2 arg9 harg1 harg2 x0 g0 k 49 _ _ (k0_off50_inb k) inb_S32x8192_S32x128_0_6272 (k0_off50_eq k) rfl)
    (okCons (p5Piece arg1 arg2 arg9 harg1 harg2 x0 g0 k 48 _ _ (k0_off49_inb k) inb_S32x8192_S32x128_0_6144 (k0_off49_eq k) rfl)
    (okCons (p5Piece arg1 arg2 arg9 harg1 harg2 x0 g0 k 47 _ _ (k0_off48_inb k) inb_S32x8192_S32x128_0_6016 (k0_off48_eq k) rfl)
    (okCons (p5Piece arg1 arg2 arg9 harg1 harg2 x0 g0 k 46 _ _ (k0_off47_inb k) inb_S32x8192_S32x128_0_5888 (k0_off47_eq k) rfl)
    (okCons (p5Piece arg1 arg2 arg9 harg1 harg2 x0 g0 k 45 _ _ (k0_off46_inb k) inb_S32x8192_S32x128_0_5760 (k0_off46_eq k) rfl)
    (okCons (p5Piece arg1 arg2 arg9 harg1 harg2 x0 g0 k 44 _ _ (k0_off45_inb k) inb_S32x8192_S32x128_0_5632 (k0_off45_eq k) rfl)
    (okCons (p5Piece arg1 arg2 arg9 harg1 harg2 x0 g0 k 43 _ _ (k0_off44_inb k) inb_S32x8192_S32x128_0_5504 (k0_off44_eq k) rfl)
    (okCons (p5Piece arg1 arg2 arg9 harg1 harg2 x0 g0 k 42 _ _ (k0_off43_inb k) inb_S32x8192_S32x128_0_5376 (k0_off43_eq k) rfl)
    (okCons (p5Piece arg1 arg2 arg9 harg1 harg2 x0 g0 k 41 _ _ (k0_off42_inb k) inb_S32x8192_S32x128_0_5248 (k0_off42_eq k) rfl)
    (okCons (p5Piece arg1 arg2 arg9 harg1 harg2 x0 g0 k 40 _ _ (k0_off41_inb k) inb_S32x8192_S32x128_0_5120 (k0_off41_eq k) rfl)
    (okCons (p5Piece arg1 arg2 arg9 harg1 harg2 x0 g0 k 39 _ _ (k0_off40_inb k) inb_S32x8192_S32x128_0_4992 (k0_off40_eq k) rfl)
    (okCons (p5Piece arg1 arg2 arg9 harg1 harg2 x0 g0 k 38 _ _ (k0_off39_inb k) inb_S32x8192_S32x128_0_4864 (k0_off39_eq k) rfl)
    (okCons (p5Piece arg1 arg2 arg9 harg1 harg2 x0 g0 k 37 _ _ (k0_off38_inb k) inb_S32x8192_S32x128_0_4736 (k0_off38_eq k) rfl)
    (okCons (p5Piece arg1 arg2 arg9 harg1 harg2 x0 g0 k 36 _ _ (k0_off37_inb k) inb_S32x8192_S32x128_0_4608 (k0_off37_eq k) rfl)
    (okCons (p5Piece arg1 arg2 arg9 harg1 harg2 x0 g0 k 35 _ _ (k0_off36_inb k) inb_S32x8192_S32x128_0_4480 (k0_off36_eq k) rfl)
    (okCons (p5Piece arg1 arg2 arg9 harg1 harg2 x0 g0 k 34 _ _ (k0_off35_inb k) inb_S32x8192_S32x128_0_4352 (k0_off35_eq k) rfl)
    (okCons (p5Piece arg1 arg2 arg9 harg1 harg2 x0 g0 k 33 _ _ (k0_off34_inb k) inb_S32x8192_S32x128_0_4224 (k0_off34_eq k) rfl)
    (okCons (p5Piece arg1 arg2 arg9 harg1 harg2 x0 g0 k 32 _ _ (k0_off33_inb k) inb_S32x8192_S32x128_0_4096 (k0_off33_eq k) rfl)
    (okCons (p5Piece arg1 arg2 arg9 harg1 harg2 x0 g0 k 31 _ _ (k0_off32_inb k) inb_S32x8192_S32x128_0_3968 (k0_off32_eq k) rfl)
    (okCons (p5Piece arg1 arg2 arg9 harg1 harg2 x0 g0 k 30 _ _ (k0_off31_inb k) inb_S32x8192_S32x128_0_3840 (k0_off31_eq k) rfl)
    (okCons (p5Piece arg1 arg2 arg9 harg1 harg2 x0 g0 k 29 _ _ (k0_off30_inb k) inb_S32x8192_S32x128_0_3712 (k0_off30_eq k) rfl)
    (okCons (p5Piece arg1 arg2 arg9 harg1 harg2 x0 g0 k 28 _ _ (k0_off29_inb k) inb_S32x8192_S32x128_0_3584 (k0_off29_eq k) rfl)
    (okCons (p5Piece arg1 arg2 arg9 harg1 harg2 x0 g0 k 27 _ _ (k0_off28_inb k) inb_S32x8192_S32x128_0_3456 (k0_off28_eq k) rfl)
    (okCons (p5Piece arg1 arg2 arg9 harg1 harg2 x0 g0 k 26 _ _ (k0_off27_inb k) inb_S32x8192_S32x128_0_3328 (k0_off27_eq k) rfl)
    (okCons (p5Piece arg1 arg2 arg9 harg1 harg2 x0 g0 k 25 _ _ (k0_off26_inb k) inb_S32x8192_S32x128_0_3200 (k0_off26_eq k) rfl)
    (okCons (p5Piece arg1 arg2 arg9 harg1 harg2 x0 g0 k 24 _ _ (k0_off25_inb k) inb_S32x8192_S32x128_0_3072 (k0_off25_eq k) rfl)
    (okCons (p5Piece arg1 arg2 arg9 harg1 harg2 x0 g0 k 23 _ _ (k0_off24_inb k) inb_S32x8192_S32x128_0_2944 (k0_off24_eq k) rfl)
    (okCons (p5Piece arg1 arg2 arg9 harg1 harg2 x0 g0 k 22 _ _ (k0_off23_inb k) inb_S32x8192_S32x128_0_2816 (k0_off23_eq k) rfl)
    (okCons (p5Piece arg1 arg2 arg9 harg1 harg2 x0 g0 k 21 _ _ (k0_off22_inb k) inb_S32x8192_S32x128_0_2688 (k0_off22_eq k) rfl)
    (okCons (p5Piece arg1 arg2 arg9 harg1 harg2 x0 g0 k 20 _ _ (k0_off21_inb k) inb_S32x8192_S32x128_0_2560 (k0_off21_eq k) rfl)
    (okCons (p5Piece arg1 arg2 arg9 harg1 harg2 x0 g0 k 19 _ _ (k0_off20_inb k) inb_S32x8192_S32x128_0_2432 (k0_off20_eq k) rfl)
    (okCons (p5Piece arg1 arg2 arg9 harg1 harg2 x0 g0 k 18 _ _ (k0_off19_inb k) inb_S32x8192_S32x128_0_2304 (k0_off19_eq k) rfl)
    (okCons (p5Piece arg1 arg2 arg9 harg1 harg2 x0 g0 k 17 _ _ (k0_off18_inb k) inb_S32x8192_S32x128_0_2176 (k0_off18_eq k) rfl)
    (okCons (p5Piece arg1 arg2 arg9 harg1 harg2 x0 g0 k 16 _ _ (k0_off17_inb k) inb_S32x8192_S32x128_0_2048 (k0_off17_eq k) rfl)
    (okCons (p5Piece arg1 arg2 arg9 harg1 harg2 x0 g0 k 15 _ _ (k0_off16_inb k) inb_S32x8192_S32x128_0_1920 (k0_off16_eq k) rfl)
    (okCons (p5Piece arg1 arg2 arg9 harg1 harg2 x0 g0 k 14 _ _ (k0_off15_inb k) inb_S32x8192_S32x128_0_1792 (k0_off15_eq k) rfl)
    (okCons (p5Piece arg1 arg2 arg9 harg1 harg2 x0 g0 k 13 _ _ (k0_off14_inb k) inb_S32x8192_S32x128_0_1664 (k0_off14_eq k) rfl)
    (okCons (p5Piece arg1 arg2 arg9 harg1 harg2 x0 g0 k 12 _ _ (k0_off13_inb k) inb_S32x8192_S32x128_0_1536 (k0_off13_eq k) rfl)
    (okCons (p5Piece arg1 arg2 arg9 harg1 harg2 x0 g0 k 11 _ _ (k0_off12_inb k) inb_S32x8192_S32x128_0_1408 (k0_off12_eq k) rfl)
    (okCons (p5Piece arg1 arg2 arg9 harg1 harg2 x0 g0 k 10 _ _ (k0_off11_inb k) inb_S32x8192_S32x128_0_1280 (k0_off11_eq k) rfl)
    (okCons (p5Piece arg1 arg2 arg9 harg1 harg2 x0 g0 k 9 _ _ (k0_off10_inb k) inb_S32x8192_S32x128_0_1152 (k0_off10_eq k) rfl)
    (okCons (p5Piece arg1 arg2 arg9 harg1 harg2 x0 g0 k 8 _ _ (k0_off9_inb k) inb_S32x8192_S32x128_0_1024 (k0_off9_eq k) rfl)
    (okCons (p5Piece arg1 arg2 arg9 harg1 harg2 x0 g0 k 7 _ _ (k0_off8_inb k) inb_S32x8192_S32x128_0_896 (k0_off8_eq k) rfl)
    (okCons (p5Piece arg1 arg2 arg9 harg1 harg2 x0 g0 k 6 _ _ (k0_off7_inb k) inb_S32x8192_S32x128_0_768 (k0_off7_eq k) rfl)
    (okCons (p5Piece arg1 arg2 arg9 harg1 harg2 x0 g0 k 5 _ _ (k0_off6_inb k) inb_S32x8192_S32x128_0_640 (k0_off6_eq k) rfl)
    (okCons (p5Piece arg1 arg2 arg9 harg1 harg2 x0 g0 k 4 _ _ (k0_off5_inb k) inb_S32x8192_S32x128_0_512 (k0_off5_eq k) rfl)
    (okCons (p5Piece arg1 arg2 arg9 harg1 harg2 x0 g0 k 3 _ _ (k0_off4_inb k) inb_S32x8192_S32x128_0_384 (k0_off4_eq k) rfl)
    (okCons (p5Piece arg1 arg2 arg9 harg1 harg2 x0 g0 k 2 _ _ (k0_off3_inb k) inb_S32x8192_S32x128_0_256 (k0_off3_eq k) rfl)
    (okCons (p5Piece arg1 arg2 arg9 harg1 harg2 x0 g0 k 1 _ _ (k0_off2_inb k) inb_S32x8192_S32x128_0_128 (k0_off2_eq k) rfl)
    (okCons (p5Piece arg1 arg2 arg9 harg1 harg2 x0 g0 k 0 _ _ (k0_off1_inb k) inb_S32x8192_S32x128_0_0 (k0_off1_eq k) rfl)
    (okNil _))))))))))))))))))))))))))))))))))))))))))))))))))))))))))))))))

/-- The scales that a trip writes are right. -/
theorem p6Piece : Ok (G6 x0 g0) ⟨Rect.unit (s := S256x1) (k0_off65 k) S32x1.size (k0_off65_inb k),
    r_83 (F := Ideal) arg1 arg2 (harg1.unread x0) (harg2.unread g0) k⟩ := by
  have go : ∀ (off : Fin 2 → ℕ) (h) (_ : off = ![32 * k.val, 0]), Ok (G6 x0 g0) ⟨Rect.unit (s := S256x1) off S32x1.size h,
      r_83 (F := Ideal) arg1 arg2 (harg1.unread x0) (harg2.unread g0) k⟩ := by
    intro off h ho
    subst ho
    rw [r83_eq]
    intro (j : S32x1.Idx)
    have e0 : (Rect.unit (s := S256x1) ![32 * k.val, 0] S32x1.size h).emb j = ix2 (trow k (j 0)) (j 1) := by
      funext a; apply Fin.ext; fin_cases a <;> simp [Rect.unit, Rect.emb, ix2, trow]
    show kScale _ = G6 x0 g0 ((Rect.unit (s := S256x1) ![32 * k.val, 0] S32x1.size h).emb j)
    rw [e0]
    idx_vars j
    rw [r77_apply]
    rfl
  exact go _ _ (k0_off65_eq k)

section
variable (𝒱 : Variants) (cc : Dev nD) (bd : Option 𝒱.V) (i : grid0.Coords) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (harg9 : arg9.IsWhole)

/-- The codes and the scales the loop has written before trip `n` all agree with `G5` and `G6`. -/
theorem pb_ok : ∀ n, n ≤ k0_t1_loop.trips →
    (∀ p ∈ (pb_k0_t1 (F := Ideal) 𝒱 cc bd i arg1 harg1 arg2 harg2 arg3 harg3 arg4 harg4 arg5 harg5 arg6 harg6 arg7 harg7 arg8 harg8 arg9 harg9 (harg1.unread x0) (harg2.unread g0) n).1, Ok (G5 x0 g0) p)
      ∧ ∀ p ∈ (pb_k0_t1 (F := Ideal) 𝒱 cc bd i arg1 harg1 arg2 harg2 arg3 harg3 arg4 harg4 arg5 harg5 arg6 harg6 arg7 harg7 arg8 harg8 arg9 harg9 (harg1.unread x0) (harg2.unread g0) n).2.1, Ok (G6 x0 g0) p
  | 0, _ => by
    rw [pb_k0_t1.eq_1]
    exact ⟨okNil _, okNil _⟩
  | n + 1, hn => by
    obtain ⟨i5, i6⟩ := pb_ok n (Nat.le_of_succ_le hn)
    have e := pb_k0_t1_succ (F := Ideal) 𝒱 cc bd i arg1 harg1 arg2 harg2 arg3 harg3 arg4 harg4 arg5 harg5 arg6 harg6 arg7 harg7 arg8 harg8 arg9 harg9 (harg1.unread x0) (harg2.unread g0) ⟨n, hn⟩
    rw [show n + 1 = (⟨n, hn⟩ : Fin k0_t1_loop.trips).val + 1 from rfl, e]
    refine ⟨fun p hp => ?_, fun p hp => ?_⟩
    · rcases List.mem_append.mp hp with h | h
      · rw [show (tripL_k0_t1 (F := Ideal) 𝒱 cc bd i arg1 harg1 arg2 harg2 arg3 harg3 arg4 harg4 arg5 harg5 arg6 harg6 arg7 harg7 arg8 harg8 arg9 harg9 (harg1.unread x0) (harg2.unread g0) ⟨n, hn⟩).1 = _ from trip5_eq ..] at h
        exact l5_pieces arg1 arg2 arg9 harg1 harg2 x0 g0 ⟨n, hn⟩ p h
      · exact i5 p h
    · rcases List.mem_append.mp hp with h | h
      · rw [show (tripL_k0_t1 (F := Ideal) 𝒱 cc bd i arg1 harg1 arg2 harg2 arg3 harg3 arg4 harg4 arg5 harg5 arg6 harg6 arg7 harg7 arg8 harg8 arg9 harg9 (harg1.unread x0) (harg2.unread g0) ⟨n, hn⟩).2.1 = _ from trip6_eq ..] at h
        rw [List.mem_singleton.mp h]
        exact p6Piece arg1 arg2 harg1 harg2 x0 g0 ⟨n, hn⟩
      · exact i6 p h
end
end
end Cert.KernelIdeal.Own
-- ==== Proof.KI.Body.lean ====
module
public import proofs.«01_k».proof.Proof.KI.Rows
open Idealize.ShloMosaic Cert.KernelIdeal Cert.KernelIdeal.Gen
open Cert.Spec Cert.Scale

/-!
One grid point of the projection kernel: the block of each output it leaves, as a function of its input blocks.
-/
namespace Cert.KernelIdeal.Own
@[expose] public section
set_option maxRecDepth 16384

/-- A load of a whole memref reads its contents. -/
theorem readAt_all {S : Shape} {e : EltTy} (m : Memref sig .tc .vmem S e) (hm : m.IsWhole) (x : Vec Ideal S e)
    (off : Fin S.rank → ℕ) (h) (ho : ∀ a, off a = 0) :
    View.readAt (Elt Ideal) m.view (Rect.unit (s := S) off S.size h).toLoadRect (hm.unread x) = x := by
  funext j
  rw [hm.readAt_unread]
  refine congrArg x (funext fun a => Fin.ext ?_)
  simp [LoadRect.idx, Rect.unit, Rect.toLoadRect, ho a]

/-- A load of a whole memref that pieces of one function cover reads that function. -/
theorem readCov_all {S : Shape} {e : EltTy} (m : Memref sig .tc .vmem S e) (G : Vec Ideal S e) (L : List (View.Piece (Elt Ideal) S e))
    (hL : ∀ p ∈ L, Ok G p) (hc : ∀ y, ∃ p ∈ L, y ∈ p.1.set) (off : Fin S.rank → ℕ) (h) (ho : ∀ a, off a = 0) :
    m.view.readCov L (Rect.unit (s := S) off S.size h).toLoadRect = G := by
  rw [View.readCov_eq_canon']
  funext j
  rw [View.canon_apply_of_pieces G L hL _ (hc _)]
  refine congrArg G (funext fun a => Fin.ext ?_)
  simp [LoadRect.idx, Rect.unit, Rect.toLoadRect, ho a]

/-- The whole-shape rectangle moves nothing. -/
theorem emb_all {S : Shape} (off : Fin S.rank → ℕ) (h) (ho : ∀ a, off a = 0) (y : S.Idx) :
    (Rect.unit (s := S) off S.size h).emb y = y := by
  funext a; apply Fin.ext; simp [Rect.unit, Rect.emb, ho a]

/-- A whole-shape piece agrees with its own payload. -/
theorem ok_all {S : Shape} {e : EltTy} (G : Vec Ideal S e) (off : Fin S.rank → ℕ) (h) (ho : ∀ a, off a = 0) :
    Ok G ⟨Rect.unit (s := S) off S.size h, G⟩ :=
  fun x => (congrArg G (emb_all off h ho x)).symm

/-- Reading pieces of one function that cover the shape reads the function. -/
theorem read_ok {κ : Kind} {sp : Space} {S : Shape} {e : EltTy} (v : View sig κ sp S e) (G : Vec Ideal S e) (L : List (View.Piece (Elt Ideal) S e)) (f)
    (hL : ∀ p ∈ L, Ok G p) (hc : ∀ y, ∃ p ∈ L, y ∈ p.1.set) : v.read (Elt Ideal) (v.writes (Elt Ideal) f L) = G :=
  funext fun y => v.read_writes_apply_of_pieces f G L hL y (hc y)

/-- Reading under a whole-shape last piece reads its payload. -/
theorem read_top {κ : Kind} {sp : Space} {S : Shape} {e : EltTy} (v : View sig κ sp S e) (G : Vec Ideal S e) (L : List (View.Piece (Elt Ideal) S e)) (f)
    (off : Fin S.rank → ℕ) (h) (ho : ∀ a, off a = 0) :
    v.read (Elt Ideal) (v.writes (Elt Ideal) f (⟨Rect.unit (s := S) off S.size h, G⟩ :: L)) = G := by
  funext y
  have := View.read_writes_cons_emb v f (Rect.unit (s := S) off S.size h) G L y
  rwa [emb_all off h ho y] at this

/-- Two zero offsets. -/
theorem off2 : ∀ a : Fin 2, (![0, 0] : Fin 2 → ℕ) a = 0 := by decide
/-- Three zero offsets. -/
theorem off3 : ∀ a : Fin 3, (![0, 0, 0] : Fin 3 → ℕ) a = 0 := by decide

/-- The block of y a point leaves. -/
noncomputable def YB (x0 : Vec Ideal S256x8192 .bf16) (x1 : Vec Ideal S1x8192 .f32) (x2 : Vec Ideal S1152x8192 .fp8e4m3) (x3 : Vec Ideal S1152x1 .f32) :
    Vec Ideal S1152x256 .f32 := k0_pay2 x2 (G5 x0 x1) (G6 x0 x1) x3
/-- The head maxima a point leaves, over what they were. -/
noncomputable def MB (x0 : Vec Ideal S256x8192 .bf16) (x1 : Vec Ideal S1x8192 .f32) (x2 : Vec Ideal S1152x8192 .fp8e4m3) (x3 : Vec Ideal S1152x1 .f32)
    (p : Vec Ideal S18x128 .f32) : Vec Ideal S18x128 .f32 := k0_pay4 x2 (G5 x0 x1) (G6 x0 x1) x3 p

variable (c : Dev nD) (i : grid0.Coords) (arg1 : Memref sig .tc .vmem S256x8192 .bf16) (harg1 : arg1.IsWhole) (arg2 : Memref sig .tc .vmem S1x8192 .f32) (harg2 : arg2.IsWhole) (arg3 : Memref sig .tc .vmem S1152x8192 .fp8e4m3) (harg3 : arg3.IsWhole) (arg4 : Memref sig .tc .vmem S1152x1 .f32) (harg4 : arg4.IsWhole) (arg5 : Memref sig .tc .vmem S256x8192 .fp8e4m3) (harg5 : arg5.IsWhole) (arg6 : Memref sig .tc .vmem S256x1 .f32) (harg6 : arg6.IsWhole) (arg7 : Memref sig .tc .vmem S1152x256 .f32) (harg7 : arg7.IsWhole) (arg8 : Memref sig .tc .vmem S18x128 .f32) (harg8 : arg8.IsWhole) (arg9 : Memref sig .tc .vmem S32x8192 .f32) (harg9 : arg9.IsWhole)
variable (x0 : Vec Ideal S256x8192 .bf16) (x1 : Vec Ideal S1x8192 .f32) (x2 : Vec Ideal S1152x8192 .fp8e4m3) (x3 : Vec Ideal S1152x1 .f32)

/-- The row loop writes every code of the block. -/
theorem pb_cover5 : ∀ y, ∃ p ∈ (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).1, y ∈ p.1.set :=
  View.cover_of_tiledL (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).1 S32x128.size (by sl_kernel_rfl)
/-- The row loop writes every scale of the block. -/
theorem pb_cover6 : ∀ y, ∃ p ∈ (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).2.1, y ∈ p.1.set :=
  View.cover_of_tiledL (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).2.1 S32x1.size (by sl_kernel_rfl)
/-- All that the row loop writes to the codes is right. -/
theorem pb_ok5 : ∀ p ∈ (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).1, Ok (G5 x0 x1) p := (pb_ok arg1 arg2 arg9 harg1 harg2 x0 x1 Variants.none c none i arg3 harg3 arg4 harg4 arg5 harg5 arg6 harg6 arg7 harg7 arg8 harg8 harg9 _ le_rfl).1
/-- All that the row loop writes to the scales is right. -/
theorem pb_ok6 : ∀ p ∈ (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).2.1, Ok (G6 x0 x1) p := (pb_ok arg1 arg2 arg9 harg1 harg2 x0 x1 Variants.none c none i arg3 harg3 arg4 harg4 arg5 harg5 arg6 harg6 arg7 harg7 arg8 harg8 harg9 _ le_rfl).2

/-- Loading the whole weight buffer gives its value. -/
theorem lw_eq : (View.readAt (Elt Ideal) arg3.view (Rect.unit (s := S1152x8192) ![0, 0] ![1152, 8192] inb_S1152x8192_S1152x8192_0_0).toLoadRect (harg3.unread x2)) = x2 := readAt_all arg3 harg3 x2 _ inb_S1152x8192_S1152x8192_0_0 off2
/-- Loading the whole buffer of weight scales gives its value. -/
theorem ls_eq : (View.readAt (Elt Ideal) arg4.view (Rect.unit (s := S1152x1) ![0, 0] ![1152, 1] inb_S1152x1_S1152x1_0_0).toLoadRect (harg4.unread x3)) = x3 := readAt_all arg4 harg4 x3 _ inb_S1152x1_S1152x1_0_0 off2
/-- Reading the codes after the row loop gives the block's codes. -/
theorem c5_eq : (arg5.view.readCov (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).1 (Rect.unit (s := S256x8192) ![0, 0] ![256, 8192] inb_S256x8192_S256x8192_0_0).toLoadRect) = G5 x0 x1 :=
  readCov_all arg5 (G5 x0 x1) _ (pb_ok5 c i arg1 harg1 arg2 harg2 arg3 harg3 arg4 harg4 arg5 harg5 arg6 harg6 arg7 harg7 arg8 harg8 arg9 harg9 x0 x1) (pb_cover5 c i arg1 harg1 arg2 harg2 arg3 harg3 arg4 harg4 arg5 harg5 arg6 harg6 arg7 harg7 arg8 harg8 arg9 harg9 x0 x1) _ inb_S256x8192_S256x8192_0_0 off2
/-- Reading the scales after the row loop gives the block's scales. -/
theorem c6_eq : (arg6.view.readCov (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).2.1 (Rect.unit (s := S256x1) ![0, 0] ![256, 1] inb_S256x1_S256x1_0_0).toLoadRect) = G6 x0 x1 :=
  readCov_all arg6 (G6 x0 x1) _ (pb_ok6 c i arg1 harg1 arg2 harg2 arg3 harg3 arg4 harg4 arg5 harg5 arg6 harg6 arg7 harg7 arg8 harg8 arg9 harg9 x0 x1) (pb_cover6 c i arg1 harg1 arg2 harg2 arg3 harg3 arg4 harg4 arg5 harg5 arg6 harg6 arg7 harg7 arg8 harg8 arg9 harg9 x0 x1) _ inb_S256x1_S256x1_0_0 off2

section
variable (hc0 : cond0_0 i)
/-- The first step writes to the codes what the row loop does. -/
theorem runA_4 : (kernelRun0_A (F := Ideal) c i arg1 harg1 arg2 harg2 arg3 harg3 arg4 harg4 arg5 harg5 arg6 harg6 arg7 harg7 arg8 harg8 arg9 harg9 hc0 x0 x1 x2 x3).1 = (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).1 := by sl_kernel_rfl
/-- The first step writes to the scales what the row loop does. -/
theorem runA_5 : (kernelRun0_A (F := Ideal) c i arg1 harg1 arg2 harg2 arg3 harg3 arg4 harg4 arg5 harg5 arg6 harg6 arg7 harg7 arg8 harg8 arg9 harg9 hc0 x0 x1 x2 x3).2.1 = (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).2.1 := by sl_kernel_rfl
/-- The first step writes the projection in one piece. -/
theorem runA_6 : (kernelRun0_A (F := Ideal) c i arg1 harg1 arg2 harg2 arg3 harg3 arg4 harg4 arg5 harg5 arg6 harg6 arg7 harg7 arg8 harg8 arg9 harg9 hc0 x0 x1 x2 x3).2.2.1 = [⟨Rect.unit (s := S1152x256) ![0, 0] ![1152, 256] inb_S1152x256_S1152x256_0_0,
    k0_pay2 (View.readAt (Elt Ideal) arg3.view (Rect.unit (s := S1152x8192) ![0, 0] ![1152, 8192] inb_S1152x8192_S1152x8192_0_0).toLoadRect (harg3.unread x2)) (arg5.view.readCov (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).1 (Rect.unit (s := S256x8192) ![0, 0] ![256, 8192] inb_S256x8192_S256x8192_0_0).toLoadRect) (arg6.view.readCov (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).2.1 (Rect.unit (s := S256x1) ![0, 0] ![256, 1] inb_S256x1_S256x1_0_0).toLoadRect) (View.readAt (Elt Ideal) arg4.view (Rect.unit (s := S1152x1) ![0, 0] ![1152, 1] inb_S1152x1_S1152x1_0_0).toLoadRect (harg4.unread x3))⟩] := by sl_kernel_rfl
/-- The first step writes the head maxima last in one piece. -/
theorem runA_7 : (kernelRun0_A (F := Ideal) c i arg1 harg1 arg2 harg2 arg3 harg3 arg4 harg4 arg5 harg5 arg6 harg6 arg7 harg7 arg8 harg8 arg9 harg9 hc0 x0 x1 x2 x3).2.2.2.1 = ⟨Rect.unit (s := S18x128) ![0, 0] ![18, 128] inb_S18x128_S18x128_0_0,
    k0_pay4 (View.readAt (Elt Ideal) arg3.view (Rect.unit (s := S1152x8192) ![0, 0] ![1152, 8192] inb_S1152x8192_S1152x8192_0_0).toLoadRect (harg3.unread x2)) (arg5.view.readCov (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).1 (Rect.unit (s := S256x8192) ![0, 0] ![256, 8192] inb_S256x8192_S256x8192_0_0).toLoadRect) (arg6.view.readCov (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).2.1 (Rect.unit (s := S256x1) ![0, 0] ![256, 1] inb_S256x1_S256x1_0_0).toLoadRect) (View.readAt (Elt Ideal) arg4.view (Rect.unit (s := S1152x1) ![0, 0] ![1152, 1] inb_S1152x1_S1152x1_0_0).toLoadRect (harg4.unread x3)) (kernelRun0_A.sl.v26 (F := Ideal) c arg8)⟩ :: kernelRun0_A.sl.H7_1 (F := Ideal) := by sl_kernel_rfl

/-- The codes a point leaves. -/
theorem outA_4 : out0_A_4 (F := Ideal) c i arg1 harg1 arg2 harg2 arg3 harg3 arg4 harg4 arg5 harg5 arg6 harg6 arg7 harg7 arg8 harg8 arg9 harg9 hc0 x0 x1 x2 x3 = G5 x0 x1 := by
  unfold out0_A_4
  rw [runA_4]
  exact read_ok _ _ _ _ (pb_ok5 c i arg1 harg1 arg2 harg2 arg3 harg3 arg4 harg4 arg5 harg5 arg6 harg6 arg7 harg7 arg8 harg8 arg9 harg9 x0 x1) (pb_cover5 c i arg1 harg1 arg2 harg2 arg3 harg3 arg4 harg4 arg5 harg5 arg6 harg6 arg7 harg7 arg8 harg8 arg9 harg9 x0 x1)
/-- The scales a point leaves. -/
theorem outA_5 : out0_A_5 (F := Ideal) c i arg1 harg1 arg2 harg2 arg3 harg3 arg4 harg4 arg5 harg5 arg6 harg6 arg7 harg7 arg8 harg8 arg9 harg9 hc0 x0 x1 x2 x3 = G6 x0 x1 := by
  unfold out0_A_5
  rw [runA_5]
  exact read_ok _ _ _ _ (pb_ok6 c i arg1 harg1 arg2 harg2 arg3 harg3 arg4 harg4 arg5 harg5 arg6 harg6 arg7 harg7 arg8 harg8 arg9 harg9 x0 x1) (pb_cover6 c i arg1 harg1 arg2 harg2 arg3 harg3 arg4 harg4 arg5 harg5 arg6 harg6 arg7 harg7 arg8 harg8 arg9 harg9 x0 x1)
/-- The block of y a point leaves. -/
theorem outA_6 : out0_A_6 (F := Ideal) c i arg1 harg1 arg2 harg2 arg3 harg3 arg4 harg4 arg5 harg5 arg6 harg6 arg7 harg7 arg8 harg8 arg9 harg9 hc0 x0 x1 x2 x3 = YB x0 x1 x2 x3 := by
  unfold out0_A_6
  rw [runA_6, lw_eq arg3 harg3 x2, ls_eq arg4 harg4 x3, c5_eq c i arg1 harg1 arg2 harg2 arg3 harg3 arg4 harg4 arg5 harg5 arg6 harg6 arg7 harg7 arg8 harg8 arg9 harg9 x0 x1, c6_eq c i arg1 harg1 arg2 harg2 arg3 harg3 arg4 harg4 arg5 harg5 arg6 harg6 arg7 harg7 arg8 harg8 arg9 harg9 x0 x1]
  exact read_top _ _ _ _ _ inb_S1152x256_S1152x256_0_0 off2

/-- On the first step the head maxima read back are the zeros just stored. -/
theorem v26_eq : (kernelRun0_A.sl.v26 (F := Ideal) c arg8) = (k0_pay3 (F := Ideal)) := by
  unfold kernelRun0_A.sl.v26 kernelRun0_A.sl.H7_1
  exact readCov_all arg8 (k0_pay3 (F := Ideal)) _ (okCons (ok_all (S := S18x128) (e := .f32) (k0_pay3 (F := Ideal)) _ inb_S18x128_S18x128_0_0 off2) (okNil _))
    (View.cover_of_tiledL _ S18x128.size (by sl_kernel_rfl)) _ inb_S18x128_S18x128_0_0 off2

/-- The head maxima a point leaves. -/
theorem outA_7 : out0_A_7 (F := Ideal) c i arg1 harg1 arg2 harg2 arg3 harg3 arg4 harg4 arg5 harg5 arg6 harg6 arg7 harg7 arg8 harg8 arg9 harg9 hc0 x0 x1 x2 x3 = MB x0 x1 x2 x3 (k0_pay3 (F := Ideal)) := by
  unfold out0_A_7
  rw [runA_7, lw_eq arg3 harg3 x2, ls_eq arg4 harg4 x3, c5_eq c i arg1 harg1 arg2 harg2 arg3 harg3 arg4 harg4 arg5 harg5 arg6 harg6 arg7 harg7 arg8 harg8 arg9 harg9 x0 x1, c6_eq c i arg1 harg1 arg2 harg2 arg3 harg3 arg4 harg4 arg5 harg5 arg6 harg6 arg7 harg7 arg8 harg8 arg9 harg9 x0 x1, v26_eq c arg8]
  exact read_top _ _ _ _ _ inb_S18x128_S18x128_0_0 off2
end

section
variable (hc0 : ¬cond0_0 i) (xo7 : Vec Ideal S18x128 .f32)
/-- A later step writes to the codes what the row loop does. -/
theorem runB_4 : (kernelRun0_B (F := Ideal) c i arg1 harg1 arg2 harg2 arg3 harg3 arg4 harg4 arg5 harg5 arg6 harg6 arg7 harg7 arg8 harg8 arg9 harg9 hc0 x0 x1 x2 x3 xo7).1 = (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).1 := by sl_kernel_rfl
/-- A later step writes to the scales what the row loop does. -/
theorem runB_5 : (kernelRun0_B (F := Ideal) c i arg1 harg1 arg2 harg2 arg3 harg3 arg4 harg4 arg5 harg5 arg6 harg6 arg7 harg7 arg8 harg8 arg9 harg9 hc0 x0 x1 x2 x3 xo7).2.1 = (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).2.1 := by sl_kernel_rfl
/-- A later step writes the projection in one piece. -/
theorem runB_6 : (kernelRun0_B (F := Ideal) c i arg1 harg1 arg2 harg2 arg3 harg3 arg4 harg4 arg5 harg5 arg6 harg6 arg7 harg7 arg8 harg8 arg9 harg9 hc0 x0 x1 x2 x3 xo7).2.2.1 = [⟨Rect.unit (s := S1152x256) ![0, 0] ![1152, 256] inb_S1152x256_S1152x256_0_0,
    k0_pay2 (View.readAt (Elt Ideal) arg3.view (Rect.unit (s := S1152x8192) ![0, 0] ![1152, 8192] inb_S1152x8192_S1152x8192_0_0).toLoadRect (harg3.unread x2)) (arg5.view.readCov (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).1 (Rect.unit (s := S256x8192) ![0, 0] ![256, 8192] inb_S256x8192_S256x8192_0_0).toLoadRect) (arg6.view.readCov (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).2.1 (Rect.unit (s := S256x1) ![0, 0] ![256, 1] inb_S256x1_S256x1_0_0).toLoadRect) (View.readAt (Elt Ideal) arg4.view (Rect.unit (s := S1152x1) ![0, 0] ![1152, 1] inb_S1152x1_S1152x1_0_0).toLoadRect (harg4.unread x3))⟩] := by sl_kernel_rfl
/-- A later step writes the head maxima last in one piece. -/
theorem runB_7 : (kernelRun0_B (F := Ideal) c i arg1 harg1 arg2 harg2 arg3 harg3 arg4 harg4 arg5 harg5 arg6 harg6 arg7 harg7 arg8 harg8 arg9 harg9 hc0 x0 x1 x2 x3 xo7).2.2.2.1 = ⟨Rect.unit (s := S18x128) ![0, 0] ![18, 128] inb_S18x128_S18x128_0_0,
    k0_pay4 (View.readAt (Elt Ideal) arg3.view (Rect.unit (s := S1152x8192) ![0, 0] ![1152, 8192] inb_S1152x8192_S1152x8192_0_0).toLoadRect (harg3.unread x2)) (arg5.view.readCov (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).1 (Rect.unit (s := S256x8192) ![0, 0] ![256, 8192] inb_S256x8192_S256x8192_0_0).toLoadRect) (arg6.view.readCov (pb_k0_t1 (F := Ideal) Variants.none c none i arg1 harg1 arg2 harg2 arg3 harg3 arg4 harg4 arg5 harg5 arg6 harg6 arg7 harg7 arg8 harg8 arg9 harg9 (harg1.unread x0) (harg2.unread x1) k0_t1_loop.trips).2.1 (Rect.unit (s := S256x1) ![0, 0] ![256, 1] inb_S256x1_S256x1_0_0).toLoadRect) (View.readAt (Elt Ideal) arg4.view (Rect.unit (s := S1152x1) ![0, 0] ![1152, 1] inb_S1152x1_S1152x1_0_0).toLoadRect (harg4.unread x3)) (View.readAt (Elt Ideal) arg8.view (Rect.unit (s := S18x128) ![0, 0] ![18, 128] inb_S18x128_S18x128_0_0).toLoadRect (harg8.unread xo7))⟩ :: [] := by sl_kernel_rfl

/-- The codes a point leaves. -/
theorem outB_4 : out0_B_4 (F := Ideal) c i arg1 harg1 arg2 harg2 arg3 harg3 arg4 harg4 arg5 harg5 arg6 harg6 arg7 harg7 arg8 harg8 arg9 harg9 hc0 x0 x1 x2 x3 xo7 = G5 x0 x1 := by
  unfold out0_B_4
  rw [runB_4]
  exact read_ok _ _ _ _ (pb_ok5 c i arg1 harg1 arg2 harg2 arg3 harg3 arg4 harg4 arg5 harg5 arg6 harg6 arg7 harg7 arg8 harg8 arg9 harg9 x0 x1) (pb_cover5 c i arg1 harg1 arg2 harg2 arg3 harg3 arg4 harg4 arg5 harg5 arg6 harg6 arg7 harg7 arg8 harg8 arg9 harg9 x0 x1)
/-- The scales a point leaves. -/
theorem outB_5 : out0_B_5 (F := Ideal) c i arg1 harg1 arg2 harg2 arg3 harg3 arg4 harg4 arg5 harg5 arg6 harg6 arg7 harg7 arg8 harg8 arg9 harg9 hc0 x0 x1 x2 x3 xo7 = G6 x0 x1 := by
  unfold out0_B_5
  rw [runB_5]
  exact read_ok _ _ _ _ (pb_ok6 c i arg1 harg1 arg2 harg2 arg3 harg3 arg4 harg4 arg5 harg5 arg6 harg6 arg7 harg7 arg8 harg8 arg9 harg9 x0 x1) (pb_cover6 c i arg1 harg1 arg2 harg2 arg3 harg3 arg4 harg4 arg5 harg5 arg6 harg6 arg7 harg7 arg8 harg8 arg9 harg9 x0 x1)
/-- The block of y a point leaves. -/
theorem outB_6 : out0_B_6 (F := Ideal) c i arg1 harg1 arg2 harg2 arg3 harg3 arg4 harg4 arg5 harg5 arg6 harg6 arg7 harg7 arg8 harg8 arg9 harg9 hc0 x0 x1 x2 x3 xo7 = YB x0 x1 x2 x3 := by
  unfold out0_B_6
  rw [runB_6, lw_eq arg3 harg3 x2, ls_eq arg4 harg4 x3, c5_eq c i arg1 harg1 arg2 harg2 arg3 harg3 arg4 harg4 arg5 harg5 arg6 harg6 arg7 harg7 arg8 harg8 arg9 harg9 x0 x1, c6_eq c i arg1 harg1 arg2 harg2 arg3 harg3 arg4 harg4 arg5 harg5 arg6 harg6 arg7 harg7 arg8 harg8 arg9 harg9 x0 x1]
  exact read_top _ _ _ _ _ inb_S1152x256_S1152x256_0_0 off2

/-- The head maxima a point leaves. -/
theorem outB_7 : out0_B_7 (F := Ideal) c i arg1 harg1 arg2 harg2 arg3 harg3 arg4 harg4 arg5 harg5 arg6 harg6 arg7 harg7 arg8 harg8 arg9 harg9 hc0 x0 x1 x2 x3 xo7 = MB x0 x1 x2 x3 xo7 := by
  unfold out0_B_7
  rw [runB_7, lw_eq arg3 harg3 x2, ls_eq arg4 harg4 x3, c5_eq c i arg1 harg1 arg2 harg2 arg3 harg3 arg4 harg4 arg5 harg5 arg6 harg6 arg7 harg7 arg8 harg8 arg9 harg9 x0 x1, c6_eq c i arg1 harg1 arg2 harg2 arg3 harg3 arg4 harg4 arg5 harg5 arg6 harg6 arg7 harg7 arg8 harg8 arg9 harg9 x0 x1, readAt_all arg8 harg8 xo7 _ inb_S18x128_S18x128_0_0 off2]
  exact read_top _ _ _ _ _ inb_S18x128_S18x128_0_0 off2
end

end
end Cert.KernelIdeal.Own
-- ==== Proof.KI.Blk0.lean ====
module
public import proofs.«01_k».proof.Proof.KI.Body
public import Idealize.ShloMosaic.Lib.Pipeline.Value
open Idealize.ShloMosaic Idealize.ShloMosaic.TcCoe Cert.KernelIdeal Cert.KernelIdeal.Gen
open Cert.Spec Cert.Scale

/-!
The arrays the projection kernel leaves, as functions of the arrays it reads.
-/
namespace Cert.KernelIdeal.Own
@[expose] public section
set_option maxRecDepth 16384

/-- The first call has 64 steps. -/
theorem N64 : cfg0.N = 64 := by decide
/-- The token that point `t` handles at row `r` of its block. -/
def rowOf (t : Fin cfg0.N) (r : Fin 256) : Fin 16384 := ⟨256 * t.val + r.val, by have := t.isLt; have := N64; omega⟩
/-- The column of head `h` at place `d`. -/
def hd (h : Fin 18) (d : Fin 64) : Fin 1152 := ⟨h.val * 64 + d.val, by omega⟩

/-- Step `t` takes row block `t` of x. -/
theorem index0 : ∀ t : Fin cfg0.N, win0_0.index t 0 = t.val ∧ win0_0.index t 1 = 0 :=
  (by decide +kernel : ∀ t : Fin grid0.N, win0_0.index t 0 = t.val ∧ win0_0.index t 1 = 0)
/-- Window 0's block at a point, read at an index. -/
theorem read0 (t : Fin cfg0.N) (X : Vec Ideal S16384x8192 .bf16) (y : S256x8192.Idx) :
    ((cfg0.win 0).blk t).view.read (Elt Ideal) X y = X (ix2 (rowOf t (y 0)) (y 1)) := by
  have hi := index0 t
  rw [View.read_apply]
  show X _ = X _
  congr 1
  funext a
  apply Fin.ext
  match a with
  | ⟨0, _⟩ => show win0_0.index t 0 * 256 + 1 * (y 0).val = _; rw [hi.1]; simp [ix2, rowOf]; try omega
  | ⟨1, _⟩ => show win0_0.index t 1 * 8192 + 1 * (y 1).val = _; rw [hi.2]; simp [ix2, rowOf]; try omega

/-- Every step takes all of gamma. -/
theorem index1 : ∀ t : Fin cfg0.N, win0_1.index t 0 = 0 ∧ win0_1.index t 1 = 0 :=
  (by decide +kernel : ∀ t : Fin grid0.N, win0_1.index t 0 = 0 ∧ win0_1.index t 1 = 0)
/-- Window 1's block at a point, read at an index. -/
theorem read1 (t : Fin cfg0.N) (X : Vec Ideal S1x8192 .f32) (y : S1x8192.Idx) :
    ((cfg0.win 1).blk t).view.read (Elt Ideal) X y = X (ix2 (y 0) (y 1)) := by
  have hi := index1 t
  rw [View.read_apply]
  show X _ = X _
  congr 1
  funext a
  apply Fin.ext
  match a with
  | ⟨0, _⟩ => show win0_1.index t 0 * 1 + 1 * (y 0).val = _; rw [hi.1]; simp [ix2, rowOf]; try omega
  | ⟨1, _⟩ => show win0_1.index t 1 * 8192 + 1 * (y 1).val = _; rw [hi.2]; simp [ix2, rowOf]; try omega

/-- Every step takes all weights. -/
theorem index2 : ∀ t : Fin cfg0.N, win0_2.index t 0 = 0 ∧ win0_2.index t 1 = 0 :=
  (by decide +kernel : ∀ t : Fin grid0.N, win0_2.index t 0 = 0 ∧ win0_2.index t 1 = 0)
/-- Window 2's block at a point, read at an index. -/
theorem read2 (t : Fin cfg0.N) (X : Vec Ideal S1152x8192 .fp8e4m3) (y : S1152x8192.Idx) :
    ((cfg0.win 2).blk t).view.read (Elt Ideal) X y = X (ix2 (y 0) (y 1)) := by
  have hi := index2 t
  rw [View.read_apply]
  show X _ = X _
  congr 1
  funext a
  apply Fin.ext
  match a with
  | ⟨0, _⟩ => show win0_2.index t 0 * 1152 + 1 * (y 0).val = _; rw [hi.1]; simp [ix2, rowOf]; try omega
  | ⟨1, _⟩ => show win0_2.index t 1 * 8192 + 1 * (y 1).val = _; rw [hi.2]; simp [ix2, rowOf]; try omega

/-- Every step takes all weight scales. -/
theorem index3 : ∀ t : Fin cfg0.N, win0_3.index t 0 = 0 ∧ win0_3.index t 1 = 0 :=
  (by decide +kernel : ∀ t : Fin grid0.N, win0_3.index t 0 = 0 ∧ win0_3.index t 1 = 0)
/-- Window 3's block at a point, read at an index. -/
theorem read3 (t : Fin cfg0.N) (X : Vec Ideal S1152x1 .f32) (y : S1152x1.Idx) :
    ((cfg0.win 3).blk t).view.read (Elt Ideal) X y = X (ix2 (y 0) (y 1)) := by
  have hi := index3 t
  rw [View.read_apply]
  show X _ = X _
  congr 1
  funext a
  apply Fin.ext
  match a with
  | ⟨0, _⟩ => show win0_3.index t 0 * 1152 + 1 * (y 0).val = _; rw [hi.1]; simp [ix2, rowOf]; try omega
  | ⟨1, _⟩ => show win0_3.index t 1 * 1 + 1 * (y 1).val = _; rw [hi.2]; simp [ix2, rowOf]; try omega

/-- Step `t` writes row block `t` of the codes. -/
theorem index4 : ∀ t : Fin cfg0.N, win0_4.index t 0 = t.val ∧ win0_4.index t 1 = 0 :=
  (by decide +kernel : ∀ t : Fin grid0.N, win0_4.index t 0 = t.val ∧ win0_4.index t 1 = 0)
/-- Window 4's block at a point, read at an index. -/
theorem read4 (t : Fin cfg0.N) (X : Vec Ideal S16384x8192 .fp8e4m3) (y : S256x8192.Idx) :
    ((cfg0.win 4).blk t).view.read (Elt Ideal) X y = X (ix2 (rowOf t (y 0)) (y 1)) := by
  have hi := index4 t
  rw [View.read_apply]
  show X _ = X _
  congr 1
  funext a
  apply Fin.ext
  match a with
  | ⟨0, _⟩ => show win0_4.index t 0 * 256 + 1 * (y 0).val = _; rw [hi.1]; simp [ix2, rowOf]; try omega
  | ⟨1, _⟩ => show win0_4.index t 1 * 8192 + 1 * (y 1).val = _; rw [hi.2]; simp [ix2, rowOf]; try omega

/-- Step `t` writes row block `t` of the scales. -/
theorem index5 : ∀ t : Fin cfg0.N, win0_5.index t 0 = t.val ∧ win0_5.index t 1 = 0 :=
  (by decide +kernel : ∀ t : Fin grid0.N, win0_5.index t 0 = t.val ∧ win0_5.index t 1 = 0)
/-- Window 5's block at a point, read at an index. -/
theorem read5 (t : Fin cfg0.N) (X : Vec Ideal S16384x1 .f32) (y : S256x1.Idx) :
    ((cfg0.win 5).blk t).view.read (Elt Ideal) X y = X (ix2 (rowOf t (y 0)) (y 1)) := by
  have hi := index5 t
  rw [View.read_apply]
  show X _ = X _
  congr 1
  funext a
  apply Fin.ext
  match a with
  | ⟨0, _⟩ => show win0_5.index t 0 * 256 + 1 * (y 0).val = _; rw [hi.1]; simp [ix2, rowOf]; try omega
  | ⟨1, _⟩ => show win0_5.index t 1 * 1 + 1 * (y 1).val = _; rw [hi.2]; simp [ix2, rowOf]; try omega

/-- Step `t` writes column block `t` of the projection. -/
theorem index6 : ∀ t : Fin cfg0.N, win0_6.index t 0 = 0 ∧ win0_6.index t 1 = t.val :=
  (by decide +kernel : ∀ t : Fin grid0.N, win0_6.index t 0 = 0 ∧ win0_6.index t 1 = t.val)
/-- Window 6's block at a point, read at an index. -/
theorem read6 (t : Fin cfg0.N) (X : Vec Ideal S1152x16384 .f32) (y : S1152x256.Idx) :
    ((cfg0.win 6).blk t).view.read (Elt Ideal) X y = X (ix2 (y 0) (rowOf t (y 1))) := by
  have hi := index6 t
  rw [View.read_apply]
  show X _ = X _
  congr 1
  funext a
  apply Fin.ext
  match a with
  | ⟨0, _⟩ => show win0_6.index t 0 * 1152 + 1 * (y 0).val = _; rw [hi.1]; simp [ix2, rowOf]; try omega
  | ⟨1, _⟩ => show win0_6.index t 1 * 256 + 1 * (y 1).val = _; rw [hi.2]; simp [ix2, rowOf]; try omega

/-- Every step has all head maxima. -/
theorem index7 : ∀ t : Fin cfg0.N, win0_7.index t 0 = 0 ∧ win0_7.index t 1 = 0 :=
  (by decide +kernel : ∀ t : Fin grid0.N, win0_7.index t 0 = 0 ∧ win0_7.index t 1 = 0)
/-- Window 7's block at a point, read at an index. -/
theorem read7 (t : Fin cfg0.N) (X : Vec Ideal S18x128 .f32) (y : S18x128.Idx) :
    ((cfg0.win 7).blk t).view.read (Elt Ideal) X y = X (ix2 (y 0) (y 1)) := by
  have hi := index7 t
  rw [View.read_apply]
  show X _ = X _
  congr 1
  funext a
  apply Fin.ext
  match a with
  | ⟨0, _⟩ => show win0_7.index t 0 * 18 + 1 * (y 0).val = _; rw [hi.1]; simp [ix2, rowOf]; try omega
  | ⟨1, _⟩ => show win0_7.index t 1 * 128 + 1 * (y 1).val = _; rw [hi.2]; simp [ix2, rowOf]; try omega

/-- Every element of window 4's array lies in the block of a point that writes back. -/
theorem mem4 (i : S16384x8192.Idx) : ∃ t : Fin cfg0.N, (cfg0.win 4).flush t = true ∧ i ∈ ((cfg0.win 4).blk t).view.set := by
  refine ⟨⟨(i 0).val / 256, by have : (i 0).val < 16384 := (i 0).isLt; have := N64; omega⟩, flush0_4 _, ?_⟩
  generalize hq : (⟨(i 0).val / 256, by have : (i 0).val < 16384 := (i 0).isLt; have := N64; omega⟩ : Fin cfg0.N) = t
  have hv := congrArg Fin.val hq
  have hi := index4 t
  have h0 : (i 0 : Nat) < 16384 := (i 0).isLt
  have h1 : (i 1 : Nat) < 8192 := (i 1).isLt
  dsimp only at hv
  show i ∈ ((View.whole main_v5_0).slice (win0_4.rect t)).set
  rw [View.set_slice_whole, Rect.mem_set_unit]
  intro a
  match a with
  | ⟨0, _⟩ => show win0_4.index t 0 * 256 ≤ (i 0 : Nat) ∧ (i 0 : Nat) < win0_4.index t 0 * 256 + 256; rw [hi.1]; omega
  | ⟨1, _⟩ => show win0_4.index t 1 * 8192 ≤ (i 1 : Nat) ∧ (i 1 : Nat) < win0_4.index t 1 * 8192 + 8192; rw [hi.2]; omega

/-- Every element of window 5's array lies in the block of a point that writes back. -/
theorem mem5 (i : S16384x1.Idx) : ∃ t : Fin cfg0.N, (cfg0.win 5).flush t = true ∧ i ∈ ((cfg0.win 5).blk t).view.set := by
  refine ⟨⟨(i 0).val / 256, by have : (i 0).val < 16384 := (i 0).isLt; have := N64; omega⟩, flush0_5 _, ?_⟩
  generalize hq : (⟨(i 0).val / 256, by have : (i 0).val < 16384 := (i 0).isLt; have := N64; omega⟩ : Fin cfg0.N) = t
  have hv := congrArg Fin.val hq
  have hi := index5 t
  have h0 : (i 0 : Nat) < 16384 := (i 0).isLt
  have h1 : (i 1 : Nat) < 1 := (i 1).isLt
  dsimp only at hv
  show i ∈ ((View.whole main_v5_1).slice (win0_5.rect t)).set
  rw [View.set_slice_whole, Rect.mem_set_unit]
  intro a
  match a with
  | ⟨0, _⟩ => show win0_5.index t 0 * 256 ≤ (i 0 : Nat) ∧ (i 0 : Nat) < win0_5.index t 0 * 256 + 256; rw [hi.1]; omega
  | ⟨1, _⟩ => show win0_5.index t 1 * 1 ≤ (i 1 : Nat) ∧ (i 1 : Nat) < win0_5.index t 1 * 1 + 1; rw [hi.2]; omega

/-- Every element of window 6's array lies in the block of a point that writes back. -/
theorem mem6 (i : S1152x16384.Idx) : ∃ t : Fin cfg0.N, (cfg0.win 6).flush t = true ∧ i ∈ ((cfg0.win 6).blk t).view.set := by
  refine ⟨⟨(i 1).val / 256, by have : (i 1).val < 16384 := (i 1).isLt; have := N64; omega⟩, flush0_6 _, ?_⟩
  generalize hq : (⟨(i 1).val / 256, by have : (i 1).val < 16384 := (i 1).isLt; have := N64; omega⟩ : Fin cfg0.N) = t
  have hv := congrArg Fin.val hq
  have hi := index6 t
  have h0 : (i 0 : Nat) < 1152 := (i 0).isLt
  have h1 : (i 1 : Nat) < 16384 := (i 1).isLt
  dsimp only at hv
  show i ∈ ((View.whole main_v5_2).slice (win0_6.rect t)).set
  rw [View.set_slice_whole, Rect.mem_set_unit]
  intro a
  match a with
  | ⟨0, _⟩ => show win0_6.index t 0 * 1152 ≤ (i 0 : Nat) ∧ (i 0 : Nat) < win0_6.index t 0 * 1152 + 1152; rw [hi.1]; omega
  | ⟨1, _⟩ => show win0_6.index t 1 * 256 ≤ (i 1 : Nat) ∧ (i 1 : Nat) < win0_6.index t 1 * 256 + 256; rw [hi.2]; omega

/-- Every element of window 7's array lies in the block of a point that writes back. -/
theorem mem7 (i : S18x128.Idx) : ∃ t : Fin cfg0.N, (cfg0.win 7).flush t = true ∧ i ∈ ((cfg0.win 7).blk t).view.set := by
  refine ⟨⟨63, by have := N64; omega⟩, (flush0_7 _).mpr rfl, ?_⟩
  generalize hq : (⟨63, by have := N64; omega⟩ : Fin cfg0.N) = t
  have hv := congrArg Fin.val hq
  have hi := index7 t
  have h0 : (i 0 : Nat) < 18 := (i 0).isLt
  have h1 : (i 1 : Nat) < 128 := (i 1).isLt
  dsimp only at hv
  show i ∈ ((View.whole main_v5_3).slice (win0_7.rect t)).set
  rw [View.set_slice_whole, Rect.mem_set_unit]
  intro a
  match a with
  | ⟨0, _⟩ => show win0_7.index t 0 * 18 ≤ (i 0 : Nat) ∧ (i 0 : Nat) < win0_7.index t 0 * 18 + 18; rw [hi.1]; omega
  | ⟨1, _⟩ => show win0_7.index t 1 * 128 ≤ (i 1 : Nat) ∧ (i 1 : Nat) < win0_7.index t 1 * 128 + 128; rw [hi.2]; omega

end
end Cert.KernelIdeal.Own
-- ==== Proof.KI.Blk1.lean ====
module
public import proofs.«01_k».proof.Proof.KI.Blk0
open Idealize.ShloMosaic Idealize.ShloMosaic.TcCoe Cert.KernelIdeal Cert.KernelIdeal.Gen
open Cert.Spec Cert.Scale

/-!
The blocks of the quantiser's windows, read at an index.
-/
namespace Cert.KernelIdeal.Own
@[expose] public section
set_option maxRecDepth 16384

/-- The second call has 144 steps. -/
theorem N144 : cfg1.N = 144 := by decide
/-- The column of the projection at row `r` of point `t`'s block. -/
def row1 (t : Fin cfg1.N) (r : Fin 64) : Fin 1152 := ⟨64 * (t.val / 8) + r.val, by have := t.isLt; have := N144; omega⟩
/-- The token at lane `l` of point `t`'s block. -/
def col1 (t : Fin cfg1.N) (l : Fin 2048) : Fin 16384 := ⟨2048 * (t.val % 8) + l.val, by omega⟩
/-- The batch of point `t`. -/
def bat1 (t : Fin cfg1.N) : Fin 8 := ⟨t.val % 8, by omega⟩
/-- The head of point `t`. -/
def head1 (t : Fin cfg1.N) : Fin 18 := ⟨t.val / 8, by have := t.isLt; have := N144; omega⟩

/-- A step takes the projection of head `t / 8` and batch `t % 8`. -/
theorem indexB0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
/-- Window 0's block at a point, read at an index. -/
theorem readB0 (t : Fin cfg1.N) (X : Vec Ideal S1152x16384 .f32) (y : S64x2048.Idx) :
    ((cfg1.win 0).blk t).view.read (Elt Ideal) X y = X (ix2 (row1 t (y 0)) (col1 t (y 1))) := by
  have hi := indexB0 t
  have hy : (y 0).val < 64 := (y 0).isLt
  rw [View.read_apply]
  show X _ = X _
  congr 1
  funext a
  apply Fin.ext
  match a with
  | ⟨0, _⟩ => show win1_0.index t 0 * 64 + 1 * (y 0).val = _; rw [hi.1]; simp [ix2, row1, col1, bat1, head1]; try omega
  | ⟨1, _⟩ => show win1_0.index t 1 * 2048 + 1 * (y 1).val = _; rw [hi.2]; simp [ix2, row1, col1, bat1, head1]; try omega

/-- Every step takes all head maxima. -/
theorem indexB1 : ∀ t : Fin cfg1.N, win1_1.index t 0 = 0 ∧ win1_1.index t 1 = 0 :=
  (by decide +kernel : ∀ t : Fin grid1.N, win1_1.index t 0 = 0 ∧ win1_1.index t 1 = 0)
/-- Window 1's block at a point, read at an index. -/
theorem readB1 (t : Fin cfg1.N) (X : Vec Ideal S18x128 .f32) (y : S18x128.Idx) :
    ((cfg1.win 1).blk t).view.read (Elt Ideal) X y = X (ix2 (y 0) (y 1)) := by
  have hi := indexB1 t
  have hy : (y 0).val < 18 := (y 0).isLt
  rw [View.read_apply]
  show X _ = X _
  congr 1
  funext a
  apply Fin.ext
  match a with
  | ⟨0, _⟩ => show win1_1.index t 0 * 18 + 1 * (y 0).val = _; rw [hi.1]; simp [ix2, row1, col1, bat1, head1]; try omega
  | ⟨1, _⟩ => show win1_1.index t 1 * 128 + 1 * (y 1).val = _; rw [hi.2]; simp [ix2, row1, col1, bat1, head1]; try omega

/-- A step writes the codes of batch `t % 8` and head `t / 8`. -/
theorem indexB2 : ∀ t : Fin cfg1.N, win1_2.index t 0 = t.val % 8 ∧ win1_2.index t 1 = t.val / 8 ∧ win1_2.index t 2 = 0 :=
  (by decide +kernel : ∀ t : Fin grid1.N, win1_2.index t 0 = t.val % 8 ∧ win1_2.index t 1 = t.val / 8 ∧ win1_2.index t 2 = 0)
/-- Window 2's block at a point, read at an index. -/
theorem readB2 (t : Fin cfg1.N) (X : Vec Ideal S8x1152x2048 .fp8e4m3) (y : S1x64x2048.Idx) :
    ((cfg1.win 2).blk t).view.read (Elt Ideal) X y = X (ix3 (bat1 t) (row1 t (y 1)) (y 2)) := by
  have hi := indexB2 t
  have hy : (y 0).val < 1 := (y 0).isLt
  rw [View.read_apply]
  show X _ = X _
  congr 1
  funext a
  apply Fin.ext
  match a with
  | ⟨0, _⟩ => show win1_2.index t 0 * 1 + 1 * (y 0).val = _; rw [hi.1]; simp [ix3, row1, col1, bat1, head1]; try omega
  | ⟨1, _⟩ => show win1_2.index t 1 * 64 + 1 * (y 1).val = _; rw [hi.2.1]; simp [ix3, row1, col1, bat1, head1]; try omega
  | ⟨2, _⟩ => show win1_2.index t 2 * 2048 + 1 * (y 2).val = _; rw [hi.2.2]; simp [ix3, row1, col1, bat1, head1]; try omega

/-- Every element of window 2's array lies in the block of a point that writes back. -/
theorem memB2 (i : S8x1152x2048.Idx) : ∃ t : Fin cfg1.N, (cfg1.win 2).flush t = true ∧ i ∈ ((cfg1.win 2).blk t).view.set := by
  have h0 : (i 0 : Nat) < 8 := (i 0).isLt
  have h1 : (i 1 : Nat) < 1152 := (i 1).isLt
  have h2 : (i 2 : Nat) < 2048 := (i 2).isLt
  refine ⟨⟨8 * ((i 1).val / 64) + (i 0).val, by have := N144; omega⟩, flush1_2 _, ?_⟩
  generalize hq : (⟨8 * ((i 1).val / 64) + (i 0).val, by have := N144; omega⟩ : Fin cfg1.N) = t
  have hv := congrArg Fin.val hq
  have hi := indexB2 t
  dsimp only at hv
  show i ∈ ((View.whole main_v6_0).slice (win1_2.rect t)).set
  rw [View.set_slice_whole, Rect.mem_set_unit]
  intro a
  match a with
  | ⟨0, _⟩ => show win1_2.index t 0 * 1 ≤ (i 0 : Nat) ∧ (i 0 : Nat) < win1_2.index t 0 * 1 + 1; rw [hi.1]; omega
  | ⟨1, _⟩ => show win1_2.index t 1 * 64 ≤ (i 1 : Nat) ∧ (i 1 : Nat) < win1_2.index t 1 * 64 + 64; rw [hi.2.1]; omega
  | ⟨2, _⟩ => show win1_2.index t 2 * 2048 ≤ (i 2 : Nat) ∧ (i 2 : Nat) < win1_2.index t 2 * 2048 + 2048; rw [hi.2.2]; omega

/-- A step writes the scale of head `t / 8`. -/
theorem indexB3 : ∀ t : Fin cfg1.N, win1_3.index t 0 = t.val / 8 ∧ win1_3.index t 1 = 0 ∧ win1_3.index t 2 = 0 :=
  (by decide +kernel : ∀ t : Fin grid1.N, win1_3.index t 0 = t.val / 8 ∧ win1_3.index t 1 = 0 ∧ win1_3.index t 2 = 0)
/-- Window 3's block at a point, read at an index. -/
theorem readB3 (t : Fin cfg1.N) (X : Vec Ideal S18x1x128 .f32) (y : S1x1x128.Idx) :
    ((cfg1.win 3).blk t).view.read (Elt Ideal) X y = X (ix3 (head1 t) (y 1) (y 2)) := by
  have hi := indexB3 t
  have hy : (y 0).val < 1 := (y 0).isLt
  rw [View.read_apply]
  show X _ = X _
  congr 1
  funext a
  apply Fin.ext
  match a with
  | ⟨0, _⟩ => show win1_3.index t 0 * 1 + 1 * (y 0).val = _; rw [hi.1]; simp [ix3, row1, col1, bat1, head1]; try omega
  | ⟨1, _⟩ => show win1_3.index t 1 * 1 + 1 * (y 1).val = _; rw [hi.2.1]; simp [ix3, row1, col1, bat1, head1]; try omega
  | ⟨2, _⟩ => show win1_3.index t 2 * 128 + 1 * (y 2).val = _; rw [hi.2.2]; simp [ix3, row1, col1, bat1, head1]; try omega

/-- Every element of window 3's array lies in the block of a point that writes back. -/
theorem memB3 (i : S18x1x128.Idx) : ∃ t : Fin cfg1.N, (cfg1.win 3).flush t = true ∧ i ∈ ((cfg1.win 3).blk t).view.set := by
  have h0 : (i 0 : Nat) < 18 := (i 0).isLt
  have h1 : (i 1 : Nat) < 1 := (i 1).isLt
  have h2 : (i 2 : Nat) < 128 := (i 2).isLt
  refine ⟨⟨8 * (i 0).val + 7, by have := N144; omega⟩, (flush1_3 _).mpr (by dsimp only; omega), ?_⟩
  generalize hq : (⟨8 * (i 0).val + 7, by have := N144; omega⟩ : Fin cfg1.N) = t
  have hv := congrArg Fin.val hq
  have hi := indexB3 t
  dsimp only at hv
  show i ∈ ((View.whole main_v6_1).slice (win1_3.rect t)).set
  rw [View.set_slice_whole, Rect.mem_set_unit]
  intro a
  match a with
  | ⟨0, _⟩ => show win1_3.index t 0 * 1 ≤ (i 0 : Nat) ∧ (i 0 : Nat) < win1_3.index t 0 * 1 + 1; rw [hi.1]; omega
  | ⟨1, _⟩ => show win1_3.index t 1 * 1 ≤ (i 1 : Nat) ∧ (i 1 : Nat) < win1_3.index t 1 * 1 + 1; rw [hi.2.1]; omega
  | ⟨2, _⟩ => show win1_3.index t 2 * 128 ≤ (i 2 : Nat) ∧ (i 2 : Nat) < win1_3.index t 2 * 128 + 128; rw [hi.2.2]; omega

end
end Cert.KernelIdeal.Own
-- ==== Proof.KI.Pay.lean ====
module
public import proofs.«01_k».proof.Proof.KI.Blk1
open Idealize.ShloMosaic Idealize.ShloMosaic.TcCoe Cert.KernelIdeal Cert.KernelIdeal.Gen
open Cert.Spec Cert.Scale

/-!
The projection's payloads read at an index.
-/
namespace Cert.KernelIdeal.Own
@[expose] public section
set_option maxRecDepth 16384

/-- The projected block at a column and a token. -/
theorem pay2_apply (w : Vec Ideal S1152x8192 .fp8e4m3) (c : Vec Ideal S256x8192 .fp8e4m3) (x : Vec Ideal S256x1 .f32) (s : Vec Ideal S1152x1 .f32)
    (n : Fin 1152) (i : Fin 256) : k0_pay2 (F := Ideal) w c x s (ix2 n i) = (∑ k : Fin 8192, w (ix2 n k) * c (ix2 i k)) * x (ix2 i 0) * s (ix2 n 0) := by
  pointwise [k0_pay2]
/-- The new head maximum is the old one joined with the magnitudes of the block. -/
theorem pay4_le (w : Vec Ideal S1152x8192 .fp8e4m3) (c : Vec Ideal S256x8192 .fp8e4m3) (x : Vec Ideal S256x1 .f32) (s : Vec Ideal S1152x1 .f32)
    (p : Vec Ideal S18x128 .f32) (h : Fin 18) (l : Fin 128) (m : EReal) :
    k0_pay4 (F := Ideal) w c x s p (ix2 h l) ≤ m ↔ p (ix2 h l) ≤ m ∧ ∀ (i : Fin 256) (d : Fin 64), mag (k0_pay2 (F := Ideal) w c x s (ix2 (hd h d) i)) ≤ m := by
  have e : k0_pay4 (F := Ideal) w c x s p (ix2 h l) = max (p (ix2 h l)) (Finset.univ.fold max (ofB 0xFF800000#32) fun i : Fin 256 =>
      Finset.univ.fold max (ofB 0xFF800000#32) fun d : Fin 64 => mag (k0_pay2 (F := Ideal) w c x s (ix2 (hd h d) i))) := by
    pointwise [k0_pay4]
    rfl
  rw [e, c_bot, max_le_iff, Finset.fold_max_le]
  simp only [Finset.fold_max_le, bot_le, true_and, Finset.mem_univ, true_imp_iff]
/-- The head maxima start from zero. -/
theorem pay3_apply (h : Fin 18) (l : Fin 128) : k0_pay3 (F := Ideal) (ix2 h l) = ofB 0x00000000#32 := by
  pointwise [k0_pay3]
/-- An index of rank two from its parts. -/
theorem eta2 {n0 n1 : ℕ} (y : Shape.Idx ⟨2, ![n0, n1]⟩) : ix2 (y 0) (y 1) = y := (eq_ix2 y).symm
/-- An index of rank three from its parts. -/
theorem eta3 {n0 n1 n2 : ℕ} (y : Shape.Idx ⟨3, ![n0, n1, n2]⟩) : ix3 (y 0) (y 1) (y 2) = y := (eq_ix3 y).symm
end
end Cert.KernelIdeal.Own
-- ==== Proof.KI.Arr0.lean ====
module
public import proofs.«01_k».proof.Proof.KI.Pay
open Idealize.ShloMosaic Idealize.ShloMosaic.TcCoe Cert.KernelIdeal Cert.KernelIdeal.Gen
open Idealize.ShloMosaic.Pipeline (Dat)
open Cert.Spec Cert.Scale

/-!
The arrays the projection kernel leaves, as functions of the arrays it reads.
-/
namespace Cert.KernelIdeal.Own
@[expose] public section
set_option maxRecDepth 16384

section
variable (X0 : Vec Ideal S16384x8192 .bf16) (X1 : Vec Ideal S1x8192 .f32) (X2 : Vec Ideal S1152x8192 .fp8e4m3) (X3 : Vec Ideal S1152x1 .f32)
/-- Token `i`. -/
noncomputable def tok (i : Fin 16384) : Fin 8192 → EReal := fun k => X0 (ix2 i k)
/-- The codes of every token. -/
noncomputable def AC : Vec Ideal S16384x8192 .fp8e4m3 := fun y => rowCode (tok X0 (y 0)) (rowG X1) (y 1)
/-- The scale of every token. -/
noncomputable def AS : Vec Ideal S16384x1 .f32 := fun y => rowScale (tok X0 (y 0)) (rowG X1)
/-- Column `n` of token `i`'s projection. -/
noncomputable def prj (n : Fin 1152) (i : Fin 16384) : EReal :=
  (∑ k : Fin 8192, X2 (ix2 n k) * rowCode (tok X0 i) (rowG X1) k) * rowScale (tok X0 i) (rowG X1) * X3 (ix2 n 0)
/-- The projection. -/
noncomputable def AY : Vec Ideal S1152x16384 .f32 := fun y => prj X0 X1 X2 X3 (y 0) (y 1)
/-- The largest magnitude of head `h` over the first `N` tokens, from zero. -/
noncomputable def hmax (N : ℕ) (h : Fin 18) : EReal :=
  (Finset.univ.filter fun i : Fin 16384 => i.val < N).fold max (ofB 0x00000000#32) fun i =>
    Finset.univ.fold max (ofB 0x00000000#32) fun d : Fin 64 => mag (prj X0 X1 X2 X3 (hd h d) i)
/-- Every head's largest magnitude. -/
noncomputable def AM : Vec Ideal S18x128 .f32 := fun y => hmax X0 X1 X2 X3 16384 (y 0)

/-- A head's running maximum over the first `N` tokens is below a bound when zero and the magnitudes of all its projected values are. -/
theorem hmax_le (N : ℕ) (hN : 0 < N) (h : Fin 18) (m : EReal) : hmax X0 X1 X2 X3 N h ≤ m
    ↔ ofB 0x00000000#32 ≤ m ∧ ∀ i : Fin 16384, i.val < N → ∀ d : Fin 64, mag (prj X0 X1 X2 X3 (hd h d) i) ≤ m := by
  unfold hmax
  simp only [Finset.fold_max_le, Finset.mem_filter, Finset.mem_univ, true_and, true_imp_iff]
  exact ⟨fun hh => ⟨hh.1, fun i hi d => (hh.2 i hi).2 d⟩, fun hh => ⟨hh.1, fun i hi => ⟨hh.1, hh.2 i hi⟩⟩⟩

/-! ### One point -/
variable (t : Fin cfg0.N) (x0 : Vec Ideal S256x8192 .bf16) (x1 : Vec Ideal S1x8192 .f32) (x2 : Vec Ideal S1152x8192 .fp8e4m3) (x3 : Vec Ideal S1152x1 .f32)
variable (h0 : ∀ y, x0 y = X0 (ix2 (rowOf t (y 0)) (y 1))) (h1 : x1 = X1) (h2 : x2 = X2) (h3 : x3 = X3)

include h0 in
/-- Row `r` of block `t` is the token with that number. -/
theorem rowX_tok (r : Fin 256) : rowX x0 r = tok X0 (rowOf t r) := funext fun k => h0 (ix2 r k)
include h0 h1 in
/-- The codes of a block are those of the whole array at its tokens. -/
theorem G5_AC (y : S256x8192.Idx) : G5 x0 x1 y = AC X0 X1 (ix2 (rowOf t (y 0)) (y 1)) := by
  subst h1
  exact congrArg (fun u => rowCode u (rowG x1) (y 1)) (rowX_tok X0 t x0 h0 (y 0))
include h0 h1 in
/-- The scales of a block are those of the whole array at its tokens. -/
theorem G6_AS (y : S256x1.Idx) : G6 x0 x1 y = AS X0 X1 (ix2 (rowOf t (y 0)) (y 1)) := by
  subst h1
  exact congrArg (fun u => rowScale u (rowG x1)) (rowX_tok X0 t x0 h0 (y 0))
include h0 h1 h2 h3 in
/-- The projected values of a block are those of the whole array at its tokens. -/
theorem YB_prj (n : Fin 1152) (i : Fin 256) : YB x0 x1 x2 x3 (ix2 n i) = prj X0 X1 X2 X3 n (rowOf t i) := by
  subst h1 h2 h3
  unfold YB
  rw [pay2_apply]
  exact congrArg (fun u => (∑ k : Fin 8192, x2 (ix2 n k) * rowCode u (rowG x1) k) * rowScale u (rowG x1) * x3 (ix2 n 0)) (rowX_tok X0 t x0 h0 i)
include h0 h1 h2 h3 in
/-- A point takes the maxima over the tokens before its block to the maxima over the tokens up to the block's end. -/
theorem MB_hmax (p : Vec Ideal S18x128 .f32)
    (hp : ∀ (h : Fin 18) (l : Fin 128) m, p (ix2 h l) ≤ m ↔ ofB 0x00000000#32 ≤ m ∧ ∀ i : Fin 16384, i.val < 256 * t.val → ∀ d : Fin 64, mag (prj X0 X1 X2 X3 (hd h d) i) ≤ m)
    (h : Fin 18) (l : Fin 128) (m) : MB x0 x1 x2 x3 p (ix2 h l) ≤ m
      ↔ ofB 0x00000000#32 ≤ m ∧ ∀ i : Fin 16384, i.val < 256 * (t.val + 1) → ∀ d : Fin 64, mag (prj X0 X1 X2 X3 (hd h d) i) ≤ m := by
  unfold MB
  rw [pay4_le, hp]
  have e : ∀ (i : Fin 256) (d : Fin 64), k0_pay2 (F := Ideal) x2 (G5 x0 x1) (G6 x0 x1) x3 (ix2 (hd h d) i) = prj X0 X1 X2 X3 (hd h d) (rowOf t i) :=
    fun i d => YB_prj X0 X1 X2 X3 t x0 x1 x2 x3 h0 h1 h2 h3 (hd h d) i
  simp only [e]
  constructor
  · rintro ⟨⟨hz, ha⟩, hb⟩
    refine ⟨hz, fun i hi d => ?_⟩
    by_cases hlt : i.val < 256 * t.val
    · exact ha i hlt d
    · have := hb ⟨i.val - 256 * t.val, by omega⟩ d
      rwa [show rowOf t ⟨i.val - 256 * t.val, by omega⟩ = i from Fin.ext (by simp [rowOf]; omega)] at this
  · rintro ⟨hz, ha⟩
    exact ⟨⟨hz, fun i hi d => ha i (by omega) d⟩, fun i d => ha (rowOf t i) (by simp [rowOf]; omega) d⟩
end

/-! ### The arrays after the last point -/
section
variable (V : (c : Dev nD) → (b : Ref sig .tc) → Buf (Elt Ideal) ((c : Thread nD τ).loc b)) (c : Dev nD)

/-- The block of x at step `t`. -/
theorem b0 (t : Fin cfg0.N) (y : S256x8192.Idx) : (iblk0 V c 0 t : Vec Ideal S256x8192 .bf16) y = (V c main_v0 : Vec Ideal S16384x8192 .bf16) (ix2 (rowOf t (y 0)) (y 1)) :=
  read0 t (V c main_v0) y
/-- The block of gamma is the whole array. -/
theorem b1 (t : Fin cfg0.N) : (iblk0 V c 1 t : Vec Ideal S1x8192 .f32) = V c main_v2 :=
  funext fun y => (read1 t (V c main_v2) y).trans (congrArg (V c main_v2 : Vec Ideal S1x8192 .f32) (eta2 y))
/-- The block of the weights is the whole array. -/
theorem b2 (t : Fin cfg0.N) : (iblk0 V c 2 t : Vec Ideal S1152x8192 .fp8e4m3) = V c main_v3 :=
  funext fun y => (read2 t (V c main_v3) y).trans (congrArg (V c main_v3 : Vec Ideal S1152x8192 .fp8e4m3) (eta2 y))
/-- The block of the weight scales is the whole array. -/
theorem b3 (t : Fin cfg0.N) : (iblk0 V c 3 t : Vec Ideal S1152x1 .f32) = V c main_v4 :=
  funext fun y => (read3 t (V c main_v4) y).trans (congrArg (V c main_v4 : Vec Ideal S1152x1 .f32) (eta2 y))

/-- Step `t` leaves the codes of its block. -/
theorem o4 (t : Fin cfg0.N) : (outsAt0 V c t.val t.isLt).1 = G5 (iblk0 V c 0 t) (iblk0 V c 1 t) := by
  by_cases h : t.val % 64 = 0
  · rw [outsAt0_A V c t h]; dsimp only; exact outA_4 (hc0 := (hcond0_0 t).mpr h) ..
  · rw [outsAt0_B V c t h]; dsimp only; exact outB_4 (hc0 := fun h' => h ((hcond0_0 t).mp h')) ..
/-- Step `t` leaves the scales of its block. -/
theorem o5 (t : Fin cfg0.N) : (outsAt0 V c t.val t.isLt).2.1 = G6 (iblk0 V c 0 t) (iblk0 V c 1 t) := by
  by_cases h : t.val % 64 = 0
  · rw [outsAt0_A V c t h]; dsimp only; exact outA_5 (hc0 := (hcond0_0 t).mpr h) ..
  · rw [outsAt0_B V c t h]; dsimp only; exact outB_5 (hc0 := fun h' => h ((hcond0_0 t).mp h')) ..
/-- Step `t` leaves the projected values of its block. -/
theorem o6 (t : Fin cfg0.N) : (outsAt0 V c t.val t.isLt).2.2.1 = YB (iblk0 V c 0 t) (iblk0 V c 1 t) (iblk0 V c 2 t) (iblk0 V c 3 t) := by
  by_cases h : t.val % 64 = 0
  · rw [outsAt0_A V c t h]; dsimp only; exact outA_6 (hc0 := (hcond0_0 t).mpr h) ..
  · rw [outsAt0_B V c t h]; dsimp only; exact outB_6 (hc0 := fun h' => h ((hcond0_0 t).mp h')) ..
/-- The first step starts the head maxima from zero. -/
theorem o7A (t : Fin cfg0.N) (h : t.val % 64 = 0) : (outsAt0 V c t.val t.isLt).2.2.2 = MB (iblk0 V c 0 t) (iblk0 V c 1 t) (iblk0 V c 2 t) (iblk0 V c 3 t) (k0_pay3 (F := Ideal)) := by
  rw [outsAt0_A V c t h]; dsimp only; exact outA_7 (hc0 := (hcond0_0 t).mpr h) ..
/-- A later step goes on from the head maxima of the step before. -/
theorem o7B (t : Fin cfg0.N) (h : ¬t.val % 64 = 0) : (outsAt0 V c t.val t.isLt).2.2.2 = MB (iblk0 V c 0 t) (iblk0 V c 1 t) (iblk0 V c 2 t) (iblk0 V c 3 t)
    (outsAt0 V c (t.val - 1) (Nat.lt_of_le_of_lt (Nat.sub_le _ _) t.isLt)).2.2.2 := by
  rw [outsAt0_B V c t h]; dsimp only; exact outB_7 (hc0 := fun h' => h ((hcond0_0 t).mp h')) ..

/-- After point `n` the maxima are those of the tokens up to the end of its block. -/
theorem o7 : ∀ (n : ℕ) (hn : n < cfg0.N) (h : Fin 18) (l : Fin 128) (m : EReal), (outsAt0 V c n hn).2.2.2 (ix2 h l) ≤ m
    ↔ ofB 0x00000000#32 ≤ m ∧ ∀ i : Fin 16384, i.val < 256 * (n + 1) → ∀ d : Fin 64, mag (prj (V c main_v0) (V c main_v2) (V c main_v3) (V c main_v4) (hd h d) i) ≤ m
  | 0, hn, h, l, m => by
    rw [o7A V c ⟨0, hn⟩ rfl]
    refine MB_hmax (V c main_v0) (V c main_v2) (V c main_v3) (V c main_v4) ⟨0, hn⟩ _ _ _ _ (b0 V c _) (b1 V c _) (b2 V c _) (b3 V c _) _ (fun h l m => ?_) h l m
    rw [pay3_apply]
    exact ⟨fun hz => ⟨hz, fun i hi => absurd hi (by simp)⟩, fun hz => hz.1⟩
  | n + 1, hn, h, l, m => by
    have hN := N64
    rw [o7B V c ⟨n + 1, hn⟩ (by dsimp only; omega)]
    exact MB_hmax (V c main_v0) (V c main_v2) (V c main_v3) (V c main_v4) ⟨n + 1, hn⟩ _ _ _ _ (b0 V c _) (b1 V c _) (b2 V c _) (b3 V c _) _
      (fun h l m => o7 n _ h l m) h l m

/-- The codes after the projection kernel. -/
theorem arr4 : (dat0 V c).arrAt 4 cfg0.N = AC (V c main_v0) (V c main_v2) := by
  refine (dat0 V c).arrAt_eq_of_cover 4 (AC (V c main_v0) (V c main_v2)) (fun t _ => ?_) mem4
  show (cfg0.win 4).cut (grid0.coords t) ((dat0 V c).after 4 t) = _
  rw [after0_4, o4]
  funext y
  exact (G5_AC (V c main_v0) (V c main_v2) t _ _ (b0 V c t) (b1 V c t) y).trans (read4 t (AC (V c main_v0) (V c main_v2)) y).symm
/-- The scales after the projection kernel. -/
theorem arr5 : (dat0 V c).arrAt 5 cfg0.N = AS (V c main_v0) (V c main_v2) := by
  refine (dat0 V c).arrAt_eq_of_cover 5 (AS (V c main_v0) (V c main_v2)) (fun t _ => ?_) mem5
  show (cfg0.win 5).cut (grid0.coords t) ((dat0 V c).after 5 t) = _
  rw [after0_5, o5]
  funext y
  exact (G6_AS (V c main_v0) (V c main_v2) t _ _ (b0 V c t) (b1 V c t) y).trans (read5 t (AS (V c main_v0) (V c main_v2)) y).symm
/-- The projection after the projection kernel. -/
theorem arr6 : (dat0 V c).arrAt 6 cfg0.N = AY (V c main_v0) (V c main_v2) (V c main_v3) (V c main_v4) := by
  refine (dat0 V c).arrAt_eq_of_cover 6 (AY (V c main_v0) (V c main_v2) (V c main_v3) (V c main_v4)) (fun t _ => ?_) mem6
  show (cfg0.win 6).cut (grid0.coords t) ((dat0 V c).after 6 t) = _
  rw [after0_6, o6]
  refine Eq.trans (b := (fun y : S1152x256.Idx => YB (iblk0 V c 0 t) (iblk0 V c 1 t) (iblk0 V c 2 t) (iblk0 V c 3 t) (ix2 (y 0) (y 1)))) ?_ ?_
  · funext y; exact congrArg (YB (iblk0 V c 0 t) (iblk0 V c 1 t) (iblk0 V c 2 t) (iblk0 V c 3 t)) (eta2 y).symm
  funext y
  exact (YB_prj (V c main_v0) (V c main_v2) (V c main_v3) (V c main_v4) t _ _ _ _ (b0 V c t) (b1 V c t) (b2 V c t) (b3 V c t) (y 0) (y 1)).trans (read6 t (AY (V c main_v0) (V c main_v2) (V c main_v3) (V c main_v4)) y).symm
/-- The head maxima after the projection kernel. -/
theorem arr7 : (dat0 V c).arrAt 7 cfg0.N = AM (V c main_v0) (V c main_v2) (V c main_v3) (V c main_v4) := by
  refine (dat0 V c).arrAt_eq_of_cover 7 (AM (V c main_v0) (V c main_v2) (V c main_v3) (V c main_v4)) (fun t hf => ?_) mem7
  have hN := N64
  have ht : t.val < 64 := lt_of_lt_of_eq t.isLt N64
  have h63 := (flush0_7 t).mp hf
  have h63 : t.val + 1 = 64 := by omega
  show (cfg0.win 7).cut (grid0.coords t) ((dat0 V c).after 7 t) = _
  rw [after0_7]
  have key : ∀ (h : Fin 18) (l : Fin 128), (outsAt0 V c t.val t.isLt).2.2.2 (ix2 h l) = hmax (V c main_v0) (V c main_v2) (V c main_v3) (V c main_v4) 16384 h := fun h l =>
    eq_of_forall_ge_iff fun m => by rw [o7, hmax_le _ _ _ _ _ (by omega), h63]
  refine Eq.trans (b := (fun y : S18x128.Idx => (outsAt0 V c t.val t.isLt).2.2.2 (ix2 (y 0) (y 1)))) ?_ ?_
  · funext y; exact congrArg (outsAt0 V c t.val t.isLt).2.2.2 (eta2 y).symm
  funext y
  exact (key (y 0) (y 1)).trans (read7 t (AM (V c main_v0) (V c main_v2) (V c main_v3) (V c main_v4)) y).symm
end
end
end Cert.KernelIdeal.Own
-- ==== Proof.KI.Quant.lean ====
module
public import proofs.«01_k».proof.Proof.KI.Arr0
open Idealize.ShloMosaic Idealize.ShloMosaic.TcCoe Cert.KernelIdeal Cert.KernelIdeal.Gen
open Idealize.ShloMosaic.Pipeline (Dat)
open Cert.Spec Cert.Scale

/-!
One grid point of the quantiser, and the arrays the quantiser leaves.
-/
namespace Cert.KernelIdeal.Own
@[expose] public section
set_option maxRecDepth 16384

/-- The argument of a head's scale. -/
noncomputable def kArg (a : Vec Ideal S1x1 .f32) : FVec Ideal S1x1 .f32 := mulf (shapeCast S1x1 a shapeCasts_S1x1_S1x1) (broadcast S1x1 (Scalar.ofBits (F := Ideal) .f32 0x3B124925#32))
/-- A head's codes from the reciprocal scale. -/
noncomputable def qOf (inv : FVec Ideal S1x1 .f32) (y : Vec Ideal S64x2048 .f32) : FVec Ideal S1x64x2048 .fp8e4m3 :=
  shapeCast S1x64x2048 (truncf .fp8e4m3 (minimumf (broadcast S64x2048 (Scalar.ofBits .f32 0x43E00000#32))
    (maximumf (broadcast S64x2048 (Scalar.ofBits .f32 0xC3E00000#32)) (mulf (shapeCast S64x2048 y shapeCasts_S64x2048_S64x2048) (broadcastTo S64x2048 inv broadcasts_S1x1_S64x2048)))) bitsLt_fp8e4m3_f32) shapeCasts_S64x2048_S1x64x2048
/-- A head's scale broadcast over its lanes. -/
noncomputable def sOut (s : FVec Ideal S1x1 .f32) : FVec Ideal S1x1x128 .f32 :=
  broadcastTo S1x1x128 (shapeCast S1x1x1 (shapeCast S1x1x1 s shapeCasts_S1x1_S1x1x1) shapeCasts_S1x1x1_S1x1x1) broadcasts_S1x1x1_S1x1x128

/-- The scales that a step of the second call stores. -/
theorem pay2_eq (a : Vec Ideal S1x1 .f32) : k1_pay2 (F := Ideal) (k1_pay4 a) 0#32 = sOut (fun j => kScale (kArg a j)) := by sl_kernel_rfl
/-- The codes that a step of the second call stores. -/
theorem pay3_eq (a : Vec Ideal S1x1 .f32) (y : Vec Ideal S64x2048 .f32) : k1_pay3 (F := Ideal) (k1_pay4 a) 0#32 y = qOf (fun j => kInv (kArg a j)) y := by sl_kernel_rfl

/-- The argument of a head's scale is its maximum over 448. -/
theorem kArg_apply (a : Vec Ideal S1x1 .f32) : kArg a (ix2 0 0) = a (ix2 0 0) * ofB 0x3B124925#32 := by
  pointwise [kArg]
/-- A head code is the clip of the projected value times the inverse scale. -/
theorem qOf_apply (inv : FVec Ideal S1x1 .f32) (y : Vec Ideal S64x2048 .f32) (h : Fin 1) (d : Fin 64) (l : Fin 2048) :
    qOf inv y (ix3 h d l) = clip (y (ix2 d l) * inv (ix2 0 0)) := by
  pointwise [qOf]
  rfl
/-- A head's scale is broadcast over its lanes. -/
theorem sOut_apply (s : FVec Ideal S1x1 .f32) (h : Fin 1) (d : Fin 1) (l : Fin 128) : sOut s (ix3 h d l) = s (ix2 0 0) := by
  pointwise [sOut]

variable (c : Dev nD) (i : grid1.Coords) (arg2 : Memref sig .tc .vmem S64x2048 .f32) (harg2 : arg2.IsWhole) (arg3 : Memref sig .tc .vmem S18x128 .f32) (harg3 : arg3.IsWhole) (arg4 : Memref sig .tc .vmem S1x64x2048 .fp8e4m3) (harg4 : arg4.IsWhole) (arg5 : Memref sig .tc .vmem S1x1x128 .f32) (harg5 : arg5.IsWhole) (x0 : Vec Ideal S64x2048 .f32) (x1 : Vec Ideal S18x128 .f32)

/-- The load of the head's maximum. -/
noncomputable def ldA : Vec Ideal S1x1 .f32 := View.readAt (Elt Ideal) arg3.view (Rect.unit (s := S18x128) (k1_off1 i) S1x1.size (k1_off1_inb i)).toLoadRect (harg3.unread x1)
/-- The maximum that a step loads is that of its head. -/
theorem ldA_apply (h : Fin 18) (hh : (i 0).val = h.val) : ldA i arg3 harg3 x1 (ix2 0 0) = x1 (ix2 h 0) := by
  have go : ∀ (off : Fin 2 → ℕ) (hb) (_ : off = ![h.val, 0]), View.readAt (Elt Ideal) arg3.view (Rect.unit (s := S18x128) off S1x1.size hb).toLoadRect (harg3.unread x1) (ix2 0 0) = x1 (ix2 h 0) := by
    intro off hb e
    subst e
    rw [harg3.readAt_unread]
    refine congrArg x1 (funext fun a => Fin.ext ?_)
    match a with
    | ⟨0, _⟩ => simp [LoadRect.idx, Rect.unit, Rect.toLoadRect, ix2]
    | ⟨1, _⟩ => simp [LoadRect.idx, Rect.unit, Rect.toLoadRect, ix2]
  exact go _ _ (by rw [k1_off1_eq, hh])

/-- A step of the second call writes the codes in one piece. -/
theorem run1_2 : (kernelRun1_A (F := Ideal) c i arg2 harg2 arg3 harg3 arg4 harg4 arg5 harg5 x0 x1).1
    = [⟨Rect.unit (s := S1x64x2048) ![0, 0, 0] ![1, 64, 2048] inb_S1x64x2048_S1x64x2048_0_0_0, k1_pay3 (F := Ideal) (k1_pay4 (ldA i arg3 harg3 x1)) 0#32
        (View.readAt (Elt Ideal) arg2.view (Rect.unit (s := S64x2048) ![0, 0] ![64, 2048] inb_S64x2048_S64x2048_0_0).toLoadRect (harg2.unread x0))⟩] := by sl_kernel_rfl
/-- A step of the second call writes the scales in one piece. -/
theorem run1_3 : (kernelRun1_A (F := Ideal) c i arg2 harg2 arg3 harg3 arg4 harg4 arg5 harg5 x0 x1).2.1
    = [⟨Rect.unit (s := S1x1x128) ![0, 0, 0] ![1, 1, 128] inb_S1x1x128_S1x1x128_0_0_0, k1_pay2 (F := Ideal) (k1_pay4 (ldA i arg3 harg3 x1)) 0#32⟩] := by sl_kernel_rfl

/-- The codes a point leaves. -/
theorem out1_2 (h : Fin 18) (hh : (i 0).val = h.val) (a : Fin 1) (d : Fin 64) (l : Fin 2048) : out1_A_2 (F := Ideal) c i arg2 harg2 arg3 harg3 arg4 harg4 arg5 harg5 x0 x1 (ix3 a d l)
    = clip (x0 (ix2 d l) * kInv (x1 (ix2 h 0) * ofB 0x3B124925#32)) := by
  unfold out1_A_2
  rw [run1_2, readAt_all arg2 harg2 x0 _ inb_S64x2048_S64x2048_0_0 off2, pay3_eq]
  refine (congrFun (read_top _ _ _ _ _ inb_S1x64x2048_S1x64x2048_0_0_0 off3) _).trans ?_
  rw [qOf_apply, kArg_apply, ldA_apply i arg3 harg3 x1 h hh]
/-- The scale a point leaves. -/
theorem out1_3 (h : Fin 18) (hh : (i 0).val = h.val) (a : Fin 1) (d : Fin 1) (l : Fin 128) : out1_A_3 (F := Ideal) c i arg2 harg2 arg3 harg3 arg4 harg4 arg5 harg5 x0 x1 (ix3 a d l)
    = kScale (x1 (ix2 h 0) * ofB 0x3B124925#32) := by
  unfold out1_A_3
  rw [run1_3, pay2_eq]
  refine (congrFun (read_top _ _ _ _ _ inb_S1x1x128_S1x1x128_0_0_0 off3) _).trans ?_
  rw [sOut_apply, kArg_apply, ldA_apply i arg3 harg3 x1 h hh]

/-! ### The arrays after the last point -/
section
variable (Y : Vec Ideal S1152x16384 .f32) (M : Vec Ideal S18x128 .f32)
/-- The head of column `n`. -/
def headOf (n : Fin 1152) : Fin 18 := ⟨n.val / 64, by omega⟩
/-- The token of batch `b` and place `s`. -/
def tokOf (b : Fin 8) (s : Fin 2048) : Fin 16384 := ⟨2048 * b.val + s.val, by omega⟩
/-- Every head's codes, by batch, column and place. -/
noncomputable def AQ : Vec Ideal S8x1152x2048 .fp8e4m3 := fun y =>
  clip (Y (ix2 (y 1) (tokOf (y 0) (y 2))) * kInv (M (ix2 (headOf (y 1)) 0) * ofB 0x3B124925#32))
/-- Every head's scale. -/
noncomputable def AQS : Vec Ideal S18x1x128 .f32 := fun y => kScale (M (ix2 (y 0) 0) * ofB 0x3B124925#32)

/-- The first grid coordinate of a step is its head. -/
theorem coords1 : ∀ t : Fin cfg1.N, (grid1.coords t 0).val = (head1 t).val :=
  (by decide +kernel : ∀ t : Fin grid1.N, (grid1.coords t 0).val = t.val / 8)
/-- The codes a point leaves, from the arrays. -/
theorem q2 (t : Fin cfg1.N) (h0 : ∀ y : S64x2048.Idx, x0 y = Y (ix2 (row1 t (y 0)) (col1 t (y 1)))) (h1 : x1 = M) (a : Fin 1) (d : Fin 64) (l : Fin 2048) :
    out1_A_2 (F := Ideal) c (grid1.coords t) arg2 harg2 arg3 harg3 arg4 harg4 arg5 harg5 x0 x1 (ix3 a d l) = AQ Y M (ix3 (bat1 t) (row1 t d) l) := by
  subst h1
  rw [out1_2 c (grid1.coords t) arg2 harg2 arg3 harg3 arg4 harg4 arg5 harg5 x0 x1 (head1 t) (coords1 t), h0]
  have e1 : headOf (row1 t d) = head1 t := Fin.ext (by simp [headOf, row1, head1]; omega)
  show _ = clip (Y (ix2 (row1 t d) (tokOf (bat1 t) l)) * kInv (x1 (ix2 (headOf (row1 t d)) 0) * ofB 0x3B124925#32))
  rw [e1]
  rfl
/-- The scale a point leaves, from the arrays. -/
theorem q3 (t : Fin cfg1.N) (h1 : x1 = M) (a : Fin 1) (d : Fin 1) (l : Fin 128) :
    out1_A_3 (F := Ideal) c (grid1.coords t) arg2 harg2 arg3 harg3 arg4 harg4 arg5 harg5 x0 x1 (ix3 a d l) = AQS M (ix3 (head1 t) d l) := by
  subst h1
  rw [out1_3 c (grid1.coords t) arg2 harg2 arg3 harg3 arg4 harg4 arg5 harg5 x0 x1 (head1 t) (coords1 t)]
  rfl
end

section
variable (V : (c : Dev nD) → (b : Ref sig .tc) → Buf (Elt Ideal) ((c : Thread nD τ).loc b)) (c : Dev nD)
/-- The block of the projection at step `t`. -/
theorem d0 (t : Fin cfg1.N) (y : S64x2048.Idx) : (iblk1 V c 0 t : Vec Ideal S64x2048 .f32) y = (V c main_v5_2 : Vec Ideal S1152x16384 .f32) (ix2 (row1 t (y 0)) (col1 t (y 1))) :=
  readB0 t (V c main_v5_2) y
/-- The block of the head maxima is the whole array. -/
theorem d1 (t : Fin cfg1.N) : (iblk1 V c 1 t : Vec Ideal S18x128 .f32) = V c main_v5_3 :=
  funext fun y => (readB1 t (V c main_v5_3) y).trans (congrArg (V c main_v5_3 : Vec Ideal S18x128 .f32) (eta2 y))
/-- What step `t` leaves in the codes. -/
theorem oo2 (t : Fin cfg1.N) : (outsAt1 V c t).1 = out1_A_2 (F := Ideal) c (grid1.coords t) (ms1_0 t) (hs1_0 t) (ms1_1 t) (hs1_1 t) (ms1_2 t) (hs1_2 t) (ms1_3 t) (hs1_3 t) (iblk1 V c 0 t) (iblk1 V c 1 t) := by unfold outsAt1; dsimp only
/-- What step `t` leaves in the scales. -/
theorem oo3 (t : Fin cfg1.N) : (outsAt1 V c t).2 = out1_A_3 (F := Ideal) c (grid1.coords t) (ms1_0 t) (hs1_0 t) (ms1_1 t) (hs1_1 t) (ms1_2 t) (hs1_2 t) (ms1_3 t) (hs1_3 t) (iblk1 V c 0 t) (iblk1 V c 1 t) := by unfold outsAt1; dsimp only

/-- The codes after the quantiser. -/
theorem arrB2 : (dat1 V c).arrAt 2 cfg1.N = AQ (V c main_v5_2) (V c main_v5_3) := by
  refine (dat1 V c).arrAt_eq_of_cover 2 (AQ (V c main_v5_2) (V c main_v5_3)) (fun t _ => ?_) memB2
  show (cfg1.win 2).cut (grid1.coords t) ((dat1 V c).after 2 t) = _
  rw [after1_2]
  have key : ∀ (a : Fin 1) (d : Fin 64) (l : Fin 2048), (outsAt1 V c t).1 (ix3 a d l) = AQ (V c main_v5_2) (V c main_v5_3) (ix3 (bat1 t) (row1 t d) l) :=
    fun a d l => (congrFun (oo2 V c t) _).trans (q2 c (ms1_0 t) (hs1_0 t) (ms1_1 t) (hs1_1 t) (ms1_2 t) (hs1_2 t) (ms1_3 t) (hs1_3 t) (iblk1 V c 0 t) (iblk1 V c 1 t) (V c main_v5_2) (V c main_v5_3) t (d0 V c t) (d1 V c t) a d l)
  generalize (outsAt1 V c t).1 = G at key
  refine Eq.trans (b := (fun y : S1x64x2048.Idx => G (ix3 (y 0) (y 1) (y 2)))) ?_ ?_
  · funext y; exact congrArg G (eta3 y).symm
  funext y
  exact (key (y 0) (y 1) (y 2)).trans (readB2 t (AQ (V c main_v5_2) (V c main_v5_3)) y).symm
/-- The scales after the quantiser. -/
theorem arrB3 : (dat1 V c).arrAt 3 cfg1.N = AQS (V c main_v5_3) := by
  refine (dat1 V c).arrAt_eq_of_cover 3 (AQS (V c main_v5_3)) (fun t _ => ?_) memB3
  show (cfg1.win 3).cut (grid1.coords t) ((dat1 V c).after 3 t) = _
  rw [after1_3]
  have key : ∀ (a : Fin 1) (d : Fin 1) (l : Fin 128), (outsAt1 V c t).2 (ix3 a d l) = AQS (V c main_v5_3) (ix3 (head1 t) d l) :=
    fun a d l => (congrFun (oo3 V c t) _).trans (q3 c (ms1_0 t) (hs1_0 t) (ms1_1 t) (hs1_1 t) (ms1_2 t) (hs1_2 t) (ms1_3 t) (hs1_3 t) (iblk1 V c 0 t) (iblk1 V c 1 t) (V c main_v5_3) t (d1 V c t) a d l)
  generalize (outsAt1 V c t).2 = G at key
  refine Eq.trans (b := (fun y : S1x1x128.Idx => G (ix3 (y 0) (y 1) (y 2)))) ?_ ?_
  · funext y; exact congrArg G (eta3 y).symm
  funext y
  exact (key (y 0) (y 1) (y 2)).trans (readB3 t (AQS (V c main_v5_3)) y).symm
end
end
end Cert.KernelIdeal.Own
-- ==== Proof.KI.Host.lean ====
/- What the kernel's host operations leave: the arrays the first grid reads, and the eight results. -/
module

public import proofs.«01_k».proof.Proof.KI.Quant
public import Idealize.ShloMosaic.Lib.StableHlo.ReadAt
public import Idealize.ShloMosaic.Lib.Pointwise

@[expose] public section
set_option maxRecDepth 16384

noncomputable section

namespace Cert.KernelIdeal.Own

open Cert.KernelIdeal Cert.KernelIdeal.Gen Cert.Scale Cert.Spec
open Idealize.ShloMosaic Idealize.ShloMosaic.TcCoe Idealize.SL.Sem

variable (V : Valuation τ sig (Elt Ideal))

/-- The host flattens batch and position of x. -/
theorem h0 : StableHlo.after (hostOps0 (F := Ideal)) V (Proc.devRef .tc main_v0) = shapeCast S16384x8192 (V (Proc.devRef .tc main_arg0) : Vec Ideal S8x2048x8192 .bf16) shapeCasts_S8x2048x8192_S16384x8192 := by
  after_reads_simp
  rfl
/-- The host gives gamma as a row. -/
theorem h2 (k : Fin 8192) : (StableHlo.after (hostOps0 (F := Ideal)) V (Proc.devRef .tc main_v2) : Vec Ideal S1x8192 .f32) (ix2 0 k) = (V (Proc.devRef .tc main_arg1) : Vec Ideal S8192 .bf16) (ix1 k) := by
  after_reads_at
/-- The host transposes the weights. -/
theorem h3 (n : Fin 1152) (k : Fin 8192) : (StableHlo.after (hostOps0 (F := Ideal)) V (Proc.devRef .tc main_v3) : Vec Ideal S1152x8192 .fp8e4m3) (ix2 n k) = (V (Proc.devRef .tc main_arg2) : Vec Ideal S8192x1152 .fp8e4m3) (ix2 k n) := by
  after_reads_at
/-- The host gives the weight scales as a column. -/
theorem h4 (n : Fin 1152) : (StableHlo.after (hostOps0 (F := Ideal)) V (Proc.devRef .tc main_v4) : Vec Ideal S1152x1 .f32) (ix2 n 0) = (V (Proc.devRef .tc main_arg3) : Vec Ideal S1152 .f32) (ix1 n) := by
  after_reads_at
/-- The query codes are the second call's, transposed. -/
theorem h11 (b : Fin 8) (s : Fin 2048) (h : Fin 16) (d : Fin 64) : (StableHlo.after (hostOps2 (F := Ideal)) V (Proc.devRef .tc main_v11) : Vec Ideal S8x2048x16x64 .fp8e4m3) (ix4 b s h d) = (V (Proc.devRef .tc main_v6_0) : Vec Ideal S8x1152x2048 .fp8e4m3) (ix3 b ⟨h.val * 64 + d.val, by omega⟩ s) := by
  after_reads_at
/-- The query scales are the first 16 head scales. -/
theorem h12 (h : Fin 16) : (StableHlo.after (hostOps2 (F := Ideal)) V (Proc.devRef .tc main_v12) : Vec Ideal S16 .f32) (ix1 h) = (V (Proc.devRef .tc main_v6_1) : Vec Ideal S18x1x128 .f32) (ix3 ⟨h.val, by omega⟩ 0 0) := by
  after_reads_at
/-- The key codes are those of head 16, transposed. -/
theorem h13 (b : Fin 8) (s : Fin 2048) (d : Fin 64) : (StableHlo.after (hostOps2 (F := Ideal)) V (Proc.devRef .tc main_v13) : Vec Ideal S8x2048x1x64 .fp8e4m3) (ix4 b s 0 d) = (V (Proc.devRef .tc main_v6_0) : Vec Ideal S8x1152x2048 .fp8e4m3) (ix3 b ⟨1024 + d.val, by omega⟩ s) := by
  after_reads_at
/-- The key scale is that of head 16. -/
theorem h14  : (StableHlo.after (hostOps2 (F := Ideal)) V (Proc.devRef .tc main_v14) : Vec Ideal S1 .f32) (ix1 0) = (V (Proc.devRef .tc main_v6_1) : Vec Ideal S18x1x128 .f32) (ix3 16 0 0) := by
  after_reads_at
/-- The value codes are those of head 17, transposed. -/
theorem h15 (b : Fin 8) (s : Fin 2048) (d : Fin 64) : (StableHlo.after (hostOps2 (F := Ideal)) V (Proc.devRef .tc main_v15) : Vec Ideal S8x2048x1x64 .fp8e4m3) (ix4 b s 0 d) = (V (Proc.devRef .tc main_v6_0) : Vec Ideal S8x1152x2048 .fp8e4m3) (ix3 b ⟨1088 + d.val, by omega⟩ s) := by
  after_reads_at
/-- The value scale is that of head 17. -/
theorem h16  : (StableHlo.after (hostOps2 (F := Ideal)) V (Proc.devRef .tc main_v16) : Vec Ideal S1 .f32) (ix1 0) = (V (Proc.devRef .tc main_v6_1) : Vec Ideal S18x1x128 .f32) (ix3 17 0 0) := by
  after_reads_at
/-- The token codes, by batch and position. -/
theorem h17 (b : Fin 8) (s : Fin 2048) (k : Fin 8192) : (StableHlo.after (hostOps2 (F := Ideal)) V (Proc.devRef .tc main_v17) : Vec Ideal S8x2048x8192 .fp8e4m3) (ix3 b s k) = (V (Proc.devRef .tc main_v5_0) : Vec Ideal S16384x8192 .fp8e4m3) (ix2 (tokOf b s) k) := by
  after_reads_at
  exact congrArg (fun i => (V (Proc.devRef .tc main_v5_0) : Vec Ideal S16384x8192 .fp8e4m3) (ix2 i k)) (Fin.ext (by simp [tokOf]; omega))
/-- The token scales, by batch and position. -/
theorem h18 (b : Fin 8) (s : Fin 2048) : (StableHlo.after (hostOps2 (F := Ideal)) V (Proc.devRef .tc main_v18) : Vec Ideal S8x2048 .f32) (ix2 b s) = (V (Proc.devRef .tc main_v5_1) : Vec Ideal S16384x1 .f32) (ix2 (tokOf b s) 0) := by
  after_reads_at
  exact congrArg (fun i => (V (Proc.devRef .tc main_v5_1) : Vec Ideal S16384x1 .f32) (ix2 i 0)) (Fin.ext (by simp [tokOf]; omega))
end Cert.KernelIdeal.Own
-- ==== Proof.Alg.lean ====
module
public import proofs.«01_k».proof.Proof.Spec
open Idealize.ShloMosaic Cert.Scale

/-!
The reference's token and head quantities, and their equality with the kernel's.
-/
namespace Cert.Spec
@[expose] public section

/-- The reference's normalised token. -/
noncomputable def refX (u g : Fin 8192 → EReal) (k : Fin 8192) : EReal :=
  u k * Ideal.rsqrt (Ideal.div (∑ k, u k * u k) (ofB 0x46000000#32) + ofB 0x358637BD#32) * g k
/-- The reference's largest magnitude of a token. -/
noncomputable def refMax (u g : Fin 8192 → EReal) : EReal :=
  Finset.univ.fold max (ofB 0xFF800000#32) fun k : Fin 8192 => mag (refX u g k)
/-- The reference's exponent for a largest magnitude `a`. -/
noncomputable def rexp (a : EReal) : EReal := refExp a (a * ofB 0x3B124925#32)
/-- The reference's code of `v` under the exponent of `a`. -/
noncomputable def rq (a v : EReal) : EReal := clip (v * pow2 (ofB 0x00000000#32 - rexp a))
/-- The reference's scale under the exponent of `a`. -/
noncomputable def rs (a : EReal) : EReal := pow2 (rexp a)

/-- A magnitude is at least zero. -/
theorem mag_nonneg (a : EReal) : 0 ≤ mag a := by
  unfold mag
  rcases le_total 0 a with h | h
  · exact le_max_of_le_left h
  · exact le_max_of_le_right (by simpa using EReal.neg_le_neg_iff.mpr h)

/-- A square is at least zero, at infinity too. -/
theorem sq_nonneg' (a : EReal) : 0 ≤ a * a := by
  rcases le_total 0 a with h | h
  · exact mul_nonneg h h
  · have h' : 0 ≤ -a := by simpa using EReal.neg_le_neg_iff.mpr h
    simpa using mul_nonneg h' h'

/-- The constant 8192. -/
theorem c_8192 : ofB 0x46000000#32 = ((8192 : ℝ) : EReal) := by
  rw [show (0x46000000#32 : BitVec 32) = pat 140 from rfl, ofB_pat 140 (by omega) (by omega)]; norm_num
/-- The constant 1/8192. -/
theorem c_inv8192 : ofB 0x39000000#32 = ((1 / 8192 : ℝ) : EReal) := by
  rw [show (0x39000000#32 : BitVec 32) = pat 114 from rfl, ofB_pat 114 (by omega) (by omega)]; norm_num
/-- The epsilon is at least zero. -/
theorem c_eps : (0 : EReal) ≤ ofB 0x358637BD#32 := by
  show _ ≤ Ideal.ieee 8 23 (0x358637BD#32 : BitVec 32)
  unfold Ideal.ieee
  have h1 : ((0x358637BD#32 : BitVec 32).extractLsb' 31 1 == 1#1) = false := by decide
  have h2 : ((0x358637BD#32 : BitVec 32).extractLsb' 23 8).toNat = 107 := by decide
  have h3 : ((0x358637BD#32 : BitVec 32).extractLsb' 0 23).toNat = 407485 := by decide
  simp only [show 8 + 23 = 31 from rfl, h1, h2, h3]
  norm_num
/-- The factor 1/448 is at least zero. -/
theorem c_448 : (0 : EReal) ≤ ofB 0x3B124925#32 := by
  show _ ≤ Ideal.ieee 8 23 (0x3B124925#32 : BitVec 32)
  unfold Ideal.ieee
  have h1 : ((0x3B124925#32 : BitVec 32).extractLsb' 31 1 == 1#1) = false := by decide
  have h2 : ((0x3B124925#32 : BitVec 32).extractLsb' 23 8).toNat = 118 := by decide
  have h3 : ((0x3B124925#32 : BitVec 32).extractLsb' 0 23).toNat = 1198373 := by decide
  simp only [show 8 + 23 = 31 from rfl, h1, h2, h3]
  norm_num

/-- Dividing by 8192 is multiplying by 1/8192. -/
theorem mean_eq (s : EReal) : Ideal.div s (ofB 0x46000000#32) = s * ofB 0x39000000#32 := by
  rw [c_8192, c_inv8192, Ideal.div_coe (by norm_num)]

/-- The reference's reciprocal root, with a division, is the kernel's, with a product. -/
theorem rms_eq (u : Fin 8192 → EReal) : Ideal.rsqrt (Ideal.div (∑ k, u k * u k) (ofB 0x46000000#32) + ofB 0x358637BD#32) = rms u := by
  rw [mean_eq]; rfl

/-- The reciprocal root of a number that is at least zero is at least zero. -/
theorem rsqrt_nonneg {a : EReal} (ha : 0 ≤ a) : 0 ≤ Ideal.rsqrt a := by
  induction a with
  | bot => exact absurd ha (by simp)
  | top => exact le_rfl
  | coe r =>
    have hr : 0 ≤ r := EReal.coe_nonneg.mp ha
    show 0 ≤ (if r < 0 then ⊥ else if r = 0 then ⊤ else (((Real.sqrt r)⁻¹ : ℝ) : EReal))
    rw [if_neg (not_lt.mpr hr)]
    split
    · exact le_top
    · exact EReal.coe_nonneg.mpr (by positivity)
/-- The reciprocal root of the mean square is at least zero. -/
theorem rms_nonneg (u : Fin 8192 → EReal) : 0 ≤ rms u := by
  refine rsqrt_nonneg (add_nonneg (mul_nonneg (Finset.sum_nonneg fun k _ => sq_nonneg' _) ?_) c_eps)
  rw [c_inv8192]
  exact EReal.coe_nonneg.mpr (by norm_num)
/-- A factor that is at least zero may be taken out of a maximum. -/
theorem max_mul' {r : EReal} (hr : 0 ≤ r) (x y : EReal) : max x y * r = max (x * r) (y * r) :=
  Monotone.map_max (f := fun x : EReal => x * r) fun _ _ h => mul_le_mul_of_nonneg_right h hr

/-- A factor that is at least zero may be taken out of a magnitude. -/
theorem mag_mul {r : EReal} (hr : 0 ≤ r) (a : EReal) : mag (a * r) = mag a * r := by
  unfold mag
  rw [← EReal.neg_mul]
  exact (max_mul' hr _ _).symm

/-- A maximum from zero of nonnegative numbers is the maximum from minus infinity. -/
theorem fold_bot {α : Type} [Fintype α] [Nonempty α] (f : α → EReal) (hf : ∀ k, 0 ≤ f k) :
    Finset.univ.fold max (ofB 0xFF800000#32) f = Finset.univ.fold max (ofB 0x00000000#32) f := by
  refine eq_of_forall_ge_iff fun m => ?_
  rw [Finset.fold_max_le, Finset.fold_max_le, c_bot, c_zero]
  refine ⟨fun h => ⟨?_, h.2⟩, fun h => ⟨bot_le, h.2⟩⟩
  obtain ⟨k⟩ := ‹Nonempty α›
  exact (hf k).trans (h.2 k (Finset.mem_univ k))

/-- The reference's normed value is token times gamma times the reciprocal root. -/
theorem refX_eq (u g : Fin 8192 → EReal) (k : Fin 8192) : refX u g k = u k * g k * rms u := by
  unfold refX
  rw [rms_eq, mul_right_comm]

/-- The largest magnitude of a normalised token is the kernel's times the reciprocal root. -/
theorem refMax_eq (u g : Fin 8192 → EReal) : refMax u g = rowMax u g * rms u := by
  unfold refMax rowMax
  rw [fold_bot _ fun k => mag_nonneg _]
  have h := Finset.fold_hom (op := (max : EReal → EReal → EReal)) (op' := (max : EReal → EReal → EReal)) (m := fun x => x * rms u)
    (fun x y => max_mul' (rms_nonneg u) x y)
    (s := Finset.univ) (b := ofB 0x00000000#32) (f := fun k : Fin 8192 => mag (u k * g k))
  refine Eq.trans ?_ h
  rw [c_zero, zero_mul]
  refine congrArg (fun f => Finset.univ.fold max (0 : EReal) f) (funext fun k => ?_)
  rw [refX_eq, mag_mul (rms_nonneg u)]

/-- The two exponent searches on a nonnegative largest magnitude. -/
theorem rs_eq (a : EReal) (ha : 0 ≤ a) : rs a = kScale (a * ofB 0x3B124925#32) :=
  (scales_eq a _ (mul_nonneg ha c_448) fun h => by rw [h, zero_mul]).1.symm
/-- The reference's code is the clip of the value times the kernel's inverse scale. -/
theorem rq_eq (a : EReal) (ha : 0 ≤ a) (v : EReal) : rq a v = clip (v * kInv (a * ofB 0x3B124925#32)) := by
  unfold rq rexp
  rw [(scales_eq a _ (mul_nonneg ha c_448) fun h => by rw [h, zero_mul]).2]

/-- The reference's largest magnitude is at least zero. -/
theorem refMax_nonneg (u g : Fin 8192 → EReal) : 0 ≤ refMax u g :=
  (mag_nonneg _).trans (((Finset.fold_max_le (f := fun k : Fin 8192 => mag (refX u g k)) (s := Finset.univ) (b := ofB 0xFF800000#32) (refMax u g)).mp le_rfl).2 0 (Finset.mem_univ _))

/-- A token's codes agree. -/
theorem row_code (u g : Fin 8192 → EReal) (k : Fin 8192) : rq (refMax u g) (refX u g k) = rowCode u g k := by
  rw [rq_eq _ (refMax_nonneg u g), refMax_eq, refX_eq, mul_assoc (u k * g k)]
  rfl
/-- A token's scale agrees. -/
theorem row_scale (u g : Fin 8192 → EReal) : rs (refMax u g) = rowScale u g := by
  rw [rs_eq _ (refMax_nonneg u g), refMax_eq]
  rfl
end
end Cert.Spec
-- ==== Proof.Meet.lean ====
module
public import proofs.«01_k».proof.Proof.Alg
public import Idealize.ShloMosaic.Lib.Pointwise
open Idealize.ShloMosaic Cert.Scale

/-!
The eight results in terms of the four arguments, as both programs compute them at the ideal floats.
-/
namespace Cert.Spec
@[expose] public section

/-- Column `d` of head `h`. -/
def hcol (h : Fin 18) (d : Fin 64) : Fin 1152 := ⟨h.val * 64 + d.val, by omega⟩

/-- Column `n` of token `(b, s)`'s projection: its codes times the weight's column, times the token's scale, times the column's. -/
noncomputable def pr (X : Fin 8 → Fin 2048 → Fin 8192 → EReal) (g : Fin 8192 → EReal) (w : Fin 8192 → Fin 1152 → EReal) (z : Fin 1152 → EReal)
    (b : Fin 8) (s : Fin 2048) (n : Fin 1152) : EReal :=
  (∑ k, rowCode (X b s) g k * w k n) * rowScale (X b s) g * z n

/-- The largest magnitude in head `h` of the projections `p`. -/
noncomputable def hm (p : Fin 8 → Fin 2048 → Fin 1152 → EReal) (h : Fin 18) : EReal :=
  ⨆ b, ⨆ s, ⨆ d, mag (p b s (hcol h d))

/-- It is below a bound exactly when every magnitude in the head is. -/
theorem hm_le (p : Fin 8 → Fin 2048 → Fin 1152 → EReal) (h : Fin 18) (m : EReal) : hm p h ≤ m ↔ ∀ b s d, mag (p b s (hcol h d)) ≤ m := by
  simp only [hm, iSup_le_iff]

/-- It is not negative. -/
theorem hm_nonneg (p : Fin 8 → Fin 2048 → Fin 1152 → EReal) (h : Fin 18) : 0 ≤ hm p h :=
  (mag_nonneg _).trans ((hm_le p h _).mp le_rfl 0 0 0)

/-- A head's code at a token and a column of the head. -/
noncomputable def hq (p : Fin 8 → Fin 2048 → Fin 1152 → EReal) (h : Fin 18) (b : Fin 8) (s : Fin 2048) (d : Fin 64) : EReal :=
  rq (hm p h) (p b s (hcol h d))

/-- A head's scale. -/
noncomputable def hs (p : Fin 8 → Fin 2048 → Fin 1152 → EReal) (h : Fin 18) : EReal := rs (hm p h)

section
variable (A0 : (⟨3, ![8, 2048, 8192]⟩ : Shape).Idx → EReal) (A1 : (⟨1, ![8192]⟩ : Shape).Idx → EReal) (A2 : (⟨2, ![8192, 1152]⟩ : Shape).Idx → EReal) (A3 : (⟨1, ![1152]⟩ : Shape).Idx → EReal)
/-- The projections from the four arguments. -/
noncomputable def prA : Fin 8 → Fin 2048 → Fin 1152 → EReal :=
  pr (fun b s k => A0 (ix3 b s k)) (fun k => A1 (ix1 k)) (fun k n => A2 (ix2 k n)) (fun n => A3 (ix1 n))
/-- The query codes. -/
noncomputable def T0 : (⟨4, ![8, 2048, 16, 64]⟩ : Shape).Idx → EReal := fun i => hq (prA A0 A1 A2 A3) ⟨(i 2).val, lt_trans (i 2).isLt (by decide)⟩ (i 0) (i 1) (i 3)
/-- The query heads' scales. -/
noncomputable def T1 : (⟨1, ![16]⟩ : Shape).Idx → EReal := fun i => hs (prA A0 A1 A2 A3) ⟨(i 0).val, lt_trans (i 0).isLt (by decide)⟩
/-- The codes of a head by itself: the key's, the value's. -/
noncomputable def T2 (h : Fin 18) : (⟨4, ![8, 2048, 1, 64]⟩ : Shape).Idx → EReal := fun i => hq (prA A0 A1 A2 A3) h (i 0) (i 1) (i 3)
/-- The scale of a head by itself. -/
noncomputable def T3 (h : Fin 18) : (⟨1, ![1]⟩ : Shape).Idx → EReal := fun _ => hs (prA A0 A1 A2 A3) h
/-- The activations' codes. -/
noncomputable def T6 : (⟨3, ![8, 2048, 8192]⟩ : Shape).Idx → EReal := fun i => rowCode (fun k => A0 (ix3 (i 0) (i 1) k)) (fun k => A1 (ix1 k)) (i 2)
/-- The tokens' scales. -/
noncomputable def T7 : (⟨2, ![8, 2048]⟩ : Shape).Idx → EReal := fun i => rowScale (fun k => A0 (ix3 (i 0) (i 1) k)) (fun k => A1 (ix1 k))
end

/-- An index of rank 4 from its coordinates. -/
theorem e4 {a b c d : ℕ} (i : (⟨4, ![a, b, c, d]⟩ : Shape).Idx) : ix4 (i 0) (i 1) (i 2) (i 3) = i := by funext k; fin_cases k <;> rfl
/-- The same, the third axis of extent one. -/
theorem e4' {a b d : ℕ} (i : (⟨4, ![a, b, 1, d]⟩ : Shape).Idx) : ix4 (i 0) (i 1) (0 : Fin 1) (i 3) = i := by
  funext k; fin_cases k
  · rfl
  · rfl
  · exact Subsingleton.elim (α := Fin 1) _ _
  · rfl
/-- Of rank 3. -/
theorem e3 {a b c : ℕ} (i : (⟨3, ![a, b, c]⟩ : Shape).Idx) : ix3 (i 0) (i 1) (i 2) = i := by funext k; fin_cases k <;> rfl
/-- Of rank 2. -/
theorem e2 {a b : ℕ} (i : (⟨2, ![a, b]⟩ : Shape).Idx) : ix2 (i 0) (i 1) = i := by funext k; fin_cases k <;> rfl
/-- Of rank 1. -/
theorem e1 {a : ℕ} (i : (⟨1, ![a]⟩ : Shape).Idx) : ix1 (i 0) = i := by funext k; fin_cases k <;> rfl
/-- Of rank 1 and extent one. -/
theorem e1' (i : (⟨1, ![1]⟩ : Shape).Idx) : ix1 (0 : Fin 1) = i := by funext k; fin_cases k; exact Subsingleton.elim (α := Fin 1) _ _

end
end Cert.Spec
-- ==== Proof.KI.Final.lean ====
module
public import proofs.«01_k».proof.Proof.KI.Host
public import proofs.«01_k».proof.Proof.KI.Frame
public import proofs.«01_k».proof.Proof.Meet
open Idealize.ShloMosaic Idealize.ShloMosaic.TcCoe Cert.KernelIdeal Cert.KernelIdeal.Gen
open Idealize.SL.Sem
open Cert.Spec Cert.Scale

/-!
The kernel's run: its eight results in terms of its arguments, its arguments unchanged.
-/
namespace Cert.KernelIdeal.Own
@[expose] public section
set_option maxRecDepth 16384

section
variable (A0 : Vec Ideal S8x2048x8192 .bf16) (A1 : Vec Ideal S8192 .bf16) (A2 : Vec Ideal S8192x1152 .fp8e4m3) (A3 : Vec Ideal S1152 .f32)
  (X0 : Vec Ideal S16384x8192 .bf16) (X1 : Vec Ideal S1x8192 .f32) (X2 : Vec Ideal S1152x8192 .fp8e4m3) (X3 : Vec Ideal S1152x1 .f32)
  (z0 : X0 = shapeCast S16384x8192 A0 shapeCasts_S8x2048x8192_S16384x8192) (z1 : ∀ k, X1 (ix2 0 k) = A1 (ix1 k))
  (z2 : ∀ n k, X2 (ix2 n k) = A2 (ix2 k n)) (z3 : ∀ n, X3 (ix2 n 0) = A3 (ix1 n))

/-- The flattened x at a token's row is x at its batch and position. -/
theorem cast_tok (b : Fin 8) (s : Fin 2048) (k : Fin 8192) : shapeCast S16384x8192 A0 shapeCasts_S8x2048x8192_S16384x8192 (ix2 (tokOf b s) k) = A0 (ix3 b s k) := by
  pointwise []
  refine congrArg A0 ?_
  funext a; apply Fin.ext; fin_cases a <;> simp [tokOf] <;> omega
include z0 in
/-- A token read where the kernel keeps it. -/
theorem tok_eq (b : Fin 8) (s : Fin 2048) : tok X0 (tokOf b s) = fun k => A0 (ix3 b s k) := by
  subst z0
  exact funext fun k => cast_tok A0 b s k
include z1 in
/-- Gamma as a row is gamma. -/
theorem rowG_eq : rowG X1 = fun k => A1 (ix1 k) := funext z1
include z0 z1 z2 z3 in
/-- A projection where the kernel keeps it. -/
theorem prj_eq (b : Fin 8) (s : Fin 2048) (n : Fin 1152) : prj X0 X1 X2 X3 n (tokOf b s) = prA A0 A1 A2 A3 b s n := by
  unfold prj prA pr
  rw [tok_eq A0 X0 z0, rowG_eq A1 X1 z1, z3]
  simp only [z2, mul_comm (A2 _)]
/-- The two namings of a head's column agree. -/
theorem hd_eq (h : Fin 18) (d : Fin 64) : hd h d = hcol h d := rfl
/-- Every token is one of a batch and a position. -/
theorem tok_surj (i : Fin 16384) : ∃ b s, tokOf b s = i :=
  ⟨⟨i.val / 2048, by omega⟩, ⟨i.val % 2048, by omega⟩, Fin.ext (by simp [tokOf]; omega)⟩
include z0 z1 z2 z3 in
/-- A head's largest magnitude as the kernel finds it. -/
theorem hmax_eq (h : Fin 18) : hmax X0 X1 X2 X3 16384 h = hm (prA A0 A1 A2 A3) h := by
  refine eq_of_forall_ge_iff fun m => ?_
  rw [hmax_le _ _ _ _ _ (by decide), hm_le]
  constructor
  · intro hh b s d
    have := hh.2 (tokOf b s) (tokOf b s).isLt d
    rwa [prj_eq A0 A1 A2 A3 X0 X1 X2 X3 z0 z1 z2 z3] at this
  · intro hh
    refine ⟨c_zero.trans_le ((mag_nonneg _).trans (hh 0 0 0)), fun i _ d => ?_⟩
    obtain ⟨b, s, rfl⟩ := tok_surj i
    rw [prj_eq A0 A1 A2 A3 X0 X1 X2 X3 z0 z1 z2 z3]
    exact hh b s d
/-- The head of a head's column is that head. -/
theorem headOf_hcol (h : Fin 18) (d : Fin 64) : headOf (hcol h d) = h := Fin.ext (by simp [headOf, hcol]; omega)
include z0 z1 z2 z3 in
/-- A head's codes. -/
theorem code_eq (h : Fin 18) (b : Fin 8) (s : Fin 2048) (d : Fin 64) :
    AQ (AY X0 X1 X2 X3) (AM X0 X1 X2 X3) (ix3 b (hcol h d) s) = hq (prA A0 A1 A2 A3) h b s d := by
  have e : AQ (AY X0 X1 X2 X3) (AM X0 X1 X2 X3) (ix3 b (hcol h d) s)
      = clip (prj X0 X1 X2 X3 (hcol h d) (tokOf b s) * kInv (hmax X0 X1 X2 X3 16384 (headOf (hcol h d)) * ofB 0x3B124925#32)) := rfl
  rw [e, headOf_hcol, prj_eq A0 A1 A2 A3 X0 X1 X2 X3 z0 z1 z2 z3, hmax_eq A0 A1 A2 A3 X0 X1 X2 X3 z0 z1 z2 z3, hq, rq_eq _ (hm_nonneg _ _)]
include z0 z1 z2 z3 in
/-- A head's scale. -/
theorem scale_eq (h : Fin 18) : AQS (AM X0 X1 X2 X3) (ix3 h 0 0) = hs (prA A0 A1 A2 A3) h := by
  have e : AQS (AM X0 X1 X2 X3) (ix3 h 0 0) = kScale (hmax X0 X1 X2 X3 16384 h * ofB 0x3B124925#32) := rfl
  rw [e, hmax_eq A0 A1 A2 A3 X0 X1 X2 X3 z0 z1 z2 z3, hs, rs_eq _ (hm_nonneg _ _)]
end

section
variable (m : (ℓ : Loc nD τ sig) → Buf (Elt Ideal) ℓ) (ρ : Dev nD → PrngReg) (c : Dev nD)
/-- After the first call: the codes. -/
theorem w20 : W2 m ρ c (Proc.devRef .tc main_v5_0) = AC (V1 m ρ c main_v0) (V1 m ρ c main_v2) := (W2_arr m ρ c 4).trans (arr4 (V1 m ρ) c)
/-- After the first call: the scales. -/
theorem w21 : W2 m ρ c (Proc.devRef .tc main_v5_1) = AS (V1 m ρ c main_v0) (V1 m ρ c main_v2) := (W2_arr m ρ c 5).trans (arr5 (V1 m ρ) c)
/-- After the first call: the projection. -/
theorem w22 : W2 m ρ c (Proc.devRef .tc main_v5_2) = AY (V1 m ρ c main_v0) (V1 m ρ c main_v2) (V1 m ρ c main_v3) (V1 m ρ c main_v4) := (W2_arr m ρ c 6).trans (arr6 (V1 m ρ) c)
/-- After the first call: the head maxima. -/
theorem w23 : W2 m ρ c (Proc.devRef .tc main_v5_3) = AM (V1 m ρ c main_v0) (V1 m ρ c main_v2) (V1 m ρ c main_v3) (V1 m ρ c main_v4) := (W2_arr m ρ c 7).trans (arr7 (V1 m ρ) c)
/-- After the second call: the head codes. -/
theorem w30 : W3 m ρ c (Proc.devRef .tc main_v6_0) = AQ (W2 m ρ c (Proc.devRef .tc main_v5_2)) (W2 m ρ c (Proc.devRef .tc main_v5_3)) := (W3_arr m ρ c 2).trans (arrB2 (V2 m ρ) c)
/-- After the second call: the head scales. -/
theorem w31 : W3 m ρ c (Proc.devRef .tc main_v6_1) = AQS (W2 m ρ c (Proc.devRef .tc main_v5_3)) := (W3_arr m ρ c 3).trans (arrB3 (V2 m ρ) c)
/-- The second call leaves the token codes. -/
theorem w32 : W3 m ρ c (Proc.devRef .tc main_v5_0) = W2 m ρ c (Proc.devRef .tc main_v5_0) := W3_of_ne m ρ c main_v5_0 (by decide)
/-- The second call leaves the token scales. -/
theorem w33 : W3 m ρ c (Proc.devRef .tc main_v5_1) = W2 m ρ c (Proc.devRef .tc main_v5_1) := W3_of_ne m ρ c main_v5_1 (by decide)
/-- A head's codes after the run. -/
theorem codes (h : Fin 18) (b : Fin 8) (s : Fin 2048) (d : Fin 64) :
    (W3 m ρ c (Proc.devRef .tc main_v6_0) : Vec Ideal S8x1152x2048 .fp8e4m3) (ix3 b (hcol h d) s) = hq (prA (m ((c : Thread nD τ).loc main_arg0)) (m ((c : Thread nD τ).loc main_arg1)) (m ((c : Thread nD τ).loc main_arg2)) (m ((c : Thread nD τ).loc main_arg3))) h b s d := by
  rw [w30, w22, w23]
  exact code_eq _ _ _ _ _ _ _ _ (h0 (W0 m ρ c)) (h2 (W0 m ρ c)) (h3 (W0 m ρ c)) (h4 (W0 m ρ c)) h b s d
/-- A head's scale after the run. -/
theorem scales (h : Fin 18) :
    (W3 m ρ c (Proc.devRef .tc main_v6_1) : Vec Ideal S18x1x128 .f32) (ix3 h 0 0) = hs (prA (m ((c : Thread nD τ).loc main_arg0)) (m ((c : Thread nD τ).loc main_arg1)) (m ((c : Thread nD τ).loc main_arg2)) (m ((c : Thread nD τ).loc main_arg3))) h := by
  rw [w31, w23]
  exact scale_eq _ _ _ _ _ _ _ _ (h0 (W0 m ρ c)) (h2 (W0 m ρ c)) (h3 (W0 m ρ c)) (h4 (W0 m ρ c)) h
/-- A token's codes after the run. -/
theorem xcodes (b : Fin 8) (s : Fin 2048) (k : Fin 8192) :
    (W3 m ρ c (Proc.devRef .tc main_v5_0) : Vec Ideal S16384x8192 .fp8e4m3) (ix2 (tokOf b s) k) = T6 (m ((c : Thread nD τ).loc main_arg0)) (m ((c : Thread nD τ).loc main_arg1)) (ix3 b s k) := by
  rw [w32, w20]
  have e : AC (V1 m ρ c main_v0) (V1 m ρ c main_v2) (ix2 (tokOf b s) k) = rowCode (tok (V1 m ρ c main_v0) (tokOf b s)) (rowG (V1 m ρ c main_v2)) k := rfl
  rw [e, tok_eq _ _ (h0 (W0 m ρ c)), rowG_eq _ _ (h2 (W0 m ρ c))]
  rfl
/-- A token's scale after the run. -/
theorem xscale (b : Fin 8) (s : Fin 2048) :
    (W3 m ρ c (Proc.devRef .tc main_v5_1) : Vec Ideal S16384x1 .f32) (ix2 (tokOf b s) 0) = T7 (m ((c : Thread nD τ).loc main_arg0)) (m ((c : Thread nD τ).loc main_arg1)) (ix2 b s) := by
  rw [w33, w21]
  have e : AS (V1 m ρ c main_v0) (V1 m ρ c main_v2) (ix2 (tokOf b s) 0) = rowScale (tok (V1 m ρ c main_v0) (tokOf b s)) (rowG (V1 m ρ c main_v2)) := rfl
  rw [e, tok_eq _ _ (h0 (W0 m ρ c)), rowG_eq _ _ (h2 (W0 m ρ c))]
  rfl
/-- Result 1 after the run. -/
theorem v11 : (W4 m ρ c (Proc.devRef .tc main_v11) : Vec Ideal S8x2048x16x64 .fp8e4m3) = T0 (m ((c : Thread nD τ).loc main_arg0)) (m ((c : Thread nD τ).loc main_arg1)) (m ((c : Thread nD τ).loc main_arg2)) (m ((c : Thread nD τ).loc main_arg3)) := by
  funext j
  generalize hG : (W4 m ρ c (Proc.devRef .tc main_v11) : Vec Ideal S8x2048x16x64 .fp8e4m3) = G
  refine (congrArg G (e4 j).symm).trans ?_
  subst hG
  exact (h11 (W3 m ρ c) (j 0) (j 1) (j 2) (j 3)).trans (codes m ρ c ⟨(j 2).val, lt_trans (j 2).isLt (by decide)⟩ (j 0) (j 1) (j 3))
/-- Result 2 after the run. -/
theorem v12 : (W4 m ρ c (Proc.devRef .tc main_v12) : Vec Ideal S16 .f32) = T1 (m ((c : Thread nD τ).loc main_arg0)) (m ((c : Thread nD τ).loc main_arg1)) (m ((c : Thread nD τ).loc main_arg2)) (m ((c : Thread nD τ).loc main_arg3)) := by
  funext j
  generalize hG : (W4 m ρ c (Proc.devRef .tc main_v12) : Vec Ideal S16 .f32) = G
  refine (congrArg G (e1 j).symm).trans ?_
  subst hG
  exact (h12 (W3 m ρ c) (j 0)).trans (scales m ρ c ⟨(j 0).val, lt_trans (j 0).isLt (by decide)⟩)
/-- Result 3 after the run. -/
theorem v13 : (W4 m ρ c (Proc.devRef .tc main_v13) : Vec Ideal S8x2048x1x64 .fp8e4m3) = T2 (m ((c : Thread nD τ).loc main_arg0)) (m ((c : Thread nD τ).loc main_arg1)) (m ((c : Thread nD τ).loc main_arg2)) (m ((c : Thread nD τ).loc main_arg3)) 16 := by
  funext j
  generalize hG : (W4 m ρ c (Proc.devRef .tc main_v13) : Vec Ideal S8x2048x1x64 .fp8e4m3) = G
  refine (congrArg G (e4' j).symm).trans ?_
  subst hG
  exact (h13 (W3 m ρ c) (j 0) (j 1) (j 3)).trans (codes m ρ c 16 (j 0) (j 1) (j 3))
/-- Result 4 after the run. -/
theorem v14 : (W4 m ρ c (Proc.devRef .tc main_v14) : Vec Ideal S1 .f32) = T3 (m ((c : Thread nD τ).loc main_arg0)) (m ((c : Thread nD τ).loc main_arg1)) (m ((c : Thread nD τ).loc main_arg2)) (m ((c : Thread nD τ).loc main_arg3)) 16 := by
  funext j
  generalize hG : (W4 m ρ c (Proc.devRef .tc main_v14) : Vec Ideal S1 .f32) = G
  refine (congrArg G (e1' j).symm).trans ?_
  subst hG
  exact (h14 (W3 m ρ c)).trans (scales m ρ c 16)
/-- Result 5 after the run. -/
theorem v15 : (W4 m ρ c (Proc.devRef .tc main_v15) : Vec Ideal S8x2048x1x64 .fp8e4m3) = T2 (m ((c : Thread nD τ).loc main_arg0)) (m ((c : Thread nD τ).loc main_arg1)) (m ((c : Thread nD τ).loc main_arg2)) (m ((c : Thread nD τ).loc main_arg3)) 17 := by
  funext j
  generalize hG : (W4 m ρ c (Proc.devRef .tc main_v15) : Vec Ideal S8x2048x1x64 .fp8e4m3) = G
  refine (congrArg G (e4' j).symm).trans ?_
  subst hG
  exact (h15 (W3 m ρ c) (j 0) (j 1) (j 3)).trans (codes m ρ c 17 (j 0) (j 1) (j 3))
/-- Result 6 after the run. -/
theorem v16 : (W4 m ρ c (Proc.devRef .tc main_v16) : Vec Ideal S1 .f32) = T3 (m ((c : Thread nD τ).loc main_arg0)) (m ((c : Thread nD τ).loc main_arg1)) (m ((c : Thread nD τ).loc main_arg2)) (m ((c : Thread nD τ).loc main_arg3)) 17 := by
  funext j
  generalize hG : (W4 m ρ c (Proc.devRef .tc main_v16) : Vec Ideal S1 .f32) = G
  refine (congrArg G (e1' j).symm).trans ?_
  subst hG
  exact (h16 (W3 m ρ c)).trans (scales m ρ c 17)
/-- Result 7 after the run. -/
theorem v17 : (W4 m ρ c (Proc.devRef .tc main_v17) : Vec Ideal S8x2048x8192 .fp8e4m3) = T6 (m ((c : Thread nD τ).loc main_arg0)) (m ((c : Thread nD τ).loc main_arg1)) := by
  funext j
  generalize hG : (W4 m ρ c (Proc.devRef .tc main_v17) : Vec Ideal S8x2048x8192 .fp8e4m3) = G
  refine (congrArg G (e3 j).symm).trans ?_
  subst hG
  exact (h17 (W3 m ρ c) (j 0) (j 1) (j 2)).trans (xcodes m ρ c (j 0) (j 1) (j 2))
/-- Result 8 after the run. -/
theorem v18 : (W4 m ρ c (Proc.devRef .tc main_v18) : Vec Ideal S8x2048 .f32) = T7 (m ((c : Thread nD τ).loc main_arg0)) (m ((c : Thread nD τ).loc main_arg1)) := by
  funext j
  generalize hG : (W4 m ρ c (Proc.devRef .tc main_v18) : Vec Ideal S8x2048 .f32) = G
  refine (congrArg G (e2 j).symm).trans ?_
  subst hG
  exact (h18 (W3 m ρ c) (j 0) (j 1)).trans (xscale m ρ c (j 0) (j 1))
end
/-- The run: the results at their values, the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = T0 (m ((c : Thread nD τ).loc main_arg0)) (m ((c : Thread nD τ).loc main_arg1)) (m ((c : Thread nD τ).loc main_arg2)) (m ((c : Thread nD τ).loc main_arg3))
      ∧ r.2.mem ((c.tc : Thread nD τ).loc main_v12) = T1 (m ((c : Thread nD τ).loc main_arg0)) (m ((c : Thread nD τ).loc main_arg1)) (m ((c : Thread nD τ).loc main_arg2)) (m ((c : Thread nD τ).loc main_arg3))
      ∧ r.2.mem ((c.tc : Thread nD τ).loc main_v13) = T2 (m ((c : Thread nD τ).loc main_arg0)) (m ((c : Thread nD τ).loc main_arg1)) (m ((c : Thread nD τ).loc main_arg2)) (m ((c : Thread nD τ).loc main_arg3)) 16
      ∧ r.2.mem ((c.tc : Thread nD τ).loc main_v14) = T3 (m ((c : Thread nD τ).loc main_arg0)) (m ((c : Thread nD τ).loc main_arg1)) (m ((c : Thread nD τ).loc main_arg2)) (m ((c : Thread nD τ).loc main_arg3)) 16
      ∧ r.2.mem ((c.tc : Thread nD τ).loc main_v15) = T2 (m ((c : Thread nD τ).loc main_arg0)) (m ((c : Thread nD τ).loc main_arg1)) (m ((c : Thread nD τ).loc main_arg2)) (m ((c : Thread nD τ).loc main_arg3)) 17
      ∧ r.2.mem ((c.tc : Thread nD τ).loc main_v16) = T3 (m ((c : Thread nD τ).loc main_arg0)) (m ((c : Thread nD τ).loc main_arg1)) (m ((c : Thread nD τ).loc main_arg2)) (m ((c : Thread nD τ).loc main_arg3)) 17
      ∧ r.2.mem ((c.tc : Thread nD τ).loc main_v17) = T6 (m ((c : Thread nD τ).loc main_arg0)) (m ((c : Thread nD τ).loc main_arg1))
      ∧ r.2.mem ((c.tc : Thread nD τ).loc main_v18) = T7 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨
      (h.1 c _ (mem_uc main_v11 (by decide))).trans (v11 m ρ c),
      (h.1 c _ (mem_uc main_v12 (by decide))).trans (v12 m ρ c),
      (h.1 c _ (mem_uc main_v13 (by decide))).trans (v13 m ρ c),
      (h.1 c _ (mem_uc main_v14 (by decide))).trans (v14 m ρ c),
      (h.1 c _ (mem_uc main_v15 (by decide))).trans (v15 m ρ c),
      (h.1 c _ (mem_uc main_v16 (by decide))).trans (v16 m ρ c),
      (h.1 c _ (mem_uc main_v17 (by decide))).trans (v17 m ρ c),
      (h.1 c _ (mem_uc main_v18 (by decide))).trans (v18 m ρ c),
      (h.1 c _ (mem_uc main_arg0 (by decide))).trans (W4_main_arg0 m ρ c),
      (h.1 c _ (mem_uc main_arg1 (by decide))).trans (W4_main_arg1 m ρ c),
      (h.1 c _ (mem_uc main_arg2 (by decide))).trans (W4_main_arg2 m ρ c),
      (h.1 c _ (mem_uc main_arg3 (by decide))).trans (W4_main_arg3 m ρ c)⟩) (run_all m ρ)

end
end Cert.KernelIdeal.Own
-- ==== Proof.RI.Row.lean ====
module
public import proofs.«01_k».proof.Proof.Alg
public import proofs.«01_k».proof.Proof.Gen.ReferenceIdeal.Frame
public import Idealize.ShloMosaic.Lib.Pointwise
open Idealize.ShloMosaic Idealize.ShloMosaic.TcCoe Cert.ReferenceIdeal Cert.ReferenceIdeal.Gen
open Cert.Spec Cert.Scale

/-!
The reference's values at an index: the normalised tokens, their codes and scales, and the projection.
-/
namespace Cert.ReferenceIdeal.Own
@[expose] public section
set_option maxRecDepth 16384

section
variable (x0 : Vec Ideal S8x2048x8192 .bf16) (x1 : Vec Ideal S8192 .bf16)
/-- Token `(b, s)`. -/
noncomputable def tk (b : Fin 8) (s : Fin 2048) : Fin 8192 → EReal := fun k => x0 (ix3 b s k)
/-- The weights of the normalisation. -/
noncomputable def gm : Fin 8192 → EReal := fun k => x1 (ix1 k)

/-- The printed normed token. -/
theorem pay3_apply (b : Fin 8) (s : Fin 2048) (k : Fin 8192) : k0_pay3 (F := Ideal) x0 x1 (ix3 b s k) = refX (tk x0 b s) (gm x1) k := by
  pointwise [k0_pay3]
  rfl
/-- The printed maximum of a token. -/
theorem pay4_apply (b : Fin 8) (s : Fin 2048) : k0_pay4 (F := Ideal) x0 x1 (ix3 b s 0) = refMax (tk x0 b s) (gm x1) := by
  pointwise [k0_pay4]
  simp only [pay3_apply]
  rfl
/-- The exponent is zero where the maximum is. -/
theorem pay7_eq (A B Z : FVec Ideal S8x2048x1 .f32) :
    k0_pay7 (F := Ideal) A B Z = fun j => Scalar.select (cmpE .oeq (A j) (Z j)) (ofB 0x00000000#32) (B j) := by sl_kernel_rfl
/-- The printed zeros. -/
theorem pay6_eq : k0_pay6 (F := Ideal) = fun _ => ofB 0x00000000#32 := by sl_kernel_rfl
/-- The bound broadcast along the candidates. -/
noncomputable def bnd (A : FVec Ideal S8x2048x1 .f32) : FVec Ideal S8x2048x1x254 .f32 :=
  broadcastTo S8x2048x1x254 (shapeCast S8x2048x1x1 A shapeCasts_S8x2048x1_S8x2048x1x1) broadcasts_S8x2048x1x1_S8x2048x1x254
/-- The bound, broadcast over the candidates, of a token. -/
theorem bnd_apply (A : FVec Ideal S8x2048x1 .f32) (b : Fin 8) (s : Fin 2048) (j : Fin 254) : bnd A (ix4 b s 0 j) = A (ix3 b s 0) := by
  pointwise [bnd]
/-- The lanes' numbers. -/
noncomputable def lan : IVec S8x2048x1x254 32 := iota .tc S8x2048x1x254 32 [3] iota_S8x2048x1x254_d3_w32
/-- The number of a candidate, of a token. -/
theorem lan_apply (b : Fin 8) (s : Fin 2048) (j : Fin 254) : lan (ix4 b s 0 j) = BitVec.ofNat 32 j.val := by
  pointwise [lan]
/-- The candidates of every token. -/
noncomputable def cnd (L : IVec S8x2048x1x254 32) (B : FVec Ideal S8x2048x1x254 .f32) : FVec Ideal S8x2048x1x254 .f32 := fun i =>
  Scalar.select (cmpE .ole (FloatOps.exp2 (F := Ideal) (φ := .f32) (FloatOps.subf (F := Ideal) (φ := .f32) (FloatOps.sitofp (F := Ideal) .f32 (L i)) (ofB 0x42FC0000#32))) (B i))
    (FloatOps.addf (F := Ideal) (φ := .f32) (FloatOps.subf (F := Ideal) (φ := .f32) (FloatOps.sitofp (F := Ideal) .f32 (L i)) (ofB 0x42FC0000#32)) (ofB 0x3F800000#32)) (ofB 0xFF800000#32)
/-- One candidate, of a token: its exponent if its power is at most the bound. -/
theorem cnd_apply (A : FVec Ideal S8x2048x1 .f32) (b : Fin 8) (s : Fin 2048) (j : Fin 254) : cnd lan (bnd A) (ix4 b s 0 j) = cand (A (ix3 b s 0)) j.val := by
  unfold cnd
  rw [lan_apply, bnd_apply]
  rfl
/-- The largest candidate. -/
noncomputable def cmx (C : FVec Ideal S8x2048x1x254 .f32) : FVec Ideal S8x2048x1 .f32 :=
  multiReduction .maximumf [3] S8x2048x1 C 0xFF800000#32 reduces_S8x2048x1x254_S8x2048x1 (.inl rfl) rfl
/-- The maximum over the candidates, of a token. -/
theorem cmx_apply (C : FVec Ideal S8x2048x1x254 .f32) (b : Fin 8) (s : Fin 2048) :
    cmx C (ix3 b s 0) = Finset.univ.fold max (ofB 0xFF800000#32) fun j : Fin 254 => C (ix4 b s 0 j) := by
  pointwise [cmx]
  try rfl
/-- The largest candidate, of a token. -/
theorem cmx_cnd (A : FVec Ideal S8x2048x1 .f32) (b : Fin 8) (s : Fin 2048) : cmx (cnd lan (bnd A)) (ix3 b s 0) = candMax (A (ix3 b s 0)) := by
  rw [cmx_apply]
  simp only [cnd_apply]
  rfl
/-- The printed operations of the candidates, of a token. -/
theorem cnd_eq (L : IVec S8x2048x1x254 32) (B : FVec Ideal S8x2048x1x254 .f32) :
    select (cmpf .ole (exp2 (subf (sitofp .f32 L) (broadcast S8x2048x1x254 (Scalar.ofBits (F := Ideal) .f32 0x42FC0000#32)))) B)
      (addf (subf (sitofp .f32 L) (broadcast S8x2048x1x254 (Scalar.ofBits (F := Ideal) .f32 0x42FC0000#32))) (broadcast S8x2048x1x254 (Scalar.ofBits (F := Ideal) .f32 0x3F800000#32)))
      (broadcast S8x2048x1x254 (Scalar.ofBits (F := Ideal) .f32 0xFF800000#32)) = cnd L B := by sl_kernel_rfl
/-- The argument of the scale. -/
noncomputable def arg (A : FVec Ideal S8x2048x1 .f32) : FVec Ideal S8x2048x1 .f32 := mulf A (broadcast S8x2048x1 (Scalar.ofBits (F := Ideal) .f32 0x3B124925#32))
/-- The argument of the scale is the maximum over 448, of a token. -/
theorem arg_apply (A : FVec Ideal S8x2048x1 .f32) (j : S8x2048x1.Idx) : arg A j = A j * ofB 0x3B124925#32 := by sl_kernel_rfl
/-- The exponent unless the bound is small or infinite. -/
noncomputable def exq (M R : FVec Ideal S8x2048x1 .f32) : FVec Ideal S8x2048x1 .f32 :=
  select (ori (cmpf .olt M (broadcast S8x2048x1 (Scalar.ofBits (F := Ideal) .f32 0x00800000#32))) (cmpf .oeq M (broadcast S8x2048x1 (Scalar.ofBits (F := Ideal) .f32 0x7F800000#32))))
    (broadcast S8x2048x1 (Scalar.ofBits (F := Ideal) .f32 0x00000000#32)) R
/-- The exponent with its exceptions, of a token. -/
theorem exq_apply (M R : FVec Ideal S8x2048x1 .f32) (j : S8x2048x1.Idx) :
    exq M R j = Scalar.select (IntOp.ori (cmpE .olt (M j) (ofB 0x00800000#32)) (cmpE .oeq (M j) (ofB 0x7F800000#32))) (ofB 0x00000000#32) (R j) := by sl_kernel_rfl
/-- The printed exponents of the tokens. -/
theorem pay5_eq : k0_pay5 (F := Ideal) x0 x1 = exq (arg (k0_pay4 (F := Ideal) x0 x1)) (cmx (cnd lan (bnd (arg (k0_pay4 (F := Ideal) x0 x1))))) := by
  rw [← cnd_eq]
  unfold k0_pay5 exq arg cmx bnd lan
  generalize k0_pay4 (F := Ideal) x0 x1 = A
  rfl
/-- The exponent of a token is that of the specification. -/
theorem pay5_apply (b : Fin 8) (s : Fin 2048) : k0_pay7 (F := Ideal) (k0_pay4 x0 x1) (k0_pay5 x0 x1) k0_pay6 (ix3 b s 0) = rexp (refMax (tk x0 b s) (gm x1)) := by
  rw [pay7_eq, pay5_eq, pay6_eq]
  dsimp only
  rw [exq_apply, cmx_cnd, arg_apply, pay4_apply]
  generalize refMax (tk x0 b s) (gm x1) = a
  unfold rexp refExp
  rw [c_zero]
/-- A token's factor broadcast over its columns. -/
noncomputable def bcx (P : FVec Ideal S8x2048x1 .f32) : FVec Ideal S8x2048x8192 .f32 := broadcastTo S8x2048x8192 P broadcasts_S8x2048x1_S8x2048x8192
/-- A value, broadcast over the codes, of a token. -/
theorem bcx_apply (P : FVec Ideal S8x2048x1 .f32) (b : Fin 8) (s : Fin 2048) (k : Fin 8192) : bcx P (ix3 b s k) = P (ix3 b s 0) := by
  pointwise [bcx]
/-- The printed codes of the tokens. -/
theorem pay8_eq (v : FVec Ideal S8x2048x8192 .f32) (A B Z : FVec Ideal S8x2048x1 .f32) :
    k0_pay8 (F := Ideal) v A B Z = fun i => clip (v i * bcx (fun j => pow2 (ofB 0x00000000#32 - k0_pay7 (F := Ideal) A B Z j)) i) := by
  unfold k0_pay8
  generalize k0_pay7 (F := Ideal) A B Z = E
  sl_kernel_rfl
/-- The printed scales of the tokens. -/
theorem pay9_eq (A B Z : FVec Ideal S8x2048x1 .f32) :
    k0_pay9 (F := Ideal) A B Z = shapeCast S8x2048 (fun j => pow2 (k0_pay7 (F := Ideal) A B Z j)) shapeCasts_S8x2048x1_S8x2048 := by
  unfold k0_pay9
  generalize k0_pay7 (F := Ideal) A B Z = E
  sl_kernel_rfl
/-- Dropping the unit axis of the token scales. -/
theorem cast2_apply (P : FVec Ideal S8x2048x1 .f32) (b : Fin 8) (s : Fin 2048) : shapeCast S8x2048 P shapeCasts_S8x2048x1_S8x2048 (ix2 b s) = P (ix3 b s 0) := by
  pointwise []
/-- A token code is the one that the kernel computes. -/
theorem pay8_apply (b : Fin 8) (s : Fin 2048) (k : Fin 8192) : k0_pay8 (F := Ideal) (k0_pay3 x0 x1) (k0_pay4 x0 x1) (k0_pay5 x0 x1) k0_pay6 (ix3 b s k) = rowCode (tk x0 b s) (gm x1) k := by
  rw [pay8_eq, ← row_code]
  dsimp only
  rw [bcx_apply, pay5_apply, pay3_apply, rq]
/-- A token scale is the one that the kernel computes. -/
theorem pay9_apply (b : Fin 8) (s : Fin 2048) : k0_pay9 (F := Ideal) (k0_pay4 x0 x1) (k0_pay5 x0 x1) k0_pay6 (ix2 b s) = rowScale (tk x0 b s) (gm x1) := by
  rw [pay9_eq, ← row_scale, cast2_apply, pay5_apply, rs]
variable (x2 : Vec Ideal S8192x1152 .fp8e4m3) (x3 : Vec Ideal S1152 .f32)
/-- Column `n` of token `(b, s)`'s projection. -/
noncomputable def rpr (b : Fin 8) (s : Fin 2048) (n : Fin 1152) : EReal :=
  (∑ k : Fin 8192, rowCode (tk x0 b s) (gm x1) k * x2 (ix2 k n)) * rowScale (tk x0 b s) (gm x1) * x3 (ix1 n)
/-- The projected values of the reference. -/
theorem pay10_apply (b : Fin 8) (s : Fin 2048) (n : Fin 1152) :
    k0_pay10 (F := Ideal) (k0_pay3 x0 x1) (k0_pay4 x0 x1) (k0_pay5 x0 x1) k0_pay6 x2 x3 (ix3 b s n) = rpr x0 x1 x2 x3 b s n := by
  pointwise [k0_pay10]
  simp only [pay8_apply, pay9_apply]
  rfl
/-- The query columns of the projection. -/
theorem pay11_apply (b : Fin 8) (s : Fin 2048) (h : Fin 16) (d : Fin 64) :
    k0_pay11 (F := Ideal) (k0_pay3 x0 x1) (k0_pay4 x0 x1) (k0_pay5 x0 x1) k0_pay6 x2 x3 (ix4 b s h d) = rpr x0 x1 x2 x3 b s ⟨h.val * 64 + d.val, by omega⟩ := by
  pointwise [k0_pay11]
  rw [pay10_apply]
end
end
end Cert.ReferenceIdeal.Own
-- ==== Proof.RI.HeadQ.lean ====
module
public import proofs.«01_k».proof.Proof.Alg
public import proofs.«01_k».proof.Proof.Gen.ReferenceIdeal.Frame
public import Idealize.ShloMosaic.Lib.Pointwise
open Idealize.ShloMosaic Idealize.ShloMosaic.TcCoe Cert.ReferenceIdeal Cert.ReferenceIdeal.Gen
open Cert.Spec Cert.Scale

/-!
The reference's values at an index: a head's codes and scale from its projection.
-/
namespace Cert.ReferenceIdeal.Own
@[expose] public section
set_option maxRecDepth 16384

/-- An index of rank four from its parts. -/
theorem eta4 {a b c d : ℕ} (i : (⟨4, ![a, b, c, d]⟩ : Shape).Idx) : ix4 (i 0) (i 1) (i 2) (i 3) = i := by
  funext k; fin_cases k <;> rfl

/-! ### 16 heads at a time -/
section
/-- The bound broadcast along the candidates. -/
noncomputable def bndQ (A : FVec Ideal S1x1x16x1 .f32) : FVec Ideal S1x1x16x1x254 .f32 :=
  broadcastTo S1x1x16x1x254 (shapeCast S1x1x16x1x1 A shapeCasts_S1x1x16x1_S1x1x16x1x1) broadcasts_S1x1x16x1x1_S1x1x16x1x254
/-- The bound, broadcast over the candidates, of a query head. -/
theorem bndQ_apply (A : FVec Ideal S1x1x16x1 .f32) (h : Fin 16) (j : Fin 254) : bndQ A (ix5 0 0 h 0 j) = A (ix4 0 0 h 0) := by
  pointwise [bndQ]
/-- The lanes' numbers. -/
noncomputable def lanQ : IVec S1x1x16x1x254 32 := iota .tc S1x1x16x1x254 32 [4] iota_S1x1x16x1x254_d4_w32
/-- The number of a candidate, of a query head. -/
theorem lanQ_apply (h : Fin 16) (j : Fin 254) : lanQ (ix5 0 0 h 0 j) = BitVec.ofNat 32 j.val := by
  pointwise [lanQ]
/-- The candidates. -/
noncomputable def cndQ (L : IVec S1x1x16x1x254 32) (B : FVec Ideal S1x1x16x1x254 .f32) : FVec Ideal S1x1x16x1x254 .f32 := fun i =>
  Scalar.select (cmpE .ole (FloatOps.exp2 (F := Ideal) (φ := .f32) (FloatOps.subf (F := Ideal) (φ := .f32) (FloatOps.sitofp (F := Ideal) .f32 (L i)) (ofB 0x42FC0000#32))) (B i))
    (FloatOps.addf (F := Ideal) (φ := .f32) (FloatOps.subf (F := Ideal) (φ := .f32) (FloatOps.sitofp (F := Ideal) .f32 (L i)) (ofB 0x42FC0000#32)) (ofB 0x3F800000#32)) (ofB 0xFF800000#32)
/-- One candidate, of a query head: its exponent if its power is at most the bound. -/
theorem cndQ_apply (A : FVec Ideal S1x1x16x1 .f32) (h : Fin 16) (j : Fin 254) : cndQ lanQ (bndQ A) (ix5 0 0 h 0 j) = cand (A (ix4 0 0 h 0)) j.val := by
  unfold cndQ
  rw [lanQ_apply, bndQ_apply]
  rfl
/-- The printed operations of the candidates, of a query head. -/
theorem cndQ_eq (L : IVec S1x1x16x1x254 32) (B : FVec Ideal S1x1x16x1x254 .f32) :
    select (cmpf .ole (exp2 (subf (sitofp .f32 L) (broadcast S1x1x16x1x254 (Scalar.ofBits (F := Ideal) .f32 0x42FC0000#32)))) B) (addf (subf (sitofp .f32 L) (broadcast S1x1x16x1x254 (Scalar.ofBits (F := Ideal) .f32 0x42FC0000#32))) (broadcast S1x1x16x1x254 (Scalar.ofBits (F := Ideal) .f32 0x3F800000#32))) (broadcast S1x1x16x1x254 (Scalar.ofBits (F := Ideal) .f32 0xFF800000#32)) = cndQ L B := by sl_kernel_rfl
/-- The largest candidate. -/
noncomputable def cmxQ (C : FVec Ideal S1x1x16x1x254 .f32) : FVec Ideal S1x1x16x1 .f32 :=
  multiReduction .maximumf [4] S1x1x16x1 C 0xFF800000#32 reduces_S1x1x16x1x254_S1x1x16x1 (.inl rfl) rfl
/-- The maximum over the candidates, of a query head. -/
theorem cmxQ_apply (C : FVec Ideal S1x1x16x1x254 .f32) (h : Fin 16) :
    cmxQ C (ix4 0 0 h 0) = Finset.univ.fold max (ofB 0xFF800000#32) fun j : Fin 254 => C (ix5 0 0 h 0 j) := by
  pointwise [cmxQ]
  try rfl
/-- The largest candidate, of a query head. -/
theorem cmxQ_cnd (A : FVec Ideal S1x1x16x1 .f32) (h : Fin 16) : cmxQ (cndQ lanQ (bndQ A)) (ix4 0 0 h 0) = candMax (A (ix4 0 0 h 0)) := by
  rw [cmxQ_apply]
  simp only [cndQ_apply]
  rfl
/-- The argument of the scale. -/
noncomputable def argQ (A : FVec Ideal S1x1x16x1 .f32) : FVec Ideal S1x1x16x1 .f32 := mulf A (broadcast S1x1x16x1 (Scalar.ofBits (F := Ideal) .f32 0x3B124925#32))
/-- The argument of the scale is the maximum over 448, of a query head. -/
theorem argQ_apply (A : FVec Ideal S1x1x16x1 .f32) (j : S1x1x16x1.Idx) : argQ A j = A j * ofB 0x3B124925#32 := by sl_kernel_rfl
/-- The exponent unless the bound is small or infinite, and zero for no magnitude. -/
noncomputable def exqQ (A M R : FVec Ideal S1x1x16x1 .f32) : FVec Ideal S1x1x16x1 .f32 :=
  select (cmpf .oeq A (broadcast S1x1x16x1 (Scalar.ofBits (F := Ideal) .f32 0x00000000#32))) (broadcast S1x1x16x1 (Scalar.ofBits (F := Ideal) .f32 0x00000000#32))
    (select (ori (cmpf .olt M (broadcast S1x1x16x1 (Scalar.ofBits (F := Ideal) .f32 0x00800000#32))) (cmpf .oeq M (broadcast S1x1x16x1 (Scalar.ofBits (F := Ideal) .f32 0x7F800000#32)))) (broadcast S1x1x16x1 (Scalar.ofBits (F := Ideal) .f32 0x00000000#32)) R)
/-- The exponent with its exceptions, of a query head. -/
theorem exqQ_apply (A M R : FVec Ideal S1x1x16x1 .f32) (j : S1x1x16x1.Idx) :
    exqQ A M R j = Scalar.select (cmpE .oeq (A j) (ofB 0x00000000#32)) (ofB 0x00000000#32)
      (Scalar.select (IntOp.ori (cmpE .olt (M j) (ofB 0x00800000#32)) (cmpE .oeq (M j) (ofB 0x7F800000#32))) (ofB 0x00000000#32) (R j)) := by sl_kernel_rfl
/-- The exponents from the largest magnitudes. -/
noncomputable def evQ (A : FVec Ideal S1x1x16x1 .f32) : FVec Ideal S1x1x16x1 .f32 := exqQ A (argQ A) (cmxQ (cndQ lanQ (bndQ (argQ A))))
/-- The exponent is that of the specification, of a query head. -/
theorem evQ_apply (A : FVec Ideal S1x1x16x1 .f32) (h : Fin 16) : evQ A (ix4 0 0 h 0) = rexp (A (ix4 0 0 h 0)) := by
  unfold evQ
  rw [exqQ_apply, cmxQ_cnd, argQ_apply]
  generalize A (ix4 0 0 h 0) = a
  unfold rexp refExp
  rw [c_zero]
/-- The largest magnitudes. -/
noncomputable def mxQ (v : FVec Ideal S8x2048x16x64 .f32) : FVec Ideal S16 .f32 := multiReduction .maximumf [0, 1, 3] S16 (absf v) 0xFF800000#32 reduces_S8x2048x16x64_S16 (.inl rfl) rfl
/-- The largest magnitudes, as the exponents take them. -/
noncomputable def mcQ (v : FVec Ideal S8x2048x16x64 .f32) : FVec Ideal S1x1x16x1 .f32 := shapeCast S1x1x16x1 (mxQ v) shapeCasts_S16_S1x1x16x1
/-- The maxima kept with unit axes, of a query head. -/
theorem mcQ_apply (v : FVec Ideal S8x2048x16x64 .f32) (h : Fin 16) : mcQ v (ix4 0 0 h 0) = mxQ v (ix1 h) := by
  unfold mcQ
  generalize mxQ v = M
  pointwise []
/-- A largest magnitude is below a bound exactly when every magnitude of the head is. -/
theorem mxQ_le (v : FVec Ideal S8x2048x16x64 .f32) (h : Fin 16) (m : EReal) : mxQ v (ix1 h) ≤ m ↔ ∀ (b : Fin 8) (s : Fin 2048) (d : Fin 64), mag (v (ix4 b s h d)) ≤ m := by
  have em : mxQ v (ix1 h) = (Finset.univ.filter fun i => reduces_S8x2048x16x64_S16.drop i = ix1 h).fold FloatOps.maximumf (FloatOps.ofBits (F := Ideal) .f32 0xFF800000#32) (absf (F := Ideal) (φ := .f32) v) :=
    multiReduction_maximumf_eq_fold (F := Ideal) (φ := .f32) (absf v) 0xFF800000#32 reduces_S8x2048x16x64_S16 (.inl rfl) rfl (ix1 h)
  rw [em]
  have hz : (FloatOps.ofBits (F := Ideal) .f32 0xFF800000#32 : EReal) ≤ m := c_bot.trans_le bot_le
  have hd : ∀ (i : S8x2048x16x64.Idx), reduces_S8x2048x16x64_S16.drop i 0 = i 2 := fun _ => rfl
  refine (Finset.fold_max_le (f := absf (F := Ideal) (φ := .f32) v) m).trans ?_
  refine ⟨fun hh b s d => hh.2 (ix4 b s h d) (Finset.mem_filter.mpr ⟨Finset.mem_univ _, funext fun a => ?_⟩), fun hh => ⟨hz, fun i hi => ?_⟩⟩
  · rw [Subsingleton.elim a 0]; exact hd _
  · have e : i 2 = h := (hd i).symm.trans (congrFun (Finset.mem_filter.mp hi).2 0)
    have e4 : ix4 (i 0) (i 1) h (i 3) = i := by
      rw [← e]
      exact eta4 i
    have := hh (i 0) (i 1) (i 3)
    exact (congrArg (fun j => mag (v j)) e4).symm.trans_le this
/-- A head's factor broadcast over its values. -/
noncomputable def bcxQ (P : FVec Ideal S1x1x16x1 .f32) : FVec Ideal S8x2048x16x64 .f32 := broadcastTo S8x2048x16x64 P broadcasts_S1x1x16x1_S8x2048x16x64
/-- A value, broadcast over the codes, of a query head. -/
theorem bcxQ_apply (P : FVec Ideal S1x1x16x1 .f32) (b : Fin 8) (s : Fin 2048) (h : Fin 16) (d : Fin 64) : bcxQ P (ix4 b s h d) = P (ix4 0 0 h 0) := by
  pointwise [bcxQ]
/-- Dropping the unit axes, of a query head. -/
theorem castQ_apply (P : FVec Ideal S1x1x16x1 .f32) (h : Fin 16) : shapeCast S16 P shapeCasts_S1x1x16x1_S16 (ix1 h) = P (ix4 0 0 h 0) := by
  pointwise []
/-- The factor from the exponents. -/
noncomputable def pwQ (E : FVec Ideal S1x1x16x1 .f32) : FVec Ideal S1x1x16x1 .f32 := fun j => pow2 (ofB 0x00000000#32 - E j)
/-- The printed operations of the power of two, of a query head. -/
theorem pwQ_eq (E : FVec Ideal S1x1x16x1 .f32) :
    select (cmpf .ogt (subf (broadcast S1x1x16x1 (Scalar.ofBits (F := Ideal) .f32 0x00000000#32)) E) (broadcast S1x1x16x1 (Scalar.ofBits (F := Ideal) .f32 0x42FE0000#32))) (broadcast S1x1x16x1 (Scalar.ofBits (F := Ideal) .f32 0x7F800000#32))
      (select (cmpf .olt (subf (broadcast S1x1x16x1 (Scalar.ofBits (F := Ideal) .f32 0x00000000#32)) E) (broadcast S1x1x16x1 (Scalar.ofBits (F := Ideal) .f32 0xC2FC0000#32))) (broadcast S1x1x16x1 (Scalar.ofBits (F := Ideal) .f32 0x00000000#32)) (exp2 (subf (broadcast S1x1x16x1 (Scalar.ofBits (F := Ideal) .f32 0x00000000#32)) E))) = pwQ E := by sl_kernel_rfl
/-- The values clipped and rounded. -/
noncomputable def clQ (v W : FVec Ideal S8x2048x16x64 .f32) : FVec Ideal S8x2048x16x64 .fp8e4m3 := fun i => clip (v i * W i)
/-- The printed operations of the codes, of a query head. -/
theorem clQ_eq (v W : FVec Ideal S8x2048x16x64 .f32) :
    truncf .fp8e4m3 (minimumf (broadcast S8x2048x16x64 (Scalar.ofBits (F := Ideal) .f32 0x43E00000#32)) (maximumf (broadcast S8x2048x16x64 (Scalar.ofBits (F := Ideal) .f32 0xC3E00000#32)) (mulf v W))) bitsLt_fp8e4m3_f32 = clQ v W := by sl_kernel_rfl
/-- The codes from the exponents. -/
noncomputable def cdQ (v : FVec Ideal S8x2048x16x64 .f32) (E : FVec Ideal S1x1x16x1 .f32) : FVec Ideal S8x2048x16x64 .fp8e4m3 := clQ v (bcxQ (pwQ E))
/-- The scales from the exponents. -/
noncomputable def scQ (E : FVec Ideal S1x1x16x1 .f32) : FVec Ideal S16 .f32 := shapeCast S16 (fun j => pow2 (E j)) shapeCasts_S1x1x16x1_S16
/-- A code is that of the specification, of a query head. -/
theorem cdQ_apply (v : FVec Ideal S8x2048x16x64 .f32) (b : Fin 8) (s : Fin 2048) (h : Fin 16) (d : Fin 64) : cdQ v (evQ (mcQ v)) (ix4 b s h d) = rq (mxQ v (ix1 h)) (v (ix4 b s h d)) := by
  unfold cdQ clQ
  rw [bcxQ_apply, pwQ, evQ_apply, mcQ_apply, rq]
/-- A scale is that of the specification, of a query head. -/
theorem scQ_apply (v : FVec Ideal S8x2048x16x64 .f32) (h : Fin 16) : scQ (evQ (mcQ v)) (ix1 h) = rs (mxQ v (ix1 h)) := by
  unfold scQ
  rw [castQ_apply, evQ_apply, mcQ_apply, rs]

/-- The printed exponents of the query heads. -/
theorem pay14_eq (v : FVec Ideal S8x2048x16x64 .f32) : k0_pay14 (F := Ideal) v = evQ (mcQ v) := by
  unfold evQ
  rw [← cndQ_eq]
  unfold k0_pay14 mcQ mxQ exqQ argQ cmxQ bndQ lanQ
  rfl
/-- The printed codes of the query heads. -/
theorem pay17_eq (v : FVec Ideal S8x2048x16x64 .f32) :
    k0_pay17 (F := Ideal) v (k0_pay15 v) (k0_pay16 v) (Scalar.ofBits .f32 0xC2FC0000#32) = cdQ v (k0_pay14 v) := by
  unfold cdQ
  rw [← pwQ_eq, ← clQ_eq]
  unfold k0_pay17 k0_pay16 k0_pay15 bcxQ
  rfl
/-- The printed scales of the query heads. -/
theorem pay18_eq (E : FVec Ideal S1x1x16x1 .f32) : k0_pay18 (F := Ideal) E = scQ E := by sl_kernel_rfl
end

end
end Cert.ReferenceIdeal.Own
-- ==== Proof.RI.HeadS.lean ====
module
public import proofs.«01_k».proof.Proof.RI.HeadQ
public import proofs.«01_k».proof.Proof.Gen.ReferenceIdeal.Frame
public import Idealize.ShloMosaic.Lib.Pointwise
open Idealize.ShloMosaic Idealize.ShloMosaic.TcCoe Cert.ReferenceIdeal Cert.ReferenceIdeal.Gen
open Cert.Spec Cert.Scale

/-!
The reference's values at an index: a head's codes and scale from its projection.
-/
namespace Cert.ReferenceIdeal.Own
@[expose] public section
set_option maxRecDepth 16384

/-! ### 1 head at a time -/
section
/-- The bound broadcast along the candidates. -/
noncomputable def bndS (A : FVec Ideal S1x1x1x1 .f32) : FVec Ideal S1x1x1x1x254 .f32 :=
  broadcastTo S1x1x1x1x254 (shapeCast S1x1x1x1x1 A shapeCasts_S1x1x1x1_S1x1x1x1x1) broadcasts_S1x1x1x1x1_S1x1x1x1x254
/-- The bound, broadcast over the candidates, of the key or value head. -/
theorem bndS_apply (A : FVec Ideal S1x1x1x1 .f32) (j : Fin 254) : bndS A (ix5 0 0 0 0 j) = A (ix4 0 0 0 0) := by
  pointwise [bndS]
/-- The lanes' numbers. -/
noncomputable def lanS : IVec S1x1x1x1x254 32 := iota .tc S1x1x1x1x254 32 [4] iota_S1x1x1x1x254_d4_w32
/-- The number of a candidate, of the key or value head. -/
theorem lanS_apply (j : Fin 254) : lanS (ix5 0 0 0 0 j) = BitVec.ofNat 32 j.val := by
  pointwise [lanS]
/-- The candidates. -/
noncomputable def cndS (L : IVec S1x1x1x1x254 32) (B : FVec Ideal S1x1x1x1x254 .f32) : FVec Ideal S1x1x1x1x254 .f32 := fun i =>
  Scalar.select (cmpE .ole (FloatOps.exp2 (F := Ideal) (φ := .f32) (FloatOps.subf (F := Ideal) (φ := .f32) (FloatOps.sitofp (F := Ideal) .f32 (L i)) (ofB 0x42FC0000#32))) (B i))
    (FloatOps.addf (F := Ideal) (φ := .f32) (FloatOps.subf (F := Ideal) (φ := .f32) (FloatOps.sitofp (F := Ideal) .f32 (L i)) (ofB 0x42FC0000#32)) (ofB 0x3F800000#32)) (ofB 0xFF800000#32)
/-- One candidate, of the key or value head: its exponent if its power is at most the bound. -/
theorem cndS_apply (A : FVec Ideal S1x1x1x1 .f32) (j : Fin 254) : cndS lanS (bndS A) (ix5 0 0 0 0 j) = cand (A (ix4 0 0 0 0)) j.val := by
  unfold cndS
  rw [lanS_apply, bndS_apply]
  rfl
/-- The printed operations of the candidates, of the key or value head. -/
theorem cndS_eq (L : IVec S1x1x1x1x254 32) (B : FVec Ideal S1x1x1x1x254 .f32) :
    select (cmpf .ole (exp2 (subf (sitofp .f32 L) (broadcast S1x1x1x1x254 (Scalar.ofBits (F := Ideal) .f32 0x42FC0000#32)))) B) (addf (subf (sitofp .f32 L) (broadcast S1x1x1x1x254 (Scalar.ofBits (F := Ideal) .f32 0x42FC0000#32))) (broadcast S1x1x1x1x254 (Scalar.ofBits (F := Ideal) .f32 0x3F800000#32))) (broadcast S1x1x1x1x254 (Scalar.ofBits (F := Ideal) .f32 0xFF800000#32)) = cndS L B := by sl_kernel_rfl
/-- The largest candidate. -/
noncomputable def cmxS (C : FVec Ideal S1x1x1x1x254 .f32) : FVec Ideal S1x1x1x1 .f32 :=
  multiReduction .maximumf [4] S1x1x1x1 C 0xFF800000#32 reduces_S1x1x1x1x254_S1x1x1x1 (.inl rfl) rfl
/-- The maximum over the candidates, of the key or value head. -/
theorem cmxS_apply (C : FVec Ideal S1x1x1x1x254 .f32) :
    cmxS C (ix4 0 0 0 0) = Finset.univ.fold max (ofB 0xFF800000#32) fun j : Fin 254 => C (ix5 0 0 0 0 j) := by
  pointwise [cmxS]
  try rfl
/-- The largest candidate, of the key or value head. -/
theorem cmxS_cnd (A : FVec Ideal S1x1x1x1 .f32) : cmxS (cndS lanS (bndS A)) (ix4 0 0 0 0) = candMax (A (ix4 0 0 0 0)) := by
  rw [cmxS_apply]
  simp only [cndS_apply]
  rfl
/-- The argument of the scale. -/
noncomputable def argS (A : FVec Ideal S1x1x1x1 .f32) : FVec Ideal S1x1x1x1 .f32 := mulf A (broadcast S1x1x1x1 (Scalar.ofBits (F := Ideal) .f32 0x3B124925#32))
/-- The argument of the scale is the maximum over 448, of the key or value head. -/
theorem argS_apply (A : FVec Ideal S1x1x1x1 .f32) (j : S1x1x1x1.Idx) : argS A j = A j * ofB 0x3B124925#32 := by sl_kernel_rfl
/-- The exponent unless the bound is small or infinite, and zero for no magnitude. -/
noncomputable def exqS (A M R : FVec Ideal S1x1x1x1 .f32) : FVec Ideal S1x1x1x1 .f32 :=
  select (cmpf .oeq A (broadcast S1x1x1x1 (Scalar.ofBits (F := Ideal) .f32 0x00000000#32))) (broadcast S1x1x1x1 (Scalar.ofBits (F := Ideal) .f32 0x00000000#32))
    (select (ori (cmpf .olt M (broadcast S1x1x1x1 (Scalar.ofBits (F := Ideal) .f32 0x00800000#32))) (cmpf .oeq M (broadcast S1x1x1x1 (Scalar.ofBits (F := Ideal) .f32 0x7F800000#32)))) (broadcast S1x1x1x1 (Scalar.ofBits (F := Ideal) .f32 0x00000000#32)) R)
/-- The exponent with its exceptions, of the key or value head. -/
theorem exqS_apply (A M R : FVec Ideal S1x1x1x1 .f32) (j : S1x1x1x1.Idx) :
    exqS A M R j = Scalar.select (cmpE .oeq (A j) (ofB 0x00000000#32)) (ofB 0x00000000#32)
      (Scalar.select (IntOp.ori (cmpE .olt (M j) (ofB 0x00800000#32)) (cmpE .oeq (M j) (ofB 0x7F800000#32))) (ofB 0x00000000#32) (R j)) := by sl_kernel_rfl
/-- The exponents from the largest magnitudes. -/
noncomputable def evS (A : FVec Ideal S1x1x1x1 .f32) : FVec Ideal S1x1x1x1 .f32 := exqS A (argS A) (cmxS (cndS lanS (bndS (argS A))))
/-- The exponent is that of the specification, of the key or value head. -/
theorem evS_apply (A : FVec Ideal S1x1x1x1 .f32) : evS A (ix4 0 0 0 0) = rexp (A (ix4 0 0 0 0)) := by
  unfold evS
  rw [exqS_apply, cmxS_cnd, argS_apply]
  generalize A (ix4 0 0 0 0) = a
  unfold rexp refExp
  rw [c_zero]
/-- The largest magnitudes. -/
noncomputable def mxS (v : FVec Ideal S8x2048x1x64 .f32) : FVec Ideal S1 .f32 := multiReduction .maximumf [0, 1, 3] S1 (absf v) 0xFF800000#32 reduces_S8x2048x1x64_S1 (.inl rfl) rfl
/-- The largest magnitudes, as the exponents take them. -/
noncomputable def mcS (v : FVec Ideal S8x2048x1x64 .f32) : FVec Ideal S1x1x1x1 .f32 := shapeCast S1x1x1x1 (mxS v) shapeCasts_S1_S1x1x1x1
/-- The maxima kept with unit axes, of the key or value head. -/
theorem mcS_apply (v : FVec Ideal S8x2048x1x64 .f32) : mcS v (ix4 0 0 0 0) = mxS v (ix1 0) := by
  unfold mcS
  generalize mxS v = M
  pointwise []
/-- A largest magnitude is below a bound exactly when every magnitude of the head is. -/
theorem mxS_le (v : FVec Ideal S8x2048x1x64 .f32) (m : EReal) : mxS v (ix1 0) ≤ m ↔ ∀ (b : Fin 8) (s : Fin 2048) (d : Fin 64), mag (v (ix4 b s 0 d)) ≤ m := by
  have em : mxS v (ix1 0) = (Finset.univ.filter fun i => reduces_S8x2048x1x64_S1.drop i = ix1 0).fold FloatOps.maximumf (FloatOps.ofBits (F := Ideal) .f32 0xFF800000#32) (absf (F := Ideal) (φ := .f32) v) :=
    multiReduction_maximumf_eq_fold (F := Ideal) (φ := .f32) (absf v) 0xFF800000#32 reduces_S8x2048x1x64_S1 (.inl rfl) rfl (ix1 0)
  rw [em]
  have hz : (FloatOps.ofBits (F := Ideal) .f32 0xFF800000#32 : EReal) ≤ m := c_bot.trans_le bot_le
  have hd : ∀ (i : S8x2048x1x64.Idx), reduces_S8x2048x1x64_S1.drop i 0 = i 2 := fun _ => rfl
  refine (Finset.fold_max_le (f := absf (F := Ideal) (φ := .f32) v) m).trans ?_
  refine ⟨fun hh b s d => hh.2 (ix4 b s 0 d) (Finset.mem_filter.mpr ⟨Finset.mem_univ _, funext fun a => ?_⟩), fun hh => ⟨hz, fun i hi => ?_⟩⟩
  · rw [Subsingleton.elim a 0]; exact hd _
  · have e4 : ix4 (i 0) (i 1) (0 : Fin 1) (i 3) = i := by
      funext k; fin_cases k
      · rfl
      · rfl
      · exact Subsingleton.elim (α := Fin 1) _ _
      · rfl
    have := hh (i 0) (i 1) (i 3)
    exact (congrArg (fun j => mag (v j)) e4).symm.trans_le this
/-- A head's factor broadcast over its values. -/
noncomputable def bcxS (P : FVec Ideal S1x1x1x1 .f32) : FVec Ideal S8x2048x1x64 .f32 := broadcastTo S8x2048x1x64 P broadcasts_S1x1x1x1_S8x2048x1x64
/-- A value, broadcast over the codes, of the key or value head. -/
theorem bcxS_apply (P : FVec Ideal S1x1x1x1 .f32) (b : Fin 8) (s : Fin 2048) (d : Fin 64) : bcxS P (ix4 b s 0 d) = P (ix4 0 0 0 0) := by
  pointwise [bcxS]
/-- Dropping the unit axes, of the key or value head. -/
theorem castS_apply (P : FVec Ideal S1x1x1x1 .f32) : shapeCast S1 P shapeCasts_S1x1x1x1_S1 (ix1 0) = P (ix4 0 0 0 0) := by
  pointwise []
/-- The factor from the exponents. -/
noncomputable def pwS (E : FVec Ideal S1x1x1x1 .f32) : FVec Ideal S1x1x1x1 .f32 := fun j => pow2 (ofB 0x00000000#32 - E j)
/-- The printed operations of the power of two, of the key or value head. -/
theorem pwS_eq (E : FVec Ideal S1x1x1x1 .f32) :
    select (cmpf .ogt (subf (broadcast S1x1x1x1 (Scalar.ofBits (F := Ideal) .f32 0x00000000#32)) E) (broadcast S1x1x1x1 (Scalar.ofBits (F := Ideal) .f32 0x42FE0000#32))) (broadcast S1x1x1x1 (Scalar.ofBits (F := Ideal) .f32 0x7F800000#32))
      (select (cmpf .olt (subf (broadcast S1x1x1x1 (Scalar.ofBits (F := Ideal) .f32 0x00000000#32)) E) (broadcast S1x1x1x1 (Scalar.ofBits (F := Ideal) .f32 0xC2FC0000#32))) (broadcast S1x1x1x1 (Scalar.ofBits (F := Ideal) .f32 0x00000000#32)) (exp2 (subf (broadcast S1x1x1x1 (Scalar.ofBits (F := Ideal) .f32 0x00000000#32)) E))) = pwS E := by sl_kernel_rfl
/-- The values clipped and rounded. -/
noncomputable def clS (v W : FVec Ideal S8x2048x1x64 .f32) : FVec Ideal S8x2048x1x64 .fp8e4m3 := fun i => clip (v i * W i)
/-- The printed operations of the codes, of the key or value head. -/
theorem clS_eq (v W : FVec Ideal S8x2048x1x64 .f32) :
    truncf .fp8e4m3 (minimumf (broadcast S8x2048x1x64 (Scalar.ofBits (F := Ideal) .f32 0x43E00000#32)) (maximumf (broadcast S8x2048x1x64 (Scalar.ofBits (F := Ideal) .f32 0xC3E00000#32)) (mulf v W))) bitsLt_fp8e4m3_f32 = clS v W := by sl_kernel_rfl
/-- The codes from the exponents. -/
noncomputable def cdS (v : FVec Ideal S8x2048x1x64 .f32) (E : FVec Ideal S1x1x1x1 .f32) : FVec Ideal S8x2048x1x64 .fp8e4m3 := clS v (bcxS (pwS E))
/-- The scales from the exponents. -/
noncomputable def scS (E : FVec Ideal S1x1x1x1 .f32) : FVec Ideal S1 .f32 := shapeCast S1 (fun j => pow2 (E j)) shapeCasts_S1x1x1x1_S1
/-- A code is that of the specification, of the key or value head. -/
theorem cdS_apply (v : FVec Ideal S8x2048x1x64 .f32) (b : Fin 8) (s : Fin 2048) (d : Fin 64) : cdS v (evS (mcS v)) (ix4 b s 0 d) = rq (mxS v (ix1 0)) (v (ix4 b s 0 d)) := by
  unfold cdS clS
  rw [bcxS_apply, pwS, evS_apply, mcS_apply, rq]
/-- A scale is that of the specification, of the key or value head. -/
theorem scS_apply (v : FVec Ideal S8x2048x1x64 .f32) : scS (evS (mcS v)) (ix1 0) = rs (mxS v (ix1 0)) := by
  unfold scS
  rw [castS_apply, evS_apply, mcS_apply, rs]

/-- The printed maximum of the key head. -/
theorem pay19_eq (v : FVec Ideal S8x2048x1x64 .f32) : k0_pay19 (F := Ideal) v = mcS v := by sl_kernel_rfl
/-- The printed exponent of the key head. -/
theorem pay24_eq (v : FVec Ideal S8x2048x1x64 .f32) : k0_pay24 (F := Ideal) (k0_pay19 v) (k0_pay20 v) (k0_pay22 v) k0_pay23 = evS (mcS v) := by
  rw [← pay19_eq]
  unfold evS
  rw [← cndS_eq]
  unfold k0_pay24 k0_pay22 k0_pay20 k0_pay23 k0_pay21 exqS argS cmxS bndS lanS
  generalize k0_pay19 (F := Ideal) v = A
  rfl
/-- The printed codes of the key head. -/
theorem pay25_eq (v : FVec Ideal S8x2048x1x64 .f32) (a b c d) :
    k0_pay25 (F := Ideal) v a b c d = cdS v (k0_pay24 a b c d) := by
  unfold cdS
  rw [← pwS_eq, ← clS_eq]
  unfold k0_pay25 bcxS
  rfl
/-- The printed scale of the key head. -/
theorem pay26_eq (a b c d) : k0_pay26 (F := Ideal) a b c d = scS (k0_pay24 a b c d) := by
  unfold k0_pay26
  generalize k0_pay24 (F := Ideal) a b c d = E
  sl_kernel_rfl
/-- The printed exponent of the value head. -/
theorem pay27_eq (v : FVec Ideal S8x2048x1x64 .f32) : k0_pay27 (F := Ideal) v = evS (mcS v) := by
  unfold evS
  rw [← cndS_eq]
  unfold k0_pay27 mcS mxS exqS argS cmxS bndS lanS
  rfl
/-- The printed codes of the value head. -/
theorem pay1_eq (v : FVec Ideal S8x2048x1x64 .f32) :
    k0_pay1 (F := Ideal) v (k0_pay29 v) (k0_pay30 v) (k0_pay31 v) (Scalar.ofBits .f32 0x00000000#32) = cdS v (k0_pay27 v) := by
  unfold cdS
  rw [← pwS_eq, ← clS_eq]
  unfold k0_pay1 k0_pay29 k0_pay30 k0_pay31 k0_pay28 bcxS
  rfl
/-- The printed scale of the value head. -/
theorem pay2_eq (E : FVec Ideal S1x1x1x1 .f32) : k0_pay2 (F := Ideal) E = scS E := by sl_kernel_rfl
/-- The key columns of the projection. -/
theorem pay12_apply (w : Vec Ideal S8x2048x1152 .f32) (b : Fin 8) (s : Fin 2048) (d : Fin 64) : k0_pay12 (F := Ideal) w (ix4 b s 0 d) = w (ix3 b s ⟨1024 + d.val, by omega⟩) := by
  pointwise [k0_pay12]
/-- The value columns of the projection. -/
theorem pay13_apply (w : Vec Ideal S8x2048x1152 .f32) (b : Fin 8) (s : Fin 2048) (d : Fin 64) : k0_pay13 (F := Ideal) w (ix4 b s 0 d) = w (ix3 b s ⟨1088 + d.val, by omega⟩) := by
  pointwise [k0_pay13]
end

end
end Cert.ReferenceIdeal.Own
-- ==== Proof.RI.Out.lean ====
module
public import proofs.«01_k».proof.Proof.RI.Row
public import proofs.«01_k».proof.Proof.RI.HeadS
public import proofs.«01_k».proof.Proof.Meet
public import Idealize.ShloMosaic.Lib.Pipeline.ValueKit
open Idealize.ShloMosaic Idealize.ShloMosaic.TcCoe Cert.ReferenceIdeal Cert.ReferenceIdeal.Gen
open Idealize.ShloMosaic.Pipeline
open Cert.Spec Cert.Scale

/-!
The reference's eight result arrays at an index, from its arguments.
-/
namespace Cert.ReferenceIdeal.Own
@[expose] public section
set_option maxRecDepth 16384

section
variable (x0 : Vec Ideal S8x2048x8192 .bf16) (x1 : Vec Ideal S8192 .bf16) (x2 : Vec Ideal S8192x1152 .fp8e4m3) (x3 : Vec Ideal S1152 .f32)

/-- The projections from the four arguments. -/
noncomputable def prR : Fin 8 → Fin 2048 → Fin 1152 → EReal :=
  pr (fun b s k => x0 (ix3 b s k)) (fun k => x1 (ix1 k)) (fun k n => x2 (ix2 k n)) (fun n => x3 (ix1 n))

/-- x is loaded whole. -/
theorem l0 : View.ld x0 r0_0 = x0 := View.ld_unit_lit _ x0 (by decide)
/-- Gamma is loaded whole. -/
theorem l1 : View.ld x1 r0_1 = x1 := View.ld_unit_lit _ x1 (by decide)
/-- The weights are loaded whole. -/
theorem l2 : View.ld x2 r0_2 = x2 := View.ld_unit_lit _ x2 (by decide)
/-- The weight scales are loaded whole. -/
theorem l3 : View.ld x3 r0_3 = x3 := View.ld_unit_lit _ x3 (by decide)
/-- The normed tokens of the run. -/
theorem p32 : k0_pay32 (F := Ideal) x0 x1 x2 x3 = k0_pay3 x0 x1 := by unfold k0_pay32; rw [l0, l1]
/-- The token maxima of the run. -/
theorem p33 : k0_pay33 (F := Ideal) x0 x1 x2 x3 = k0_pay4 x0 x1 := by unfold k0_pay33; rw [l0, l1]
/-- The token exponents of the run. -/
theorem p34 : k0_pay34 (F := Ideal) x0 x1 x2 x3 = k0_pay5 x0 x1 := by unfold k0_pay34; rw [l0, l1]
/-- The zeros of the run. -/
theorem p35 : k0_pay35 (F := Ideal) x0 x1 x2 x3 = k0_pay6 := by unfold k0_pay35; rfl
/-- Every column of every projection. -/
theorem p36 (b : Fin 8) (s : Fin 2048) (n : Fin 1152) : k0_pay36 (F := Ideal) x0 x1 x2 x3 (ix3 b s n) = prR x0 x1 x2 x3 b s n := by
  unfold k0_pay36
  rw [p32, p33, p34, p35, l2, l3, pay10_apply]
  rfl
/-- The projections of the query heads. -/
theorem p37 (b : Fin 8) (s : Fin 2048) (h : Fin 16) (d : Fin 64) :
    k0_pay37 (F := Ideal) x0 x1 x2 x3 (ix4 b s h d) = prR x0 x1 x2 x3 b s (hcol ⟨h.val, by omega⟩ d) := by
  unfold k0_pay37
  rw [p32, p33, p34, p35, l2, l3, pay11_apply]
  rfl
/-- The projections of the key head. -/
theorem p38 (b : Fin 8) (s : Fin 2048) (d : Fin 64) : k0_pay38 (F := Ideal) x0 x1 x2 x3 (ix4 b s 0 d) = prR x0 x1 x2 x3 b s (hcol 16 d) := by
  unfold k0_pay38
  rw [pay12_apply, p36]
  rfl
/-- The projections of the value head. -/
theorem p39 (b : Fin 8) (s : Fin 2048) (d : Fin 64) : k0_pay39 (F := Ideal) x0 x1 x2 x3 (ix4 b s 0 d) = prR x0 x1 x2 x3 b s (hcol 17 d) := by
  unfold k0_pay39
  rw [pay13_apply, p36]
  rfl
/-- The maximum of a query head. -/
theorem m37 (h : Fin 16) : mxQ (k0_pay37 (F := Ideal) x0 x1 x2 x3) (ix1 h) = hm (prR x0 x1 x2 x3) ⟨h.val, by omega⟩ :=
  eq_of_forall_ge_iff fun m => (mxQ_le _ h m).trans (by rw [hm_le]; simp only [p37])
/-- The maximum of the key head. -/
theorem m38 : mxS (k0_pay38 (F := Ideal) x0 x1 x2 x3) (ix1 0) = hm (prR x0 x1 x2 x3) 16 :=
  eq_of_forall_ge_iff fun m => (mxS_le _ m).trans (by rw [hm_le]; simp only [p38])
/-- The maximum of the value head. -/
theorem m39 : mxS (k0_pay39 (F := Ideal) x0 x1 x2 x3) (ix1 0) = hm (prR x0 x1 x2 x3) 17 :=
  eq_of_forall_ge_iff fun m => (mxS_le _ m).trans (by rw [hm_le]; simp only [p39])

/-- The query codes. -/
theorem o4 (b : Fin 8) (s : Fin 2048) (h : Fin 16) (d : Fin 64) :
    out0_4 (F := Ideal) x0 x1 x2 x3 (ix4 b s h d) = hq (prR x0 x1 x2 x3) ⟨h.val, by omega⟩ b s d := by
  unfold out0_4
  rw [View.canon_cons_unit_lit _ _ _ (by decide), pay17_eq, pay14_eq, cdQ_apply, m37, p37]
  rfl
/-- The query heads' scales. -/
theorem o5 (h : Fin 16) : out0_5 (F := Ideal) x0 x1 x2 x3 (ix1 h) = hs (prR x0 x1 x2 x3) ⟨h.val, by omega⟩ := by
  unfold out0_5
  rw [View.canon_cons_unit_lit _ _ _ (by decide), pay18_eq, pay14_eq, scQ_apply, m37]
  rfl
/-- The key codes. -/
theorem o6 (b : Fin 8) (s : Fin 2048) (d : Fin 64) :
    out0_6 (F := Ideal) x0 x1 x2 x3 (ix4 b s 0 d) = hq (prR x0 x1 x2 x3) 16 b s d := by
  unfold out0_6 k0_pay40 k0_pay41 k0_pay42 k0_pay43
  rw [View.canon_cons_unit_lit _ _ _ (by decide), pay25_eq, pay24_eq, cdS_apply, m38, p38]
  rfl
/-- The key head's scale. -/
theorem o7 : out0_7 (F := Ideal) x0 x1 x2 x3 (ix1 0) = hs (prR x0 x1 x2 x3) 16 := by
  unfold out0_7 k0_pay40 k0_pay41 k0_pay42 k0_pay43
  rw [View.canon_cons_unit_lit _ _ _ (by decide), pay26_eq, pay24_eq, scS_apply, m38]
  rfl
/-- The value codes. -/
theorem o8 (b : Fin 8) (s : Fin 2048) (d : Fin 64) :
    out0_8 (F := Ideal) x0 x1 x2 x3 (ix4 b s 0 d) = hq (prR x0 x1 x2 x3) 17 b s d := by
  unfold out0_8
  rw [View.canon_cons_unit_lit _ _ _ (by decide), pay1_eq, pay27_eq, cdS_apply, m39, p39]
  rfl
/-- The value head's scale. -/
theorem o9 : out0_9 (F := Ideal) x0 x1 x2 x3 (ix1 0) = hs (prR x0 x1 x2 x3) 17 := by
  unfold out0_9
  rw [View.canon_cons_unit_lit _ _ _ (by decide), pay2_eq, pay27_eq, scS_apply, m39]
  rfl
/-- The activations' codes. -/
theorem o10 (b : Fin 8) (s : Fin 2048) (k : Fin 8192) :
    out0_10 (F := Ideal) x0 x1 x2 x3 (ix3 b s k) = rowCode (fun k => x0 (ix3 b s k)) (fun k => x1 (ix1 k)) k := by
  unfold out0_10
  rw [View.canon_cons_unit_lit _ _ _ (by decide), p32, p33, p34, p35, pay8_apply]
  rfl
/-- The tokens' scales. -/
theorem o11 (b : Fin 8) (s : Fin 2048) :
    out0_11 (F := Ideal) x0 x1 x2 x3 (ix2 b s) = rowScale (fun k => x0 (ix3 b s k)) (fun k => x1 (ix1 k)) := by
  unfold out0_11
  rw [View.canon_cons_unit_lit _ _ _ (by decide), p33, p34, p35, pay9_apply]
  rfl
end

end
end Cert.ReferenceIdeal.Own
-- ==== Proof.RI.Run.lean ====
module
public import proofs.«01_k».proof.Proof.RI.Out
open Idealize.ShloMosaic Idealize.ShloMosaic.TcCoe Cert.ReferenceIdeal Cert.ReferenceIdeal.Gen
open Idealize.SL.Sem
open Cert.Spec Cert.Scale

/-!
The reference's run: its eight results in terms of its arguments, its arguments unchanged.
-/
namespace Cert.ReferenceIdeal.Own
@[expose] public section
set_option maxRecDepth 16384

section
variable (m : (ℓ : Loc nD τ sig) → Buf (Elt Ideal) ℓ) (c : Dev nD)

/-- Every window's block index at the one point. -/
theorem idxR : ∀ t : Fin cfg0.N, win0_0.index t = ![0, 0, 0] ∧ win0_1.index t = ![0] ∧ win0_2.index t = ![0, 0] ∧ win0_3.index t = ![0] :=
  (by decide +kernel : ∀ t : Fin grid0.N, _)
/-- The input block at the one point is the argument array. -/
theorem b0 : iblk (F := Ideal) m c 0 t0_0 = m ((c : Thread nD τ).loc main_arg0) := by
  blk_ext! [iblk, V, idxR t0_0]
/-- The input block at the one point is the argument array. -/
theorem b1 : iblk (F := Ideal) m c 1 t0_0 = m ((c : Thread nD τ).loc main_arg1) := by
  blk_ext! [iblk, V, idxR t0_0]
/-- The input block at the one point is the argument array. -/
theorem b2 : iblk (F := Ideal) m c 2 t0_0 = m ((c : Thread nD τ).loc main_arg2) := by
  blk_ext! [iblk, V, idxR t0_0]
/-- The input block at the one point is the argument array. -/
theorem b3 : iblk (F := Ideal) m c 3 t0_0 = m ((c : Thread nD τ).loc main_arg3) := by
  blk_ext! [iblk, V, idxR t0_0]
/-- Result 1 after the run. -/
theorem a4 : (dats (F := Ideal) m 0 c).arrAt 4 cfg0.N = T0 (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_0 (by decide +kernel) _ fun j => ?_
  blk_simp
  rw [after0_4, b0, b1, b2, b3]
  exact (congrArg _ (e4 j).symm).trans (o4 _ _ _ _ (j 0) (j 1) (j 2) (j 3))
/-- Result 2 after the run. -/
theorem a5 : (dats (F := Ideal) m 0 c).arrAt 5 cfg0.N = T1 (m ((c : Thread nD τ).loc main_arg0)) (m ((c : Thread nD τ).loc main_arg1)) (m ((c : Thread nD τ).loc main_arg2)) (m ((c : Thread nD τ).loc main_arg3)) := by
  refine (dats m 0 c).arrAt_eq_of_after_last 5 t0_0 (by decide +kernel) _ fun j => ?_
  blk_simp
  rw [after0_5, b0, b1, b2, b3]
  exact (congrArg _ (e1 j).symm).trans (o5 _ _ _ _ (j 0))
/-- Result 3 after the run. -/
theorem a6 : (dats (F := Ideal) m 0 c).arrAt 6 cfg0.N = T2 (m ((c : Thread nD τ).loc main_arg0)) (m ((c : Thread nD τ).loc main_arg1)) (m ((c : Thread nD τ).loc main_arg2)) (m ((c : Thread nD τ).loc main_arg3)) 16 := by
  refine (dats m 0 c).arrAt_eq_of_after_last 6 t0_0 (by decide +kernel) _ fun j => ?_
  blk_simp
  rw [after0_6, b0, b1, b2, b3]
  exact (congrArg _ (e4' j).symm).trans (o6 _ _ _ _ (j 0) (j 1) (j 3))
/-- Result 4 after the run. -/
theorem a7 : (dats (F := Ideal) m 0 c).arrAt 7 cfg0.N = T3 (m ((c : Thread nD τ).loc main_arg0)) (m ((c : Thread nD τ).loc main_arg1)) (m ((c : Thread nD τ).loc main_arg2)) (m ((c : Thread nD τ).loc main_arg3)) 16 := by
  refine (dats m 0 c).arrAt_eq_of_after_last 7 t0_0 (by decide +kernel) _ fun j => ?_
  blk_simp
  rw [after0_7, b0, b1, b2, b3]
  exact (congrArg _ (e1' j).symm).trans (o7 _ _ _ _)
/-- Result 5 after the run. -/
theorem a8 : (dats (F := Ideal) m 0 c).arrAt 8 cfg0.N = T2 (m ((c : Thread nD τ).loc main_arg0)) (m ((c : Thread nD τ).loc main_arg1)) (m ((c : Thread nD τ).loc main_arg2)) (m ((c : Thread nD τ).loc main_arg3)) 17 := by
  refine (dats m 0 c).arrAt_eq_of_after_last 8 t0_0 (by decide +kernel) _ fun j => ?_
  blk_simp
  rw [after0_8, b0, b1, b2, b3]
  exact (congrArg _ (e4' j).symm).trans (o8 _ _ _ _ (j 0) (j 1) (j 3))
/-- Result 6 after the run. -/
theorem a9 : (dats (F := Ideal) m 0 c).arrAt 9 cfg0.N = T3 (m ((c : Thread nD τ).loc main_arg0)) (m ((c : Thread nD τ).loc main_arg1)) (m ((c : Thread nD τ).loc main_arg2)) (m ((c : Thread nD τ).loc main_arg3)) 17 := by
  refine (dats m 0 c).arrAt_eq_of_after_last 9 t0_0 (by decide +kernel) _ fun j => ?_
  blk_simp
  rw [after0_9, b0, b1, b2, b3]
  exact (congrArg _ (e1' j).symm).trans (o9 _ _ _ _)
/-- Result 7 after the run. -/
theorem a10 : (dats (F := Ideal) m 0 c).arrAt 10 cfg0.N = T6 (m ((c : Thread nD τ).loc main_arg0)) (m ((c : Thread nD τ).loc main_arg1)) := by
  refine (dats m 0 c).arrAt_eq_of_after_last 10 t0_0 (by decide +kernel) _ fun j => ?_
  blk_simp
  rw [after0_10, b0, b1, b2, b3]
  exact (congrArg _ (e3 j).symm).trans (o10 _ _ _ _ (j 0) (j 1) (j 2))
/-- Result 8 after the run. -/
theorem a11 : (dats (F := Ideal) m 0 c).arrAt 11 cfg0.N = T7 (m ((c : Thread nD τ).loc main_arg0)) (m ((c : Thread nD τ).loc main_arg1)) := by
  refine (dats m 0 c).arrAt_eq_of_after_last 11 t0_0 (by decide +kernel) _ fun j => ?_
  blk_simp
  rw [after0_11, b0, b1, b2, b3]
  exact (congrArg _ (e2 j).symm).trans (o11 _ _ _ _ (j 0) (j 1))
end
/-- The run: the results at their values, the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = T0 (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_1) = T1 (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_2) = T2 (m ((c : Thread nD τ).loc main_arg0)) (m ((c : Thread nD τ).loc main_arg1)) (m ((c : Thread nD τ).loc main_arg2)) (m ((c : Thread nD τ).loc main_arg3)) 16
      ∧ r.2.mem ((c.tc : Thread nD τ).loc main_v0_3) = T3 (m ((c : Thread nD τ).loc main_arg0)) (m ((c : Thread nD τ).loc main_arg1)) (m ((c : Thread nD τ).loc main_arg2)) (m ((c : Thread nD τ).loc main_arg3)) 16
      ∧ r.2.mem ((c.tc : Thread nD τ).loc main_v0_4) = T2 (m ((c : Thread nD τ).loc main_arg0)) (m ((c : Thread nD τ).loc main_arg1)) (m ((c : Thread nD τ).loc main_arg2)) (m ((c : Thread nD τ).loc main_arg3)) 17
      ∧ r.2.mem ((c.tc : Thread nD τ).loc main_v0_5) = T3 (m ((c : Thread nD τ).loc main_arg0)) (m ((c : Thread nD τ).loc main_arg1)) (m ((c : Thread nD τ).loc main_arg2)) (m ((c : Thread nD τ).loc main_arg3)) 17
      ∧ r.2.mem ((c.tc : Thread nD τ).loc main_v0_6) = T6 (m ((c : Thread nD τ).loc main_arg0)) (m ((c : Thread nD τ).loc main_arg1))
      ∧ r.2.mem ((c.tc : Thread nD τ).loc main_v0_7) = T7 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 4).trans (a4 m c),
      ((h c).1 5).trans (a5 m c),
      ((h c).1 6).trans (a6 m c),
      ((h c).1 7).trans (a7 m c),
      ((h c).1 8).trans (a8 m c),
      ((h c).1 9).trans (a9 m c),
      ((h c).1 10).trans (a10 m c),
      ((h c).1 11).trans (a11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end
end Cert.ReferenceIdeal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.KB.Frame
public import proofs.«01_k».proof.Proof.KI.Frame
public import proofs.«01_k».proof.Proof.KI.Final
public import proofs.«01_k».proof.Proof.RI.Run
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

open Cert.Spec in
/-- At the ideal floats the kernel's eight results and the reference's agree. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => T0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => T1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => T2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) 16,
    fun c => T3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) 16,
    fun c => T2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) 17,
    fun c => T3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) 17,
    fun c => T6 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => T7 (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Own.run m g, (θ_run _ _ _).mono (fun r h c => ?_) (Cert.ReferenceIdeal.Own.run m' g')⟩
  obtain ⟨e0, e1, e2, e3⟩ := hagree c
  have hc := h c
  rw [e0, e1, e2, e3] at hc
  rw [e0, e1, e2, e3]
  exact hc

/-- Every claim of the certificate. -/
theorem claim : Cert.Claim := ⟨Cert.Kernel.Gen.facts, Cert.KernelIdeal.Gen.facts, Cert.ReferenceIdeal.Gen.facts,
  fun m ρ _ => Cert.Kernel.Own.frame m ρ, fun m ρ _ => Cert.KernelIdeal.Own.frame m ρ, fun m ρ _ => Cert.ReferenceIdeal.Gen.frame m ρ, trivial, algebraic⟩

end Cert.Proof

end
